-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v6_0)) (v1 : (c : Dev Cert.TailIdeal.nD) → Buf (Elt Ideal) ((c.tc : Thread Cert.TailIdeal.nD Cert.TailIdeal.τ).loc Cert.TailIdeal.main_v6_1)) (v2 : (c : Dev Cert.TailIdeal.nD) → Buf (Elt Ideal) ((c.tc : Thread Cert.TailIdeal.nD Cert.TailIdeal.τ).loc Cert.TailIdeal.main_v6_2)) (v3 : (c : Dev Cert.TailIdeal.nD) → Buf (Elt Ideal) ((c.tc : Thread Cert.TailIdeal.nD Cert.TailIdeal.τ).loc Cert.TailIdeal.main_v6_3)) (v4 : (c : Dev Cert.TailIdeal.nD) → Buf (Elt Ideal) ((c.tc : Thread Cert.TailIdeal.nD Cert.TailIdeal.τ).loc Cert.TailIdeal.main_v6_4)) (v5 : (c : Dev Cert.TailIdeal.nD) → Buf (Elt Ideal) ((c.tc : Thread Cert.TailIdeal.nD Cert.TailIdeal.τ).loc Cert.TailIdeal.main_v6_5)) (v6 : (c : Dev Cert.TailIdeal.nD) → Buf (Elt Ideal) ((c.tc : Thread Cert.TailIdeal.nD Cert.TailIdeal.τ).loc Cert.TailIdeal.main_v6_6)) (v7 : (c : Dev Cert.TailIdeal.nD) → Buf (Elt Ideal) ((c.tc : Thread Cert.TailIdeal.nD Cert.TailIdeal.τ).loc Cert.TailIdeal.main_v6_7)) (v8 : (c : Dev Cert.TailIdeal.nD) → Buf (Elt Ideal) ((c.tc : Thread Cert.TailIdeal.nD Cert.TailIdeal.τ).loc Cert.TailIdeal.main_v6_8)) (v9 : (c : Dev Cert.TailIdeal.nD) → Buf (Elt Ideal) ((c.tc : Thread Cert.TailIdeal.nD Cert.TailIdeal.τ).loc Cert.TailIdeal.main_v6_9)) (v10 : (c : Dev Cert.TailIdeal.nD) → Buf (Elt Ideal) ((c.tc : Thread Cert.TailIdeal.nD Cert.TailIdeal.τ).loc Cert.TailIdeal.main_v6_10)) (v11 : (c : Dev Cert.TailIdeal.nD) → Buf (Elt Ideal) ((c.tc : Thread Cert.TailIdeal.nD Cert.TailIdeal.τ).loc Cert.TailIdeal.main_v6_11)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6_0) = v0 c
          ∧ r.2.mem ((c.tc : Thread Cert.TailIdeal.nD Cert.TailIdeal.τ).loc Cert.TailIdeal.main_v6_1) = v1 c
          ∧ r.2.mem ((c.tc : Thread Cert.TailIdeal.nD Cert.TailIdeal.τ).loc Cert.TailIdeal.main_v6_2) = v2 c
          ∧ r.2.mem ((c.tc : Thread Cert.TailIdeal.nD Cert.TailIdeal.τ).loc Cert.TailIdeal.main_v6_3) = v3 c
          ∧ r.2.mem ((c.tc : Thread Cert.TailIdeal.nD Cert.TailIdeal.τ).loc Cert.TailIdeal.main_v6_4) = v4 c
          ∧ r.2.mem ((c.tc : Thread Cert.TailIdeal.nD Cert.TailIdeal.τ).loc Cert.TailIdeal.main_v6_5) = v5 c
          ∧ r.2.mem ((c.tc : Thread Cert.TailIdeal.nD Cert.TailIdeal.τ).loc Cert.TailIdeal.main_v6_6) = v6 c
          ∧ r.2.mem ((c.tc : Thread Cert.TailIdeal.nD Cert.TailIdeal.τ).loc Cert.TailIdeal.main_v6_7) = v7 c
          ∧ r.2.mem ((c.tc : Thread Cert.TailIdeal.nD Cert.TailIdeal.τ).loc Cert.TailIdeal.main_v6_8) = v8 c
          ∧ r.2.mem ((c.tc : Thread Cert.TailIdeal.nD Cert.TailIdeal.τ).loc Cert.TailIdeal.main_v6_9) = v9 c
          ∧ r.2.mem ((c.tc : Thread Cert.TailIdeal.nD Cert.TailIdeal.τ).loc Cert.TailIdeal.main_v6_10) = v10 c
          ∧ r.2.mem ((c.tc : Thread Cert.TailIdeal.nD Cert.TailIdeal.τ).loc Cert.TailIdeal.main_v6_11) = v11 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v6_0) = v0 c
          ∧ r.2.mem ((c.tc : Thread Cert.TailRefIdeal.nD Cert.TailRefIdeal.τ).loc Cert.TailRefIdeal.main_v6_1) = v1 c
          ∧ r.2.mem ((c.tc : Thread Cert.TailRefIdeal.nD Cert.TailRefIdeal.τ).loc Cert.TailRefIdeal.main_v6_2) = v2 c
          ∧ r.2.mem ((c.tc : Thread Cert.TailRefIdeal.nD Cert.TailRefIdeal.τ).loc Cert.TailRefIdeal.main_v6_3) = v3 c
          ∧ r.2.mem ((c.tc : Thread Cert.TailRefIdeal.nD Cert.TailRefIdeal.τ).loc Cert.TailRefIdeal.main_v6_4) = v4 c
          ∧ r.2.mem ((c.tc : Thread Cert.TailRefIdeal.nD Cert.TailRefIdeal.τ).loc Cert.TailRefIdeal.main_v6_5) = v5 c
          ∧ r.2.mem ((c.tc : Thread Cert.TailRefIdeal.nD Cert.TailRefIdeal.τ).loc Cert.TailRefIdeal.main_v6_6) = v6 c
          ∧ r.2.mem ((c.tc : Thread Cert.TailRefIdeal.nD Cert.TailRefIdeal.τ).loc Cert.TailRefIdeal.main_v6_7) = v7 c
          ∧ r.2.mem ((c.tc : Thread Cert.TailRefIdeal.nD Cert.TailRefIdeal.τ).loc Cert.TailRefIdeal.main_v6_8) = v8 c
          ∧ r.2.mem ((c.tc : Thread Cert.TailRefIdeal.nD Cert.TailRefIdeal.τ).loc Cert.TailRefIdeal.main_v6_9) = v9 c
          ∧ r.2.mem ((c.tc : Thread Cert.TailRefIdeal.nD Cert.TailRefIdeal.τ).loc Cert.TailRefIdeal.main_v6_10) = v10 c
          ∧ r.2.mem ((c.tc : Thread Cert.TailRefIdeal.nD Cert.TailRefIdeal.τ).loc Cert.TailRefIdeal.main_v6_11) = v11 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)) (v2 : (c : Dev Cert.InProjIdeal.nD) → Buf (Elt Ideal) ((c.tc : Thread Cert.InProjIdeal.nD Cert.InProjIdeal.τ).loc Cert.InProjIdeal.main_v8_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_v8_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3_0) = v0 c
          ∧ r.2.mem ((c.tc : Thread Cert.InProjRefIdeal.nD Cert.InProjRefIdeal.τ).loc Cert.InProjRefIdeal.main_v3_1) = v1 c
          ∧ r.2.mem ((c.tc : Thread Cert.InProjRefIdeal.nD Cert.InProjRefIdeal.τ).loc Cert.InProjRefIdeal.main_v3_2) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def Claim : Prop :=
  ∃ (hTail : Cert.Tail.Facts) (hTailIdeal : Cert.TailIdeal.Facts) (hTailRefIdeal : Cert.TailRefIdeal.Facts) (hInProj : Cert.InProj.Facts) (hInProjIdeal : Cert.InProjIdeal.Facts) (hInProjRefIdeal : Cert.InProjRefIdeal.Facts),
    quiescent_Tail (hTail := hTail)
    ∧ quiescent_TailIdeal (hTailIdeal := hTailIdeal)
    ∧ quiescent_TailRefIdeal (hTailRefIdeal := hTailRefIdeal)
    ∧ quiescent_InProj (hInProj := hInProj)
    ∧ quiescent_InProjIdeal (hInProjIdeal := hInProjIdeal)
    ∧ quiescent_InProjRefIdeal (hInProjRefIdeal := hInProjRefIdeal)
    ∧ preserves_Tail_TailIdeal
    ∧ algebraic_TailIdeal_TailRefIdeal (hTailIdeal := hTailIdeal) (hTailRefIdeal := hTailRefIdeal)
    ∧ preserves_InProj_InProjIdeal
    ∧ algebraic_InProjIdeal_InProjRefIdeal (hInProjIdeal := hInProjIdeal) (hInProjRefIdeal := hInProjRefIdeal)
-- ==== Tail.lean ====
abbrev S248x1x2048 : Shape := ⟨3, ![248, 1, 2048]⟩
abbrev S248x3072 : Shape := ⟨2, ![248, 3072]⟩
abbrev S3072x2048 : Shape := ⟨2, ![3072, 2048]⟩
abbrev S2048 : Shape := ⟨1, ![2048]⟩
abbrev S2048x5632 : Shape := ⟨2, ![2048, 5632]⟩
abbrev S5632 : Shape := ⟨1, ![5632]⟩
abbrev S5632x2048 : Shape := ⟨2, ![5632, 2048]⟩
abbrev S248x2048 : Shape := ⟨2, ![248, 2048]⟩
abbrev S1x2048 : Shape := ⟨2, ![1, 2048]⟩
abbrev S1x5632 : Shape := ⟨2, ![1, 5632]⟩
abbrev S248x1x3072 : Shape := ⟨3, ![248, 1, 3072]⟩
abbrev S1x248 : Shape := ⟨2, ![1, 248]⟩
abbrev S248x1x5632 : Shape := ⟨3, ![248, 1, 5632]⟩
abbrev S248x5632 : Shape := ⟨2, ![248, 5632]⟩
abbrev S248x512 : Shape := ⟨2, ![248, 512]⟩
abbrev S3072x512 : Shape := ⟨2, ![3072, 512]⟩
abbrev S1x512 : Shape := ⟨2, ![1, 512]⟩
abbrev S2048x512 : Shape := ⟨2, ![2048, 512]⟩
abbrev S5632x512 : Shape := ⟨2, ![5632, 512]⟩
abbrev S248x1x512 : Shape := ⟨3, ![248, 1, 512]⟩
abbrev S248x128 : Shape := ⟨2, ![248, 128]⟩
abbrev S4x248x512 : Shape := ⟨3, ![4, 248, 512]⟩
abbrev S11x248x512 : Shape := ⟨3, ![11, 248, 512]⟩
abbrev S248 : Shape := ⟨1, ![248]⟩
abbrev S248x1 : Shape := ⟨2, ![248, 1]⟩
abbrev S128x248 : Shape := ⟨2, ![128, 248]⟩
abbrev S1x248x512 : Shape := ⟨3, ![1, 248, 512]⟩

abbrev nBuf : Space → Nat
  | .hbm => 29
  | .vmem => 40
  | .smem => 0
  | _ => 0

abbrev bufTy : (tb : Table) → Fin (tcTables nBuf tb) → BufTy
  | .hbm, ⟨0, _⟩ => ⟨S248x1x2048, .bf16⟩
  | .hbm, ⟨1, _⟩ => ⟨S248x3072, .f32⟩
  | .hbm, ⟨2, _⟩ => ⟨S3072x2048, .fp8e4m3⟩
  | .hbm, ⟨3, _⟩ => ⟨S2048, .f32⟩
  | .hbm, ⟨4, _⟩ => ⟨S2048, .f32⟩
  | .hbm, ⟨5, _⟩ => ⟨S2048x5632, .fp8e4m3⟩
  | .hbm, ⟨6, _⟩ => ⟨S5632, .f32⟩
  | .hbm, ⟨7, _⟩ => ⟨S2048x5632, .fp8e4m3⟩
  | .hbm, ⟨8, _⟩ => ⟨S5632, .f32⟩
  | .hbm, ⟨9, _⟩ => ⟨S5632x2048, .fp8e4m3⟩
  | .hbm, ⟨10, _⟩ => ⟨S2048, .f32⟩
  | .hbm, ⟨11, _⟩ => ⟨S248x2048, .bf16⟩
  | .hbm, ⟨12, _⟩ => ⟨S1x2048, .f32⟩
  | .hbm, ⟨13, _⟩ => ⟨S1x2048, .f32⟩
  | .hbm, ⟨14, _⟩ => ⟨S1x5632, .f32⟩
  | .hbm, ⟨15, _⟩ => ⟨S1x5632, .f32⟩
  | .hbm, ⟨16, _⟩ => ⟨S1x2048, .f32⟩
  | .hbm, ⟨17, _⟩ => ⟨S248x2048, .bf16⟩
  | .hbm, ⟨18, _⟩ => ⟨S248x1x3072, .f32⟩
  | .hbm, ⟨19, _⟩ => ⟨S248x3072, .fp8e4m3⟩
  | .hbm, ⟨20, _⟩ => ⟨S1x248, .f32⟩
  | .hbm, ⟨21, _⟩ => ⟨S248x1x2048, .f32⟩
  | .hbm, ⟨22, _⟩ => ⟨S248x2048, .fp8e4m3⟩
  | .hbm, ⟨23, _⟩ => ⟨S1x248, .f32⟩
  | .hbm, ⟨24, _⟩ => ⟨S248x1x5632, .f32⟩
  | .hbm, ⟨25, _⟩ => ⟨S248x1x5632, .f32⟩
  | .hbm, ⟨26, _⟩ => ⟨S248x5632, .fp8e4m3⟩
  | .hbm, ⟨27, _⟩ => ⟨S1x248, .f32⟩
  | .hbm, ⟨28, _⟩ => ⟨S248x1x2048, .f32⟩
  | .local _ .vmem, ⟨0, _⟩ => ⟨S248x512, .bf16⟩
  | .local _ .vmem, ⟨1, _⟩ => ⟨S248x512, .bf16⟩
  | .local _ .vmem, ⟨2, _⟩ => ⟨S248x3072, .f32⟩
  | .local _ .vmem, ⟨3, _⟩ => ⟨S3072x512, .fp8e4m3⟩
  | .local _ .vmem, ⟨4, _⟩ => ⟨S3072x512, .fp8e4m3⟩
  | .local _ .vmem, ⟨5, _⟩ => ⟨S1x512, .f32⟩
  | .local _ .vmem, ⟨6, _⟩ => ⟨S1x512, .f32⟩
  | .local _ .vmem, ⟨7, _⟩ => ⟨S1x2048, .f32⟩
  | .local _ .vmem, ⟨8, _⟩ => ⟨S2048x512, .fp8e4m3⟩
  | .local _ .vmem, ⟨9, _⟩ => ⟨S2048x512, .fp8e4m3⟩
  | .local _ .vmem, ⟨10, _⟩ => ⟨S1x512, .f32⟩
  | .local _ .vmem, ⟨11, _⟩ => ⟨S1x512, .f32⟩
  | .local _ .vmem, ⟨12, _⟩ => ⟨S2048x512, .fp8e4m3⟩
  | .local _ .vmem, ⟨13, _⟩ => ⟨S2048x512, .fp8e4m3⟩
  | .local _ .vmem, ⟨14, _⟩ => ⟨S1x512, .f32⟩
  | .local _ .vmem, ⟨15, _⟩ => ⟨S1x512, .f32⟩
  | .local _ .vmem, ⟨16, _⟩ => ⟨S5632x512, .fp8e4m3⟩
  | .local _ .vmem, ⟨17, _⟩ => ⟨S5632x512, .fp8e4m3⟩
  | .local _ .vmem, ⟨18, _⟩ => ⟨S1x512, .f32⟩
  | .local _ .vmem, ⟨19, _⟩ => ⟨S1x512, .f32⟩
  | .local _ .vmem, ⟨20, _⟩ => ⟨S248x512, .bf16⟩
  | .local _ .vmem, ⟨21, _⟩ => ⟨S248x512, .bf16⟩
  | .local _ .vmem, ⟨22, _⟩ => ⟨S248x1x3072, .f32⟩
  | .local _ .vmem, ⟨23, _⟩ => ⟨S248x3072, .fp8e4m3⟩
  | .local _ .vmem, ⟨24, _⟩ => ⟨S1x248, .f32⟩
  | .local _ .vmem, ⟨25, _⟩ => ⟨S248x1x512, .f32⟩
  | .local _ .vmem, ⟨26, _⟩ => ⟨S248x1x512, .f32⟩
  | .local _ .vmem, ⟨27, _⟩ => ⟨S248x2048, .fp8e4m3⟩
  | .local _ .vmem, ⟨28, _⟩ => ⟨S1x248, .f32⟩
  | .local _ .vmem, ⟨29, _⟩ => ⟨S248x1x512, .f32⟩
  | .local _ .vmem, ⟨30, _⟩ => ⟨S248x1x512, .f32⟩
  | .local _ .vmem, ⟨31, _⟩ => ⟨S248x1x512, .f32⟩
  | .local _ .vmem, ⟨32, _⟩ => ⟨S248x1x512, .f32⟩
  | .local _ .vmem, ⟨33, _⟩ => ⟨S248x5632, .fp8e4m3⟩
  | .local _ .vmem, ⟨34, _⟩ => ⟨S1x248, .f32⟩
  | .local _ .vmem, ⟨35, _⟩ => ⟨S248x1x512, .f32⟩
  | .local _ .vmem, ⟨36, _⟩ => ⟨S248x1x512, .f32⟩
  | .local _ .vmem, ⟨37, _⟩ => ⟨S248x128, .f32⟩
  | .local _ .vmem, ⟨38, _⟩ => ⟨S4x248x512, .f32⟩
  | .local _ .vmem, ⟨39, _⟩ => ⟨S11x248x512, .f32⟩
  | _, _ => ⟨S248x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev main_v6_7 : Ref sig .tc := ⟨.hbm, 24, rfl⟩
abbrev main_v6_8 : Ref sig .tc := ⟨.hbm, 25, rfl⟩
abbrev main_v6_9 : Ref sig .tc := ⟨.hbm, 26, rfl⟩
abbrev main_v6_10 : Ref sig .tc := ⟨.hbm, 27, rfl⟩
abbrev main_v6_11 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg22_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem21_0 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v38 : Index := Scalar.indexCast arg0
  let c0_22 : Index := 0#32
  let c0_23 : Index := 0#32
  ![v38.toNat, 0, 0]
def k0_cond4 (i : grid0.Coords) : BitVec 1 :=
  let arg0 : BitVec 32 := BitVec.ofNat 32 (i 0).val
  let c4_i32_4 : BitVec 32 := 4#32
  let v9 : BitVec 1 := Scalar.cmpi .sge arg0 c4_i32_4
  let c15_i32 : BitVec 32 := 15#32
  let v10 : BitVec 1 := Scalar.cmpi .slt arg0 c15_i32
  let v11 : BitVec 1 := Scalar.andi v9 v10
  let v12 : BitVec 32 := Scalar.extui v11
  let c0_i32_5 : BitVec 32 := 0#32
  let v13 : BitVec 1 := Scalar.cmpi .ne v12 c0_i32_5
  v13

def k0_off2 (i : grid0.Coords) : Fin 3 → Nat :=
  let arg0 : BitVec 32 := BitVec.ofNat 32 (i 0).val
  let c4_i32_30 : BitVec 32 := 4#32
  let v49 : BitVec 32 := Scalar.subi arg0 c4_i32_30
  let v50 : Index := Scalar.indexCast v49
  let c0_31 : Index := 0#32
  let c0_32 : Index := 0#32
  ![v50.toNat, 0, 0]
def k0_cond6 (i : grid0.Coords) : BitVec 1 :=
  let arg0 : BitVec 32 := BitVec.ofNat 32 (i 0).val
  let c15_i32_8 : BitVec 32 := 15#32
  let v17 : BitVec 1 := Scalar.cmpi .sge arg0 c15_i32_8
  let v18 : BitVec 32 := Scalar.extui v17
  let c0_i32_9 : BitVec 32 := 0#32
  let v19 : BitVec 1 := Scalar.cmpi .ne v18 c0_i32_9
  v19

def k0_off3 (i : grid0.Coords) : Fin 3 → Nat :=
  let arg0 : BitVec 32 := BitVec.ofNat 32 (i 0).val
  let c4_i32_20 : BitVec 32 := 4#32
  let v34 : BitVec 32 := Scalar.subi arg0 c4_i32_20
  let c11_i32 : BitVec 32 := 11#32
  let v35 : BitVec 32 := Scalar.subi v34 c11_i32
  let v36 : Index := Scalar.indexCast v35
  let c0_21 : Index := 0#32
  let c0_22 : Index := 0#32
  ![v36.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c4_i32_2 : BitVec 32 := 4#32
  let v6 : BitVec 1 := Scalar.cmpi .eq arg0 c4_i32_2
  let v7 : BitVec 32 := Scalar.extui v6
  let c0_i32_3 : BitVec 32 := 0#32
  let v8 : BitVec 1 := Scalar.cmpi .ne v7 c0_i32_3
  v8

def k0_cond5 (i : grid0.Coords) : BitVec 1 :=
  let arg0 : BitVec 32 := BitVec.ofNat 32 (i 0).val
  let c15_i32_6 : BitVec 32 := 15#32
  let v14 : BitVec 1 := Scalar.cmpi .eq arg0 c15_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_9 (i : grid0.Coords) : Fin 2 → Nat :=
  let arg0 : BitVec 32 := BitVec.ofNat 32 (i 0).val
  let c4_i32 : BitVec 32 := 4#32
  let v0 : BitVec 32 := Scalar.subi arg0 c4_i32
  let c11_i32 : BitVec 32 := 11#32
  let v1 : BitVec 32 := Scalar.subi v0 c11_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![c0_i32_0.toNat, v3.toNat]

def cc0_transform_10 (i : grid0.Coords) : Fin 2 → Nat :=
  let arg0 : BitVec 32 := BitVec.ofNat 32 (i 0).val
  let c4_i32 : BitVec 32 := 4#32
  let v0 : BitVec 32 := Scalar.subi arg0 c4_i32
  let c11_i32 : BitVec 32 := 11#32
  let v1 : BitVec 32 := Scalar.subi v0 c11_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![c0_i32_0.toNat, v3.toNat]

def cc0_transform_11 (i : grid0.Coords) : Fin 2 → Nat :=
  let arg0 : BitVec 32 := BitVec.ofNat 32 (i 0).val
  let c4_i32 : BitVec 32 := 4#32
  let v0 : BitVec 32 := Scalar.subi arg0 c4_i32
  let c11_i32 : BitVec 32 := 11#32
  let v1 : BitVec 32 := Scalar.subi v0 c11_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![c0_i32_0.toNat, v3.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, c0_i32_0.toNat, v0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  let c0_i32_2 : BitVec 32 := 0#32
  ![c0_i32_0.toNat, c0_i32_1.toNat, v2.toNat]

def cc0_transform_19 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  let c0_i32_2 : BitVec 32 := 0#32
  ![c0_i32_0.toNat, c0_i32_1.toNat, v2.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c4_i32 : BitVec 32 := 4#32
  let v0 : BitVec 32 := Scalar.subi arg0 c4_i32
  let c11_i32 : BitVec 32 := 11#32
  let v1 : BitVec 32 := Scalar.subi v0 c11_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  let c0_i32_2 : BitVec 32 := 0#32
  ![c0_i32_0.toNat, c0_i32_1.toNat, v3.toNat]

abbrev stage0_0 : Fin 2 → Memref sig .tc .vmem S248x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S248x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5632x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S248x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S248x1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S248x3072 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x248 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S248x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S248x2048 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x248 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S248x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S248x1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S248x5632 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x248 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S248x1x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== TailRefIdeal.lean ====
abbrev S248x1x2048 : Shape := ⟨3, ![248, 1, 2048]⟩
abbrev S248x3072 : Shape := ⟨2, ![248, 3072]⟩
abbrev S3072x2048 : Shape := ⟨2, ![3072, 2048]⟩
abbrev S2048 : Shape := ⟨1, ![2048]⟩
abbrev S2048x5632 : Shape := ⟨2, ![2048, 5632]⟩
abbrev S5632 : Shape := ⟨1, ![5632]⟩
abbrev S5632x2048 : Shape := ⟨2, ![5632, 2048]⟩
abbrev S248x2048 : Shape := ⟨2, ![248, 2048]⟩
abbrev S1x2048 : Shape := ⟨2, ![1, 2048]⟩
abbrev S1x5632 : Shape := ⟨2, ![1, 5632]⟩
abbrev S248x1x3072 : Shape := ⟨3, ![248, 1, 3072]⟩
abbrev S1x248 : Shape := ⟨2, ![1, 248]⟩
abbrev S248x1x5632 : Shape := ⟨3, ![248, 1, 5632]⟩
abbrev S248x5632 : Shape := ⟨2, ![248, 5632]⟩
abbrev S248 : Shape := ⟨1, ![248]⟩
abbrev S248x1 : Shape := ⟨2, ![248, 1]⟩

abbrev nBuf : Space → Nat
  | .hbm => 29
  | .vmem => 23
  | .smem => 0
  | _ => 0

abbrev bufTy : (tb : Table) → Fin (tcTables nBuf tb) → BufTy
  | .hbm, ⟨0, _⟩ => ⟨S248x1x2048, .bf16⟩
  | .hbm, ⟨1, _⟩ => ⟨S248x3072, .f32⟩
  | .hbm, ⟨2, _⟩ => ⟨S3072x2048, .fp8e4m3⟩
  | .hbm, ⟨3, _⟩ => ⟨S2048, .f32⟩
  | .hbm, ⟨4, _⟩ => ⟨S2048, .f32⟩
  | .hbm, ⟨5, _⟩ => ⟨S2048x5632, .fp8e4m3⟩
  | .hbm, ⟨6, _⟩ => ⟨S5632, .f32⟩
  | .hbm, ⟨7, _⟩ => ⟨S2048x5632, .fp8e4m3⟩
  | .hbm, ⟨8, _⟩ => ⟨S5632, .f32⟩
  | .hbm, ⟨9, _⟩ => ⟨S5632x2048, .fp8e4m3⟩
  | .hbm, ⟨10, _⟩ => ⟨S2048, .f32⟩
  | .hbm, ⟨11, _⟩ => ⟨S248x2048, .bf16⟩
  | .hbm, ⟨12, _⟩ => ⟨S1x2048, .f32⟩
  | .hbm, ⟨13, _⟩ => ⟨S1x2048, .f32⟩
  | .hbm, ⟨14, _⟩ => ⟨S1x5632, .f32⟩
  | .hbm, ⟨15, _⟩ => ⟨S1x5632, .f32⟩
  | .hbm, ⟨16, _⟩ => ⟨S1x2048, .f32⟩
  | .hbm, ⟨17, _⟩ => ⟨S248x2048, .bf16⟩
  | .hbm, ⟨18, _⟩ => ⟨S248x1x3072, .f32⟩
  | .hbm, ⟨19, _⟩ => ⟨S248x3072, .fp8e4m3⟩
  | .hbm, ⟨20, _⟩ => ⟨S1x248, .f32⟩
  | .hbm, ⟨21, _⟩ => ⟨S248x1x2048, .f32⟩
  | .hbm, ⟨22, _⟩ => ⟨S248x2048, .fp8e4m3⟩
  | .hbm, ⟨23, _⟩ => ⟨S1x248, .f32⟩
  | .hbm, ⟨24, _⟩ => ⟨S248x1x5632, .f32⟩
  | .hbm, ⟨25, _⟩ => ⟨S248x1x5632, .f32⟩
  | .hbm, ⟨26, _⟩ => ⟨S248x5632, .fp8e4m3⟩
  | .hbm, ⟨27, _⟩ => ⟨S1x248, .f32⟩
  | .hbm, ⟨28, _⟩ => ⟨S248x1x2048, .f32⟩
  | .local _ .vmem, ⟨0, _⟩ => ⟨S248x2048, .bf16⟩
  | .local _ .vmem, ⟨1, _⟩ => ⟨S248x3072, .f32⟩
  | .local _ .vmem, ⟨2, _⟩ => ⟨S3072x2048, .fp8e4m3⟩
  | .local _ .vmem, ⟨3, _⟩ => ⟨S1x2048, .f32⟩
  | .local _ .vmem, ⟨4, _⟩ => ⟨S1x2048, .f32⟩
  | .local _ .vmem, ⟨5, _⟩ => ⟨S2048x5632, .fp8e4m3⟩
  | .local _ .vmem, ⟨6, _⟩ => ⟨S1x5632, .f32⟩
  | .local _ .vmem, ⟨7, _⟩ => ⟨S2048x5632, .fp8e4m3⟩
  | .local _ .vmem, ⟨8, _⟩ => ⟨S1x5632, .f32⟩
  | .local _ .vmem, ⟨9, _⟩ => ⟨S5632x2048, .fp8e4m3⟩
  | .local _ .vmem, ⟨10, _⟩ => ⟨S1x2048, .f32⟩
  | .local _ .vmem, ⟨11, _⟩ => ⟨S248x2048, .bf16⟩
  | .local _ .vmem, ⟨12, _⟩ => ⟨S248x1x3072, .f32⟩
  | .local _ .vmem, ⟨13, _⟩ => ⟨S248x3072, .fp8e4m3⟩
  | .local _ .vmem, ⟨14, _⟩ => ⟨S1x248, .f32⟩
  | .local _ .vmem, ⟨15, _⟩ => ⟨S248x1x2048, .f32⟩
  | .local _ .vmem, ⟨16, _⟩ => ⟨S248x2048, .fp8e4m3⟩
  | .local _ .vmem, ⟨17, _⟩ => ⟨S1x248, .f32⟩
  | .local _ .vmem, ⟨18, _⟩ => ⟨S248x1x5632, .f32⟩
  | .local _ .vmem, ⟨19, _⟩ => ⟨S248x1x5632, .f32⟩
  | .local _ .vmem, ⟨20, _⟩ => ⟨S248x5632, .fp8e4m3⟩
  | .local _ .vmem, ⟨21, _⟩ => ⟨S1x248, .f32⟩
  | .local _ .vmem, ⟨22, _⟩ => ⟨S248x1x2048, .f32⟩
  | _, _ => ⟨S248x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev main_v6_7 : Ref sig .tc := ⟨.hbm, 24, rfl⟩
abbrev main_v6_8 : Ref sig .tc := ⟨.hbm, 25, rfl⟩
abbrev main_v6_9 : Ref sig .tc := ⟨.hbm, 26, rfl⟩
abbrev main_v6_10 : Ref sig .tc := ⟨.hbm, 27, rfl⟩
abbrev main_v6_11 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S248x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S248x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5632 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5632 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5632x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S248x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S248x1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S248x3072 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x248 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S248x1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S248x2048 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x248 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S248x1x5632 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S248x1x5632 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S248x5632 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x248 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S248x1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== InProj.lean ====
abbrev S248x1x2048 : Shape := ⟨3, ![248, 1, 2048]⟩
abbrev S2048 : Shape := ⟨1, ![2048]⟩
abbrev S2048x8416 : Shape := ⟨2, ![2048, 8416]⟩
abbrev S8416 : Shape := ⟨1, ![8416]⟩
abbrev S128 : Shape := ⟨1, ![128]⟩
abbrev S48 : Shape := ⟨1, ![48]⟩
abbrev S248x2048 : Shape := ⟨2, ![248, 2048]⟩
abbrev S1x2048 : Shape := ⟨2, ![1, 2048]⟩
abbrev S8416x2048 : Shape := ⟨2, ![8416, 2048]⟩
abbrev S1x8416 : Shape := ⟨2, ![1, 8416]⟩
abbrev S1x128 : Shape := ⟨2, ![1, 128]⟩
abbrev S48x1 : Shape := ⟨2, ![48, 1]⟩
abbrev S1x248 : Shape := ⟨2, ![1, 248]⟩
abbrev S248x1x8416 : Shape := ⟨3, ![248, 1, 8416]⟩
abbrev S248x6144 : Shape := ⟨2, ![248, 6144]⟩
abbrev S3072x248 : Shape := ⟨2, ![3072, 248]⟩
abbrev S248x1024 : Shape := ⟨2, ![248, 1024]⟩
abbrev S128x248 : Shape := ⟨2, ![128, 248]⟩
abbrev S48x248 : Shape := ⟨2, ![48, 248]⟩
abbrev S512x2048 : Shape := ⟨2, ![512, 2048]⟩
abbrev S1x512 : Shape := ⟨2, ![1, 512]⟩
abbrev S248x1x512 : Shape := ⟨3, ![248, 1, 512]⟩
abbrev S248x512 : Shape := ⟨2, ![248, 512]⟩
abbrev S512x248 : Shape := ⟨2, ![512, 248]⟩
abbrev S248x128 : Shape := ⟨2, ![248, 128]⟩
abbrev S248 : Shape := ⟨1, ![248]⟩
abbrev S248x1 : Shape := ⟨2, ![248, 1]⟩
abbrev S248x256 : Shape := ⟨2, ![248, 256]⟩
abbrev S256x248 : Shape := ⟨2, ![256, 248]⟩

abbrev nBuf : Space → Nat
  | .hbm => 28
  | .vmem => 29
  | .smem => 0
  | _ => 0

abbrev bufTy : (tb : Table) → Fin (tcTables nBuf tb) → BufTy
  | .hbm, ⟨0, _⟩ => ⟨S248x1x2048, .bf16⟩
  | .hbm, ⟨1, _⟩ => ⟨S2048, .f32⟩
  | .hbm, ⟨2, _⟩ => ⟨S2048x8416, .fp8e4m3⟩
  | .hbm, ⟨3, _⟩ => ⟨S8416, .f32⟩
  | .hbm, ⟨4, _⟩ => ⟨S128, .f32⟩
  | .hbm, ⟨5, _⟩ => ⟨S128, .f32⟩
  | .hbm, ⟨6, _⟩ => ⟨S48, .f32⟩
  | .hbm, ⟨7, _⟩ => ⟨S48, .f32⟩
  | .hbm, ⟨8, _⟩ => ⟨S248x2048, .bf16⟩
  | .hbm, ⟨9, _⟩ => ⟨S1x2048, .f32⟩
  | .hbm, ⟨10, _⟩ => ⟨S8416x2048, .fp8e4m3⟩
  | .hbm, ⟨11, _⟩ => ⟨S1x8416, .f32⟩
  | .hbm, ⟨12, _⟩ => ⟨S1x128, .f32⟩
  | .hbm, ⟨13, _⟩ => ⟨S1x128, .f32⟩
  | .hbm, ⟨14, _⟩ => ⟨S48x1, .f32⟩
  | .hbm, ⟨15, _⟩ => ⟨S48x1, .f32⟩
  | .hbm, ⟨16, _⟩ => ⟨S248x2048, .fp8e4m3⟩
  | .hbm, ⟨17, _⟩ => ⟨S1x248, .f32⟩
  | .hbm, ⟨18, _⟩ => ⟨S248x1x8416, .f32⟩
  | .hbm, ⟨19, _⟩ => ⟨S248x6144, .f32⟩
  | .hbm, ⟨20, _⟩ => ⟨S3072x248, .f32⟩
  | .hbm, ⟨21, _⟩ => ⟨S248x1024, .f32⟩
  | .hbm, ⟨22, _⟩ => ⟨S248x1024, .f32⟩
  | .hbm, ⟨23, _⟩ => ⟨S128x248, .f32⟩
  | .hbm, ⟨24, _⟩ => ⟨S48x248, .f32⟩
  | .hbm, ⟨25, _⟩ => ⟨S48x248, .f32⟩
  | .hbm, ⟨26, _⟩ => ⟨S48x248, .f32⟩
  | .hbm, ⟨27, _⟩ => ⟨S48x248, .f32⟩
  | .local _ .vmem, ⟨0, _⟩ => ⟨S248x2048, .bf16⟩
  | .local _ .vmem, ⟨1, _⟩ => ⟨S1x2048, .f32⟩
  | .local _ .vmem, ⟨2, _⟩ => ⟨S512x2048, .fp8e4m3⟩
  | .local _ .vmem, ⟨3, _⟩ => ⟨S512x2048, .fp8e4m3⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S1x128, .f32⟩
  | .local _ .vmem, ⟨8, _⟩ => ⟨S48x1, .f32⟩
  | .local _ .vmem, ⟨9, _⟩ => ⟨S48x1, .f32⟩
  | .local _ .vmem, ⟨10, _⟩ => ⟨S248x2048, .fp8e4m3⟩
  | .local _ .vmem, ⟨11, _⟩ => ⟨S1x248, .f32⟩
  | .local _ .vmem, ⟨12, _⟩ => ⟨S248x1x512, .f32⟩
  | .local _ .vmem, ⟨13, _⟩ => ⟨S248x1x512, .f32⟩
  | .local _ .vmem, ⟨14, _⟩ => ⟨S248x512, .f32⟩
  | .local _ .vmem, ⟨15, _⟩ => ⟨S248x512, .f32⟩
  | .local _ .vmem, ⟨16, _⟩ => ⟨S512x248, .f32⟩
  | .local _ .vmem, ⟨17, _⟩ => ⟨S512x248, .f32⟩
  | .local _ .vmem, ⟨18, _⟩ => ⟨S248x512, .f32⟩
  | .local _ .vmem, ⟨19, _⟩ => ⟨S248x512, .f32⟩
  | .local _ .vmem, ⟨20, _⟩ => ⟨S248x512, .f32⟩
  | .local _ .vmem, ⟨21, _⟩ => ⟨S248x512, .f32⟩
  | .local _ .vmem, ⟨22, _⟩ => ⟨S128x248, .f32⟩
  | .local _ .vmem, ⟨23, _⟩ => ⟨S48x248, .f32⟩
  | .local _ .vmem, ⟨24, _⟩ => ⟨S48x248, .f32⟩
  | .local _ .vmem, ⟨25, _⟩ => ⟨S48x248, .f32⟩
  | .local _ .vmem, ⟨26, _⟩ => ⟨S48x248, .f32⟩
  | .local _ .vmem, ⟨27, _⟩ => ⟨S248x2048, .fp8e4m3⟩
  | .local _ .vmem, ⟨28, _⟩ => ⟨S248x128, .f32⟩
  | _, _ => ⟨S248x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev main_v8_8 : Ref sig .tc := ⟨.hbm, 24, rfl⟩
abbrev main_v8_9 : Ref sig .tc := ⟨.hbm, 25, rfl⟩
abbrev main_v8_10 : Ref sig .tc := ⟨.hbm, 26, rfl⟩
abbrev main_v8_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c12_i32 : BitVec 32 := 12#32
  let v17 : BitVec 1 := Scalar.cmpi .slt arg0 c12_i32
  let v18 : BitVec 32 := Scalar.extui v17
  let c0_i32_11 : BitVec 32 := 0#32
  let v19 : BitVec 1 := Scalar.cmpi .ne v18 c0_i32_11
  v19

def k0_cond3 (i : grid0.Coords) : BitVec 1 :=
  let arg0 : BitVec 32 := BitVec.ofNat 32 (i 0).val
  let c6_i32 : BitVec 32 := 6#32
  let v20 : BitVec 1 := Scalar.cmpi .sge arg0 c6_i32
  let c12_i32_12 : BitVec 32 := 12#32
  let v21 : BitVec 1 := Scalar.cmpi .slt arg0 c12_i32_12
  let v22 : BitVec 1 := Scalar.andi v20 v21
  let v23 : BitVec 32 := Scalar.extui v22
  let c0_i32_13 : BitVec 32 := 0#32
  let v24 : BitVec 1 := Scalar.cmpi .ne v23 c0_i32_13
  v24

def k0_cond4 (i : grid0.Coords) : BitVec 1 :=
  let arg0 : BitVec 32 := BitVec.ofNat 32 (i 0).val
  let c12_i32_14 : BitVec 32 := 12#32
  let v25 : BitVec 1 := Scalar.cmpi .sge arg0 c12_i32_14
  let c14_i32 : BitVec 32 := 14#32
  let v26 : BitVec 1 := Scalar.cmpi .slt arg0 c14_i32
  let v27 : BitVec 1 := Scalar.andi v25 v26
  let v28 : BitVec 32 := Scalar.extui v27
  let c0_i32_15 : BitVec 32 := 0#32
  let v29 : BitVec 1 := Scalar.cmpi .ne v28 c0_i32_15
  v29

def k0_cond5 (i : grid0.Coords) : BitVec 1 :=
  let arg0 : BitVec 32 := BitVec.ofNat 32 (i 0).val
  let c14_i32_16 : BitVec 32 := 14#32
  let v30 : BitVec 1 := Scalar.cmpi .sge arg0 c14_i32_16
  let c16_i32 : BitVec 32 := 16#32
  let v31 : BitVec 1 := Scalar.cmpi .slt arg0 c16_i32
  let v32 : BitVec 1 := Scalar.andi v30 v31
  let v33 : BitVec 32 := Scalar.extui v32
  let c0_i32_17 : BitVec 32 := 0#32
  let v34 : BitVec 1 := Scalar.cmpi .ne v33 c0_i32_17
  v34

def k0_cond6 (i : grid0.Coords) : BitVec 1 :=
  let arg0 : BitVec 32 := BitVec.ofNat 32 (i 0).val
  let c16_i32_18 : BitVec 32 := 16#32
  let v35 : BitVec 1 := Scalar.cmpi .eq arg0 c16_i32_18
  let v36 : BitVec 32 := Scalar.extui v35
  let c0_i32_19 : BitVec 32 := 0#32
  let v37 : BitVec 1 := Scalar.cmpi .ne v36 c0_i32_19
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_14 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S248x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S248x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x248 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S248x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S248x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x248 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S248x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S248x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S128x248 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S48x248 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S48x248 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S48x248 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S48x248 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== InProjRefIdeal.lean ====
abbrev S248x1x2048 : Shape := ⟨3, ![248, 1, 2048]⟩
abbrev S2048 : Shape := ⟨1, ![2048]⟩
abbrev S2048x8416 : Shape := ⟨2, ![2048, 8416]⟩
abbrev S8416 : Shape := ⟨1, ![8416]⟩
abbrev S128 : Shape := ⟨1, ![128]⟩
abbrev S48 : Shape := ⟨1, ![48]⟩
abbrev S248x2048 : Shape := ⟨2, ![248, 2048]⟩
abbrev S1x2048 : Shape := ⟨2, ![1, 2048]⟩
abbrev S1x8416 : Shape := ⟨2, ![1, 8416]⟩
abbrev S1x248 : Shape := ⟨2, ![1, 248]⟩
abbrev S248x1x8416 : Shape := ⟨3, ![248, 1, 8416]⟩
abbrev S248 : Shape := ⟨1, ![248]⟩
abbrev S248x1 : Shape := ⟨2, ![248, 1]⟩
abbrev S248x8416 : Shape := ⟨2, ![248, 8416]⟩

abbrev nBuf : Space → Nat
  | .hbm => 14
  | .vmem => 7
  | .smem => 0
  | _ => 0

abbrev bufTy : (tb : Table) → Fin (tcTables nBuf tb) → BufTy
  | .hbm, ⟨0, _⟩ => ⟨S248x1x2048, .bf16⟩
  | .hbm, ⟨1, _⟩ => ⟨S2048, .f32⟩
  | .hbm, ⟨2, _⟩ => ⟨S2048x8416, .fp8e4m3⟩
  | .hbm, ⟨3, _⟩ => ⟨S8416, .f32⟩
  | .hbm, ⟨4, _⟩ => ⟨S128, .f32⟩
  | .hbm, ⟨5, _⟩ => ⟨S128, .f32⟩
  | .hbm, ⟨6, _⟩ => ⟨S48, .f32⟩
  | .hbm, ⟨7, _⟩ => ⟨S48, .f32⟩
  | .hbm, ⟨8, _⟩ => ⟨S248x2048, .bf16⟩
  | .hbm, ⟨9, _⟩ => ⟨S1x2048, .f32⟩
  | .hbm, ⟨10, _⟩ => ⟨S1x8416, .f32⟩
  | .hbm, ⟨11, _⟩ => ⟨S248x2048, .fp8e4m3⟩
  | .hbm, ⟨12, _⟩ => ⟨S1x248, .f32⟩
  | .hbm, ⟨13, _⟩ => ⟨S248x1x8416, .f32⟩
  | .local _ .vmem, ⟨0, _⟩ => ⟨S248x2048, .bf16⟩
  | .local _ .vmem, ⟨1, _⟩ => ⟨S1x2048, .f32⟩
  | .local _ .vmem, ⟨2, _⟩ => ⟨S2048x8416, .fp8e4m3⟩
  | .local _ .vmem, ⟨3, _⟩ => ⟨S1x8416, .f32⟩
  | .local _ .vmem, ⟨4, _⟩ => ⟨S248x2048, .fp8e4m3⟩
  | .local _ .vmem, ⟨5, _⟩ => ⟨S1x248, .f32⟩
  | .local _ .vmem, ⟨6, _⟩ => ⟨S248x1x8416, .f32⟩
  | _, _ => ⟨S248x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S248x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8416 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8416 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S248x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x248 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S248x1x8416 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.TailFloat.Body.lean ====
/-
  The body of `_tail`, one grid step at a time. A step takes one of six forms, by which of the printed `scf.if`s it
  enters; each theorem below runs one form over staging and scratch memrefs held at named contents and says, with the
  printed payloads, what every buffer the step touches holds afterwards.
-/
module

public import proofs.«01_k».proof.Proof.Gen.Tail.Launch
public import proofs.«01_k».proof.Proof.Gen.Tail.Points
public import proofs.«01_k».proof.Proof.Gen.Tail.Skeleton
public import Idealize.ShloMosaic.Lib.Pipeline.FrameBody
public import Idealize.ShloMosaic.Lib.VecWindow
public import Idealize.ShloMosaic.Lib.Pipeline.TableIdle
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Tail.Hand

open Cert.Tail Cert.Tail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A staging or scratch memref held whole at the contents `X`. -/
abbrev own {s : Shape} {e : EltTy} (c : Dev nD) (m : Memref sig .tc .vmem s e) (X : Vec F s e) : sProp 𝕄 :=
  owns (c : Thread nD τ) m fullShare X

/-- The first column of the scale scratch. -/
def col (s : Vec F S248x128 .f32) : Vec F S248x1 .f32 := VecWindow.window s ![0, 0] ![248, 1] inb_S248x128_S248x1_0_0

theorem slab4_inb (k : Fin 4) : ∀ a, (![k.val, 0, 0] : Fin 3 → ℕ) a + (![1, 248, 512] : Fin 3 → ℕ) a ≤ S4x248x512.size a := by
  decide +revert

theorem slab11_inb (k : Fin 11) : ∀ a, (![k.val, 0, 0] : Fin 3 → ℕ) a + (![1, 248, 512] : Fin 3 → ℕ) a ≤ S11x248x512.size a := by
  decide +revert

/-- Slab `k` of the residual scratch, and of the hidden scratch. -/
def slab4 (r : Vec F S4x248x512 .f32) (k : Fin 4) : Vec F S1x248x512 .f32 :=
  VecWindow.window r ![k.val, 0, 0] ![1, 248, 512] (slab4_inb k)
def slab11 (r : Vec F S11x248x512 .f32) (k : Fin 11) : Vec F S1x248x512 .f32 :=
  VecWindow.window r ![k.val, 0, 0] ![1, 248, 512] (slab11_inb k)
def put4 (r : Vec F S4x248x512 .f32) (k : Fin 4) (w : Vec F S1x248x512 .f32) : Vec F S4x248x512 .f32 :=
  VecWindow.put r ![k.val, 0, 0] ![1, 248, 512] w
def put11 (r : Vec F S11x248x512 .f32) (k : Fin 11) (w : Vec F S1x248x512 .f32) : Vec F S11x248x512 .f32 :=
  VecWindow.put r ![k.val, 0, 0] ![1, 248, 512] w

/-! ## What the loads and stores of the body read and leave -/

/-- The first column read after the scale scratch was written whole. -/
theorem readCov_col (m : Memref sig .tc .vmem S248x128 .f32) (w : Vec F S248x128 .f32) :
    m.view.readCov (Val := Elt F) [⟨Rect.unit ![0, 0] ![248, 128] inb_S248x128_S248x128_0_0, w⟩]
      (Rect.unit ![0, 0] ![248, 1] inb_S248x128_S248x1_0_0).toLoadRect = col w :=
  (View.readAt_unit m.view _ _ rfl _).trans (congrArg col (View.read_writes_full m.view _ _ _ _))

/-- The quantisation scale of the normalised residual rows, and their codes. -/
def normScale (r : Vec F S4x248x512 .f32) (nw : Vec F S1x2048 .f32) : Vec F S248x1 .f32 :=
  k0_pay23 (slab4 r 0) (slab4 r 1) (slab4 r 2) (slab4 r 3) nw
def normCodes (r : Vec F S4x248x512 .f32) (nw : Vec F S1x2048 .f32) : Vec F S248x2048 .fp8e4m3 :=
  k0_pay10 (k0_pay24 (slab4 r 0) (slab4 r 1) (slab4 r 2) (slab4 r 3) nw) k0_pay25

/-- The quantisation scale of the hidden rows. -/
def hidScale (h : Vec F S11x248x512 .f32) : Vec F S248x1 .f32 :=
  k0_pay33 (k0_pay32 (slab11 h 0) (slab11 h 1) (slab11 h 2) (slab11 h 3) (slab11 h 4) (slab11 h 5))
    (slab11 h 6) (slab11 h 7) (slab11 h 8) (slab11 h 9) (slab11 h 10)

/-- The tile of 512 columns a column of the hidden rows lies in, and the column's place in that tile. -/
def tileOf (y : S248x5632.Idx) : Fin 11 := ⟨(y 1).val / 512, by have : (y 1).val < 5632 := (y 1).isLt; omega⟩
def inTile (y : S248x5632.Idx) : S248x512.Idx := fun a => match a with
  | ⟨0, _⟩ => (y 0 : Fin 248)
  | ⟨1, _⟩ => (⟨(y 1).val % 512, Nat.mod_lt _ (by decide)⟩ : Fin 512)

/-- The codes of the hidden rows: tile by tile, each slab divided by the one scale, clipped and rounded. -/
def hidCodes (h : Vec F S11x248x512 .f32) : Vec F S248x5632 .fp8e4m3 :=
  fun y => k0_pay15 (hidScale h) (slab11 h (tileOf y)) (inTile y)

/-- A piece that stores tile `k` of the codes agrees with `hidCodes`. -/
theorem hidCodes_piece (h : Vec F S11x248x512 .f32) (k : Fin 11)
    (inb : ∀ a, (![0, 512 * k.val] : Fin 2 → ℕ) a + (![248, 512] : Fin 2 → ℕ) a ≤ S248x5632.size a)
    (z : (Rect.unit (s := S248x5632) ![0, 512 * k.val] ![248, 512] inb).shape.Idx) :
    hidCodes h ((Rect.unit (s := S248x5632) ![0, 512 * k.val] ![248, 512] inb).emb z)
      = k0_pay15 (hidScale h) (slab11 h k) z := by
  have h1 : (z 1).val < 512 := (z 1).isLt
  have e1 : ((Rect.unit (s := S248x5632) ![0, 512 * k.val] ![248, 512] inb).emb z 1).val = 512 * k.val + 1 * (z 1).val := rfl
  have e0 : ((Rect.unit (s := S248x5632) ![0, 512 * k.val] ![248, 512] inb).emb z 0).val = 0 + 1 * (z 0).val := rfl
  have hk : tileOf ((Rect.unit (s := S248x5632) ![0, 512 * k.val] ![248, 512] inb).emb z) = k := Fin.ext (by
    show ((Rect.unit (s := S248x5632) ![0, 512 * k.val] ![248, 512] inb).emb z 1).val / 512 = k.val
    rw [e1]; omega)
  have hz : inTile ((Rect.unit (s := S248x5632) ![0, 512 * k.val] ![248, 512] inb).emb z) = z := by
    funext a; apply Fin.ext
    match a with
    | ⟨0, _⟩ => exact e0.trans (Nat.zero_add _ |>.trans (Nat.one_mul _))
    | ⟨1, _⟩ =>
      show ((Rect.unit (s := S248x5632) ![0, 512 * k.val] ![248, 512] inb).emb z 1).val % 512 = (z 1).val
      rw [e1]; omega
  unfold hidCodes
  rw [hk, hz]

variable (c : Dev nD) (i : grid0.Coords) (arg1 : Memref sig .tc .vmem S248x512 .bf16) (harg1 : arg1.IsWhole) (arg2 : Memref sig .tc .vmem S248x3072 .f32) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x2048 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S2048x512 .fp8e4m3) (harg8 : arg8.IsWhole) (arg9 : Memref sig .tc .vmem S1x512 .f32) (harg9 : arg9.IsWhole) (arg10 : Memref sig .tc .vmem S5632x512 .fp8e4m3) (harg10 : arg10.IsWhole) (arg11 : Memref sig .tc .vmem S1x512 .f32) (harg11 : arg11.IsWhole) (arg12 : Memref sig .tc .vmem S248x512 .bf16)
  (harg12 : arg12.IsWhole) (arg13 : Memref sig .tc .vmem S248x1x3072 .f32) (harg13 : arg13.IsWhole) (arg14 : Memref sig .tc .vmem S248x3072 .fp8e4m3) (harg14 : arg14.IsWhole) (arg15 : Memref sig .tc .vmem S1x248 .f32) (harg15 : arg15.IsWhole) (arg16 : Memref sig .tc .vmem S248x1x512 .f32) (harg16 : arg16.IsWhole) (arg17 : Memref sig .tc .vmem S248x2048 .fp8e4m3) (harg17 : arg17.IsWhole) (arg18 : Memref sig .tc .vmem S1x248 .f32) (harg18 : arg18.IsWhole) (arg19 : Memref sig .tc .vmem S248x1x512 .f32) (harg19 : arg19.IsWhole) (arg20 : Memref sig .tc .vmem S248x1x512 .f32) (harg20 : arg20.IsWhole) (arg21 : Memref sig .tc .vmem S248x5632 .fp8e4m3) (harg21 : arg21.IsWhole) (arg22 : Memref sig .tc .vmem S1x248 .f32) (harg22 : arg22.IsWhole) (arg23 : Memref sig .tc .vmem S248x1x512 .f32) (harg23 : arg23.IsWhole) (arg24 : Memref sig .tc .vmem S248x128 .f32) (harg24 : arg24.IsWhole) (arg25 : Memref sig .tc .vmem S4x248x512 .f32) (harg25 : arg25.IsWhole) (arg26 : Memref sig .tc .vmem S11x248x512 .f32) (harg26 : arg26.IsWhole)

set_option maxHeartbeats 4000000 in
/-- Step 0: quantise the attention rows, take the first output tile and the first residual slab. -/
theorem run_first
    (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (k : Fin 4) (hk : k0_off1 i = ![k.val, 0, 0])
    (x : Vec F S248x512 .bf16) (o : Vec F S248x3072 .f32) (w : Vec F S3072x512 .fp8e4m3) (ws : Vec F S1x512 .f32) (d13 : Vec F S248x1x3072 .f32) (d14 : Vec F S248x3072 .fp8e4m3) (d15 : Vec F S1x248 .f32) (d16 : Vec F S248x1x512 .f32) (s : Vec F S248x128 .f32) (r : Vec F S4x248x512 .f32)
    (K : PUnit → sProp 𝕄) :
    iprop(own c arg1 x
      ∗ own c arg2 o
      ∗ own c arg3 w
      ∗ own c arg4 ws
      ∗ own c arg13 d13
      ∗ own c arg14 d14
      ∗ own c arg15 d15
      ∗ own c arg16 d16
      ∗ own c arg24 s
      ∗ own c arg25 r
      ∗ (iprop(own c arg1 x
          ∗ own c arg2 o
          ∗ own c arg3 w
          ∗ own c arg4 ws
          ∗ own c arg13 (k0_pay1 o)
          ∗ own c arg14 (k0_pay3 o)
          ∗ own c arg15 (k0_pay6 o)
          ∗ own c arg16 (k0_pay8 (k0_pay3 o) w (col (k0_pay5 o)) ws)
          ∗ own c arg24 (k0_pay5 o)
          ∗ own c arg25 (put4 r k (k0_pay9 (k0_pay3 o) w (col (k0_pay5 o)) ws x))) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H1, H2, H3, H4, H13, H14, H15, H16, H24, H25, Hk⟩
  sl_exec
  sl_step
  have e1 : View.readAt (Elt F) arg1.view (Rect.unit ![0, 0] ![248, 512] inb_S248x512_S248x512_0_0).toLoadRect (arg1.view.rep x) = x :=
    View.readAt_rep_full _ _ _
  have e2 : View.readAt (Elt F) arg2.view (Rect.unit ![0, 0] ![248, 3072] inb_S248x3072_S248x3072_0_0).toLoadRect (arg2.view.rep o) = o :=
    View.readAt_rep_full _ _ _
  have e3 : View.readAt (Elt F) arg3.view (Rect.unit ![0, 0] ![3072, 512] inb_S3072x512_S3072x512_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e20 : run_first.sl.v20 arg2 arg14 o = k0_pay3 o :=
    (View.readCov_full _ _ _ _ _).trans (congrArg k0_pay3 e2)
  have e24 : run_first.sl.v24 arg2 arg24 o = col (k0_pay5 o) :=
    (readCov_col _ _).trans (congrArg (fun v => col (k0_pay5 v)) e2)
  iapply Hk
  isplitl [H1]
  · iexact H1
  isplitl [H2]
  · iexact H2
  isplitl [H3]
  · iexact H3
  isplitl [H4]
  · iexact H4
  isplitl [H13]
  · refine pointsTo_rep_of_read _ _ _ _ _ ?_
    refine (View.read_writes_full _ _ _ _ _).trans ?_
    rw [e2]
  isplitl [H14]
  · refine pointsTo_rep_of_read _ _ _ _ _ ?_
    refine (View.read_writes_full _ _ _ _ _).trans ?_
    rw [e2]
  isplitl [H15]
  · refine pointsTo_rep_of_read _ _ _ _ _ ?_
    refine (View.read_writes_full _ _ _ _ _).trans ?_
    rw [e2]
  isplitl [H16]
  · refine pointsTo_rep_of_read _ _ _ _ _ ?_
    refine (View.read_writes_full _ _ _ _ _).trans ?_
    rw [e20, e24, e3, e4]
  isplitl [H24]
  · refine pointsTo_rep_of_read _ _ _ _ _ ?_
    refine (View.read_writes_full _ _ _ _ _).trans ?_
    rw [e2]
  refine pointsTo_rep_of_read _ _ _ _ _ ?_
  refine (View.read_writes_rep_unit _ _ _ _ hk).trans ?_
  rw [e20, e24, e3, e4, e1]
  rfl

set_option maxHeartbeats 4000000 in
/-- Steps 1 to 3: one output tile and one residual slab. -/
theorem run_out
    (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (k : Fin 4) (hk : k0_off1 i = ![k.val, 0, 0])
    (x : Vec F S248x512 .bf16) (w : Vec F S3072x512 .fp8e4m3) (ws : Vec F S1x512 .f32) (oc : Vec F S248x3072 .fp8e4m3) (d16 : Vec F S248x1x512 .f32) (s : Vec F S248x128 .f32) (r : Vec F S4x248x512 .f32)
    (K : PUnit → sProp 𝕄) :
    iprop(own c arg1 x
      ∗ own c arg3 w
      ∗ own c arg4 ws
      ∗ own c arg14 oc
      ∗ own c arg16 d16
      ∗ own c arg24 s
      ∗ own c arg25 r
      ∗ (iprop(own c arg1 x
          ∗ own c arg3 w
          ∗ own c arg4 ws
          ∗ own c arg14 oc
          ∗ own c arg16 (k0_pay8 oc w (col s) ws)
          ∗ own c arg24 s
          ∗ own c arg25 (put4 r k (k0_pay9 oc w (col s) ws x))) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H1, H3, H4, H14, H16, H24, H25, Hk⟩
  sl_exec
  sl_step
  have e1 : View.readAt (Elt F) arg1.view (Rect.unit ![0, 0] ![248, 512] inb_S248x512_S248x512_0_0).toLoadRect (arg1.view.rep x) = x :=
    View.readAt_rep_full _ _ _
  have e14 : View.readAt (Elt F) arg14.view (Rect.unit ![0, 0] ![248, 3072] inb_S248x3072_S248x3072_0_0).toLoadRect (arg14.view.rep oc) = oc :=
    View.readAt_rep_full _ _ _
  have e3 : View.readAt (Elt F) arg3.view (Rect.unit ![0, 0] ![3072, 512] inb_S3072x512_S3072x512_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e24 : View.readAt (Elt F) arg24.view (Rect.unit ![0, 0] ![248, 1] inb_S248x128_S248x1_0_0).toLoadRect (arg24.view.rep s) = col s :=
    View.readAt_rep_unit _ _ _ rfl _
  iapply Hk
  isplitl [H1]
  · iexact H1
  isplitl [H3]
  · iexact H3
  isplitl [H4]
  · iexact H4
  isplitl [H14]
  · iexact H14
  isplitl [H16]
  · refine pointsTo_rep_of_read _ _ _ _ _ ?_
    refine (View.read_writes_full _ _ _ _ _).trans ?_
    rw [e14, e24, e3, e4]
  isplitl [H24]
  · iexact H24
  refine pointsTo_rep_of_read _ _ _ _ _ ?_
  refine (View.read_writes_rep_unit _ _ _ _ hk).trans ?_
  rw [e14, e24, e3, e4, e1]
  rfl

set_option maxHeartbeats 4000000 in
/-- Step 4: normalise and quantise the residual rows, then the first tile of the gated MLP. -/
theorem run_norm
    (h1 : ¬ k0_cond1 i = 1#1) (h2 : ¬ k0_cond2 i = 1#1) (h3 : k0_cond3 i = 1#1) (h4 : k0_cond4 i = 1#1) (h5 : ¬ k0_cond5 i = 1#1) (h6 : ¬ k0_cond6 i = 1#1)
    (k : Fin 11) (hk : k0_off2 i = ![k.val, 0, 0])
    (nw : Vec F S1x2048 .f32) (wg : Vec F S2048x512 .fp8e4m3) (gs : Vec F S1x512 .f32) (wv : Vec F S2048x512 .fp8e4m3) (vs : Vec F S1x512 .f32) (d17 : Vec F S248x2048 .fp8e4m3) (d18 : Vec F S1x248 .f32) (d19 : Vec F S248x1x512 .f32) (d20 : Vec F S248x1x512 .f32) (s : Vec F S248x128 .f32) (r : Vec F S4x248x512 .f32) (h : Vec F S11x248x512 .f32)
    (K : PUnit → sProp 𝕄) :
    iprop(own c arg5 nw
      ∗ own c arg6 wg
      ∗ own c arg7 gs
      ∗ own c arg8 wv
      ∗ own c arg9 vs
      ∗ own c arg17 d17
      ∗ own c arg18 d18
      ∗ own c arg19 d19
      ∗ own c arg20 d20
      ∗ own c arg24 s
      ∗ own c arg25 r
      ∗ own c arg26 h
      ∗ (iprop(own c arg5 nw
          ∗ own c arg6 wg
          ∗ own c arg7 gs
          ∗ own c arg8 wv
          ∗ own c arg9 vs
          ∗ own c arg17 (normCodes r nw)
          ∗ own c arg18 (k0_pay13 (normScale r nw))
          ∗ own c arg19 (k0_pay29 (normCodes r nw) wg (col (k0_pay12 (normScale r nw))) gs)
          ∗ own c arg20 (k0_pay30 (normCodes r nw) wv (col (k0_pay12 (normScale r nw))) vs)
          ∗ own c arg24 (k0_pay12 (normScale r nw))
          ∗ own c arg25 r
          ∗ own c arg26 (put11 h k (k0_pay14 (k0_pay31 (normCodes r nw) wg (col (k0_pay12 (normScale r nw))) gs wv (col (k0_pay12 (normScale r nw))) vs)))) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H5, H6, H7, H8, H9, H17, H18, H19, H20, H24, H25, H26, Hk⟩
  sl_exec
  sl_step
  have e5 : View.readAt (Elt F) arg5.view (Rect.unit ![0, 0] ![1, 2048] inb_S1x2048_S1x2048_0_0).toLoadRect (arg5.view.rep nw) = nw :=
    View.readAt_rep_full _ _ _
  have e6 : View.readAt (Elt F) arg6.view (Rect.unit ![0, 0] ![2048, 512] inb_S2048x512_S2048x512_0_0).toLoadRect (arg6.view.rep wg) = wg :=
    View.readAt_rep_full _ _ _
  have e7 : View.readAt (Elt F) arg7.view (Rect.unit ![0, 0] ![1, 512] inb_S1x512_S1x512_0_0).toLoadRect (arg7.view.rep gs) = gs :=
    View.readAt_rep_full _ _ _
  have e8 : View.readAt (Elt F) arg8.view (Rect.unit ![0, 0] ![2048, 512] inb_S2048x512_S2048x512_0_0).toLoadRect (arg8.view.rep wv) = wv :=
    View.readAt_rep_full _ _ _
  have e9 : View.readAt (Elt F) arg9.view (Rect.unit ![0, 0] ![1, 512] inb_S1x512_S1x512_0_0).toLoadRect (arg9.view.rep vs) = vs :=
    View.readAt_rep_full _ _ _
  have s0 : View.readAt (Elt F) arg25.view (Rect.unit ![0, 0, 0] ![1, 248, 512] inb_S4x248x512_S1x248x512_0_0_0).toLoadRect (arg25.view.rep r) = slab4 r 0 :=
    View.readAt_rep_unit _ _ _ rfl _
  have s1 : View.readAt (Elt F) arg25.view (Rect.unit ![1, 0, 0] ![1, 248, 512] inb_S4x248x512_S1x248x512_1_0_0).toLoadRect (arg25.view.rep r) = slab4 r 1 :=
    View.readAt_rep_unit _ _ _ rfl _
  have s2 : View.readAt (Elt F) arg25.view (Rect.unit ![2, 0, 0] ![1, 248, 512] inb_S4x248x512_S1x248x512_2_0_0).toLoadRect (arg25.view.rep r) = slab4 r 2 :=
    View.readAt_rep_unit _ _ _ rfl _
  have s3 : View.readAt (Elt F) arg25.view (Rect.unit ![3, 0, 0] ![1, 248, 512] inb_S4x248x512_S1x248x512_3_0_0).toLoadRect (arg25.view.rep r) = slab4 r 3 :=
    View.readAt_rep_unit _ _ _ rfl _
  have er : run_norm.sl.r arg5 arg25 nw r = normScale r nw := by
    unfold run_norm.sl.r normScale; rw [s0, s1, s2, s3, e5]
  have er1 : k0_pay10 (run_norm.sl.r_1 arg5 arg25 nw r) k0_pay25 = normCodes r nw := by
    unfold run_norm.sl.r_1 normCodes; rw [s0, s1, s2, s3, e5]
  have e20 : run_norm.sl.v20 arg5 arg17 arg25 nw r = normCodes r nw := (View.readCov_full _ _ _ _ _).trans er1
  have e24 : run_norm.sl.v24 arg5 arg24 arg25 nw r = col (k0_pay12 (normScale r nw)) :=
    (readCov_col _ _).trans (congrArg (fun v => col (k0_pay12 v)) er)
  have er2 : run_norm.sl.r_2 arg5 arg6 arg7 arg8 arg9 arg17 arg24 arg25 nw wg gs wv vs r
      = k0_pay31 (normCodes r nw) wg (col (k0_pay12 (normScale r nw))) gs wv (col (k0_pay12 (normScale r nw))) vs := by
    unfold run_norm.sl.r_2; rw [e20, e24, e6, e7, e8, e9]
  iapply Hk
  isplitl [H5]
  · iexact H5
  isplitl [H6]
  · iexact H6
  isplitl [H7]
  · iexact H7
  isplitl [H8]
  · iexact H8
  isplitl [H9]
  · iexact H9
  isplitl [H17]
  · refine pointsTo_rep_of_read _ _ _ _ _ ?_
    refine (View.read_writes_full _ _ _ _ _).trans ?_
    exact er1
  isplitl [H18]
  · refine pointsTo_rep_of_read _ _ _ _ _ ?_
    refine (View.read_writes_full _ _ _ _ _).trans ?_
    rw [er]
  isplitl [H19]
  · refine pointsTo_rep_of_read _ _ _ _ _ ?_
    refine (View.read_writes_full _ _ _ _ _).trans ?_
    rw [e20, e24, e6, e7]
  isplitl [H20]
  · refine pointsTo_rep_of_read _ _ _ _ _ ?_
    refine (View.read_writes_full _ _ _ _ _).trans ?_
    rw [e20, e24, e8, e9]
  isplitl [H24]
  · refine pointsTo_rep_of_read _ _ _ _ _ ?_
    refine (View.read_writes_full _ _ _ _ _).trans ?_
    rw [er]
  isplitl [H25]
  · iexact H25
  refine pointsTo_rep_of_read _ _ _ _ _ ?_
  refine (View.read_writes_rep_unit _ _ _ _ hk).trans ?_
  rw [er2]
  rfl

set_option maxHeartbeats 4000000 in
/-- Steps 5 to 14: one tile of the gated MLP. -/
theorem run_mlp
    (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1)
    (k : Fin 11) (hk : k0_off2 i = ![k.val, 0, 0])
    (wg : Vec F S2048x512 .fp8e4m3) (gs : Vec F S1x512 .f32) (wv : Vec F S2048x512 .fp8e4m3) (vs : Vec F S1x512 .f32) (ac : Vec F S248x2048 .fp8e4m3) (d19 : Vec F S248x1x512 .f32) (d20 : Vec F S248x1x512 .f32) (s : Vec F S248x128 .f32) (h : Vec F S11x248x512 .f32)
    (K : PUnit → sProp 𝕄) :
    iprop(own c arg6 wg
      ∗ own c arg7 gs
      ∗ own c arg8 wv
      ∗ own c arg9 vs
      ∗ own c arg17 ac
      ∗ own c arg19 d19
      ∗ own c arg20 d20
      ∗ own c arg24 s
      ∗ own c arg26 h
      ∗ (iprop(own c arg6 wg
          ∗ own c arg7 gs
          ∗ own c arg8 wv
          ∗ own c arg9 vs
          ∗ own c arg17 ac
          ∗ own c arg19 (k0_pay29 ac wg (col s) gs)
          ∗ own c arg20 (k0_pay30 ac wv (col s) vs)
          ∗ own c arg24 s
          ∗ own c arg26 (put11 h k (k0_pay14 (k0_pay31 ac wg (col s) gs wv (col s) vs)))) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H6, H7, H8, H9, H17, H19, H20, H24, H26, Hk⟩
  sl_exec
  sl_step
  have e6 : View.readAt (Elt F) arg6.view (Rect.unit ![0, 0] ![2048, 512] inb_S2048x512_S2048x512_0_0).toLoadRect (arg6.view.rep wg) = wg :=
    View.readAt_rep_full _ _ _
  have e7 : View.readAt (Elt F) arg7.view (Rect.unit ![0, 0] ![1, 512] inb_S1x512_S1x512_0_0).toLoadRect (arg7.view.rep gs) = gs :=
    View.readAt_rep_full _ _ _
  have e8 : View.readAt (Elt F) arg8.view (Rect.unit ![0, 0] ![2048, 512] inb_S2048x512_S2048x512_0_0).toLoadRect (arg8.view.rep wv) = wv :=
    View.readAt_rep_full _ _ _
  have e9 : View.readAt (Elt F) arg9.view (Rect.unit ![0, 0] ![1, 512] inb_S1x512_S1x512_0_0).toLoadRect (arg9.view.rep vs) = vs :=
    View.readAt_rep_full _ _ _
  have e17 : View.readAt (Elt F) arg17.view (Rect.unit ![0, 0] ![248, 2048] inb_S248x2048_S248x2048_0_0).toLoadRect (arg17.view.rep ac) = ac :=
    View.readAt_rep_full _ _ _
  have e24 : View.readAt (Elt F) arg24.view (Rect.unit ![0, 0] ![248, 1] inb_S248x128_S248x1_0_0).toLoadRect (arg24.view.rep s) = col s :=
    View.readAt_rep_unit _ _ _ rfl _
  iapply Hk
  isplitl [H6]
  · iexact H6
  isplitl [H7]
  · iexact H7
  isplitl [H8]
  · iexact H8
  isplitl [H9]
  · iexact H9
  isplitl [H17]
  · iexact H17
  isplitl [H19]
  · refine pointsTo_rep_of_read _ _ _ _ _ ?_
    refine (View.read_writes_full _ _ _ _ _).trans ?_
    rw [e17, e24, e6, e7]
  isplitl [H20]
  · refine pointsTo_rep_of_read _ _ _ _ _ ?_
    refine (View.read_writes_full _ _ _ _ _).trans ?_
    rw [e17, e24, e8, e9]
  isplitl [H24]
  · iexact H24
  refine pointsTo_rep_of_read _ _ _ _ _ ?_
  refine (View.read_writes_rep_unit _ _ _ _ hk).trans ?_
  unfold run_mlp.sl.r; rw [e17, e24, e6, e7, e8, e9]
  rfl

set_option maxHeartbeats 4000000 in
/-- Step 15: quantise the hidden rows, then the first tile of the last product and of the result. -/
theorem run_hid
    (h1 : ¬ k0_cond1 i = 1#1) (h2 : ¬ k0_cond2 i = 1#1) (h3 : ¬ k0_cond3 i = 1#1) (h4 : ¬ k0_cond4 i = 1#1) (h5 : k0_cond5 i = 1#1) (h6 : k0_cond6 i = 1#1)
    (k : Fin 4) (hk : k0_off3 i = ![k.val, 0, 0])
    (w2 : Vec F S5632x512 .fp8e4m3) (w2s : Vec F S1x512 .f32) (d12 : Vec F S248x512 .bf16) (d21 : Vec F S248x5632 .fp8e4m3) (d22 : Vec F S1x248 .f32) (d23 : Vec F S248x1x512 .f32) (s : Vec F S248x128 .f32) (r : Vec F S4x248x512 .f32) (h : Vec F S11x248x512 .f32)
    (K : PUnit → sProp 𝕄) :
    iprop(own c arg10 w2
      ∗ own c arg11 w2s
      ∗ own c arg12 d12
      ∗ own c arg21 d21
      ∗ own c arg22 d22
      ∗ own c arg23 d23
      ∗ own c arg24 s
      ∗ own c arg25 r
      ∗ own c arg26 h
      ∗ (iprop(own c arg10 w2
          ∗ own c arg11 w2s
          ∗ own c arg12 (k0_pay21 (hidCodes h) w2 (col (k0_pay17 (hidScale h))) w2s (slab4 r k))
          ∗ own c arg21 (hidCodes h)
          ∗ own c arg22 (k0_pay18 (hidScale h))
          ∗ own c arg23 (k0_pay20 (hidCodes h) w2 (col (k0_pay17 (hidScale h))) w2s)
          ∗ own c arg24 (k0_pay17 (hidScale h))
          ∗ own c arg25 r
          ∗ own c arg26 h) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H10, H11, H12, H21, H22, H23, H24, H25, H26, Hk⟩
  sl_exec
  sl_step
  have e10 : View.readAt (Elt F) arg10.view (Rect.unit ![0, 0] ![5632, 512] inb_S5632x512_S5632x512_0_0).toLoadRect (arg10.view.rep w2) = w2 :=
    View.readAt_rep_full _ _ _
  have e11 : View.readAt (Elt F) arg11.view (Rect.unit ![0, 0] ![1, 512] inb_S1x512_S1x512_0_0).toLoadRect (arg11.view.rep w2s) = w2s :=
    View.readAt_rep_full _ _ _
  have s0 : View.readAt (Elt F) arg26.view (Rect.unit ![0, 0, 0] ![1, 248, 512] inb_S11x248x512_S1x248x512_0_0_0).toLoadRect (arg26.view.rep h) = slab11 h 0 :=
    View.readAt_rep_unit _ _ _ rfl _
  have s1 : View.readAt (Elt F) arg26.view (Rect.unit ![1, 0, 0] ![1, 248, 512] inb_S11x248x512_S1x248x512_1_0_0).toLoadRect (arg26.view.rep h) = slab11 h 1 :=
    View.readAt_rep_unit _ _ _ rfl _
  have s2 : View.readAt (Elt F) arg26.view (Rect.unit ![2, 0, 0] ![1, 248, 512] inb_S11x248x512_S1x248x512_2_0_0).toLoadRect (arg26.view.rep h) = slab11 h 2 :=
    View.readAt_rep_unit _ _ _ rfl _
  have s3 : View.readAt (Elt F) arg26.view (Rect.unit ![3, 0, 0] ![1, 248, 512] inb_S11x248x512_S1x248x512_3_0_0).toLoadRect (arg26.view.rep h) = slab11 h 3 :=
    View.readAt_rep_unit _ _ _ rfl _
  have s4 : View.readAt (Elt F) arg26.view (Rect.unit ![4, 0, 0] ![1, 248, 512] inb_S11x248x512_S1x248x512_4_0_0).toLoadRect (arg26.view.rep h) = slab11 h 4 :=
    View.readAt_rep_unit _ _ _ rfl _
  have s5 : View.readAt (Elt F) arg26.view (Rect.unit ![5, 0, 0] ![1, 248, 512] inb_S11x248x512_S1x248x512_5_0_0).toLoadRect (arg26.view.rep h) = slab11 h 5 :=
    View.readAt_rep_unit _ _ _ rfl _
  have s6 : View.readAt (Elt F) arg26.view (Rect.unit ![6, 0, 0] ![1, 248, 512] inb_S11x248x512_S1x248x512_6_0_0).toLoadRect (arg26.view.rep h) = slab11 h 6 :=
    View.readAt_rep_unit _ _ _ rfl _
  have s7 : View.readAt (Elt F) arg26.view (Rect.unit ![7, 0, 0] ![1, 248, 512] inb_S11x248x512_S1x248x512_7_0_0).toLoadRect (arg26.view.rep h) = slab11 h 7 :=
    View.readAt_rep_unit _ _ _ rfl _
  have s8 : View.readAt (Elt F) arg26.view (Rect.unit ![8, 0, 0] ![1, 248, 512] inb_S11x248x512_S1x248x512_8_0_0).toLoadRect (arg26.view.rep h) = slab11 h 8 :=
    View.readAt_rep_unit _ _ _ rfl _
  have s9 : View.readAt (Elt F) arg26.view (Rect.unit ![9, 0, 0] ![1, 248, 512] inb_S11x248x512_S1x248x512_9_0_0).toLoadRect (arg26.view.rep h) = slab11 h 9 :=
    View.readAt_rep_unit _ _ _ rfl _
  have s10 : View.readAt (Elt F) arg26.view (Rect.unit ![10, 0, 0] ![1, 248, 512] inb_S11x248x512_S1x248x512_10_0_0).toLoadRect (arg26.view.rep h) = slab11 h 10 :=
    View.readAt_rep_unit _ _ _ rfl _
  have er : run_hid.sl.r arg26 h = k0_pay32 (slab11 h 0) (slab11 h 1) (slab11 h 2) (slab11 h 3) (slab11 h 4) (slab11 h 5) := by
    unfold run_hid.sl.r; rw [s0, s1, s2, s3, s4, s5]
  have er1 : run_hid.sl.r_1 arg26 h = hidScale h := by
    unfold run_hid.sl.r_1 hidScale; rw [er, s6, s7, s8, s9, s10]
  have e21 : ∀ f, View.read (Elt F) arg21.view (arg21.view.writes (Elt F) f (run_hid.sl.H21_11 arg26 h)) = hidCodes h := fun f => by
    unfold run_hid.sl.H21_11 run_hid.sl.r_2 run_hid.sl.r_3 run_hid.sl.cst_67 run_hid.sl.v191
    rw [er1, s0, s1, s2, s3, s4, s5, s6, s7, s8, s9, s10]
    funext y
    refine View.read_writes_apply_of_pieces _ _ (hidCodes h) _ ?_ y (View.cover_of_tiled _ ![248, 512] (by rfl) y)
    simp only [List.forall_mem_cons]
    exact ⟨fun z => (hidCodes_piece h 10 _ z).symm, fun z => (hidCodes_piece h 9 _ z).symm, fun z => (hidCodes_piece h 8 _ z).symm,
      fun z => (hidCodes_piece h 7 _ z).symm, fun z => (hidCodes_piece h 6 _ z).symm, fun z => (hidCodes_piece h 5 _ z).symm,
      fun z => (hidCodes_piece h 4 _ z).symm, fun z => (hidCodes_piece h 3 _ z).symm, fun z => (hidCodes_piece h 2 _ z).symm,
      fun z => (hidCodes_piece h 1 _ z).symm, fun z => (hidCodes_piece h 0 _ z).symm, fun _ h => absurd h List.not_mem_nil⟩
  have e20 : run_hid.sl.v20 arg21 arg26 h = hidCodes h := (View.readAt_full arg21.view _ _).trans (e21 _)
  have e24 : run_hid.sl.v24 arg24 arg26 h = col (k0_pay17 (hidScale h)) :=
    (readCov_col _ _).trans (congrArg (fun v => col (k0_pay17 v)) er1)
  iapply Hk
  isplitl [H10]
  · iexact H10
  isplitl [H11]
  · iexact H11
  isplitl [H12]
  · refine pointsTo_rep_of_read _ _ _ _ _ ?_
    refine (View.read_writes_full _ _ _ _ _).trans ?_
    rw [e20, e24, e10, e11]
    exact congrArg (k0_pay21 (hidCodes h) w2 (col (k0_pay17 (hidScale h))) w2s) (View.readAt_rep_unit _ _ _ hk _)
  isplitl [H21]
  · refine pointsTo_rep_of_read _ _ _ _ _ ?_
    exact e21 _
  isplitl [H22]
  · refine pointsTo_rep_of_read _ _ _ _ _ ?_
    refine (View.read_writes_full _ _ _ _ _).trans ?_
    rw [er1]
  isplitl [H23]
  · refine pointsTo_rep_of_read _ _ _ _ _ ?_
    refine (View.read_writes_full _ _ _ _ _).trans ?_
    rw [e20, e24, e10, e11]
  isplitl [H24]
  · refine pointsTo_rep_of_read _ _ _ _ _ ?_
    refine (View.read_writes_full _ _ _ _ _).trans ?_
    rw [er1]
  isplitl [H25]
  · iexact H25
  iexact H26

set_option maxHeartbeats 4000000 in
/-- Steps 16 to 18: one tile of the last product and of the result. -/
theorem run_proj
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1)
    (k : Fin 4) (hk : k0_off3 i = ![k.val, 0, 0])
    (w2 : Vec F S5632x512 .fp8e4m3) (w2s : Vec F S1x512 .f32) (d12 : Vec F S248x512 .bf16) (hc : Vec F S248x5632 .fp8e4m3) (d23 : Vec F S248x1x512 .f32) (s : Vec F S248x128 .f32) (r : Vec F S4x248x512 .f32)
    (K : PUnit → sProp 𝕄) :
    iprop(own c arg10 w2
      ∗ own c arg11 w2s
      ∗ own c arg12 d12
      ∗ own c arg21 hc
      ∗ own c arg23 d23
      ∗ own c arg24 s
      ∗ own c arg25 r
      ∗ (iprop(own c arg10 w2
          ∗ own c arg11 w2s
          ∗ own c arg12 (k0_pay21 hc w2 (col s) w2s (slab4 r k))
          ∗ own c arg21 hc
          ∗ own c arg23 (k0_pay20 hc w2 (col s) w2s)
          ∗ own c arg24 s
          ∗ own c arg25 r) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H10, H11, H12, H21, H23, H24, H25, Hk⟩
  sl_exec
  sl_step
  have e10 : View.readAt (Elt F) arg10.view (Rect.unit ![0, 0] ![5632, 512] inb_S5632x512_S5632x512_0_0).toLoadRect (arg10.view.rep w2) = w2 :=
    View.readAt_rep_full _ _ _
  have e11 : View.readAt (Elt F) arg11.view (Rect.unit ![0, 0] ![1, 512] inb_S1x512_S1x512_0_0).toLoadRect (arg11.view.rep w2s) = w2s :=
    View.readAt_rep_full _ _ _
  have e21 : View.readAt (Elt F) arg21.view (Rect.unit ![0, 0] ![248, 5632] inb_S248x5632_S248x5632_0_0).toLoadRect (arg21.view.rep hc) = hc :=
    View.readAt_rep_full _ _ _
  have e24 : View.readAt (Elt F) arg24.view (Rect.unit ![0, 0] ![248, 1] inb_S248x128_S248x1_0_0).toLoadRect (arg24.view.rep s) = col s :=
    View.readAt_rep_unit _ _ _ rfl _
  iapply Hk
  isplitl [H10]
  · iexact H10
  isplitl [H11]
  · iexact H11
  isplitl [H12]
  · refine pointsTo_rep_of_read _ _ _ _ _ ?_
    refine (View.read_writes_full _ _ _ _ _).trans ?_
    rw [e21, e24, e10, e11]
    exact congrArg (k0_pay21 hc w2 (col s) w2s) (View.readAt_rep_unit _ _ _ hk _)
  isplitl [H21]
  · iexact H21
  isplitl [H23]
  · refine pointsTo_rep_of_read _ _ _ _ _ ?_
    refine (View.read_writes_full _ _ _ _ _).trans ?_
    rw [e21, e24, e10, e11]
  isplitl [H24]
  · iexact H24
  iexact H25

end Cert.Tail.Hand
-- ==== Proof.TailFloat.Values.lean ====
module

public import proofs.«01_k».proof.Proof.TailFloat.Body
public import proofs.«01_k».proof.Proof.Gen.Tail.Frame
public import proofs.«01_k».proof.Proof.Gen.Tail.Launch
public import proofs.«01_k».proof.Proof.Gen.Tail.Points
public import proofs.«01_k».proof.Proof.Gen.Tail.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Tail.Hand

open Cert.Tail Cert.Tail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule of the body, by the number of the grid point -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 4 := by decide +kernel
theorem cond3_iff : ∀ t : Fin grid0.N, k0_cond3 (grid0.coords t) = 1#1 ↔ t.val = 4 := by decide +kernel
theorem cond4_iff : ∀ t : Fin grid0.N, k0_cond4 (grid0.coords t) = 1#1 ↔ (4 ≤ t.val ∧ t.val < 15) := by decide +kernel
theorem cond5_iff : ∀ t : Fin grid0.N, k0_cond5 (grid0.coords t) = 1#1 ↔ t.val = 15 := by decide +kernel
theorem cond6_iff : ∀ t : Fin grid0.N, k0_cond6 (grid0.coords t) = 1#1 ↔ 15 ≤ t.val := by decide +kernel
theorem off1_eq : ∀ t : Fin grid0.N, t.val < 4 → k0_off1 (grid0.coords t) = ![t.val, 0, 0] := by decide +kernel
theorem off2_eq : ∀ t : Fin grid0.N, 4 ≤ t.val → t.val < 15 → k0_off2 (grid0.coords t) = ![t.val - 4, 0, 0] := by decide +kernel
theorem off3_eq : ∀ t : Fin grid0.N, 15 ≤ t.val → k0_off3 (grid0.coords t) = ![t.val - 15, 0, 0] := by decide +kernel

/-! ## Slabs -/

theorem slab4_put4 (r : Vec F S4x248x512 .f32) (k : Fin 4) (w) : slab4 (put4 r k w) k = w :=
  VecWindow.window_put_same _ _ _ _ _
theorem slab4_put4_of_ne (r : Vec F S4x248x512 .f32) (k k' : Fin 4) (w) (h : k ≠ k') :
    slab4 (put4 r k w) k' = slab4 r k' :=
  VecWindow.window_put_of_disjoint _ _ _ _ _ _ _ (0 : Fin 3) (by
    have : k.val ≠ k'.val := fun e => h (Fin.ext e)
    show k'.val + 1 ≤ k.val ∨ k.val + 1 ≤ k'.val
    omega)
theorem slab11_put11 (r : Vec F S11x248x512 .f32) (k : Fin 11) (w) : slab11 (put11 r k w) k = w :=
  VecWindow.window_put_same _ _ _ _ _
theorem slab11_put11_of_ne (r : Vec F S11x248x512 .f32) (k k' : Fin 11) (w) (h : k ≠ k') :
    slab11 (put11 r k w) k' = slab11 r k' :=
  VecWindow.window_put_of_disjoint _ _ _ _ _ _ _ (0 : Fin 3) (by
    have : k.val ≠ k'.val := fun e => h (Fin.ext e)
    show k'.val + 1 ≤ k.val ∨ k.val + 1 ≤ k'.val
    omega)

/-! ## The values the body computes, from the blocks of its inputs -/

/-- Grid point number `n`. -/
def pt (n : ℕ) : Fin cfg0.N := ⟨n % 19, Nat.mod_lt _ (by decide)⟩
theorem pt_val (t : Fin cfg0.N) : pt t.val = t := Fin.ext (Nat.mod_eq_of_lt (lt_of_lt_of_eq t.isLt N_0))

variable (m : (ℓ : Loc nD τ sig) → Buf (Elt F) ℓ) (ρ : Dev nD → PrngReg) (c : Dev nD)

def bx (t : Fin cfg0.N) : Vec F S248x512 .bf16 := iblk m c 0 t
def bo (t : Fin cfg0.N) : Vec F S248x3072 .f32 := iblk m c 1 t
def bw (t : Fin cfg0.N) : Vec F S3072x512 .fp8e4m3 := iblk m c 2 t
def bws (t : Fin cfg0.N) : Vec F S1x512 .f32 := iblk m c 3 t
def bn (t : Fin cfg0.N) : Vec F S1x2048 .f32 := iblk m c 4 t
def bwg (t : Fin cfg0.N) : Vec F S2048x512 .fp8e4m3 := iblk m c 5 t
def bgs (t : Fin cfg0.N) : Vec F S1x512 .f32 := iblk m c 6 t
def bwv (t : Fin cfg0.N) : Vec F S2048x512 .fp8e4m3 := iblk m c 7 t
def bvs (t : Fin cfg0.N) : Vec F S1x512 .f32 := iblk m c 8 t
def bw2 (t : Fin cfg0.N) : Vec F S5632x512 .fp8e4m3 := iblk m c 9 t
def bw2s (t : Fin cfg0.N) : Vec F S1x512 .f32 := iblk m c 10 t

/-- The first input's rows and the norm's weight, the same block at every point. -/
def oRows : Vec F S248x3072 .f32 := bo m c (pt 0)
def oCodes : Vec F S248x3072 .fp8e4m3 := k0_pay3 (oRows m c)
def oScale : Vec F S248x128 .f32 := k0_pay5 (oRows m c)
/-- The output projection's columns at point `n`, and the residual rows there. -/
def opAt (n : ℕ) : Vec F S248x1x512 .f32 := k0_pay8 (oCodes m c) (bw m c (pt n)) (col (oScale m c)) (bws m c (pt n))
def rAt (n : ℕ) : Vec F S1x248x512 .f32 :=
  k0_pay9 (oCodes m c) (bw m c (pt n)) (col (oScale m c)) (bws m c (pt n)) (bx m c (pt n))
/-- The normalised residual rows' scale and codes. -/
def nScale1 : Vec F S248x1 .f32 := k0_pay23 (rAt m c 0) (rAt m c 1) (rAt m c 2) (rAt m c 3) (bn m c (pt 4))
def nCodes : Vec F S248x2048 .fp8e4m3 :=
  k0_pay10 (k0_pay24 (rAt m c 0) (rAt m c 1) (rAt m c 2) (rAt m c 3) (bn m c (pt 4))) k0_pay25
def nScale : Vec F S248x128 .f32 := k0_pay12 (nScale1 m c)
/-- The gate, value and hidden columns at point `n`. -/
def gAt (n : ℕ) : Vec F S248x1x512 .f32 := k0_pay29 (nCodes m c) (bwg m c (pt n)) (col (nScale m c)) (bgs m c (pt n))
def vAt (n : ℕ) : Vec F S248x1x512 .f32 := k0_pay30 (nCodes m c) (bwv m c (pt n)) (col (nScale m c)) (bvs m c (pt n))
def hAt (n : ℕ) : Vec F S1x248x512 .f32 :=
  k0_pay14 (k0_pay31 (nCodes m c) (bwg m c (pt n)) (col (nScale m c)) (bgs m c (pt n)) (bwv m c (pt n)) (col (nScale m c)) (bvs m c (pt n)))
/-- The hidden rows' scale and codes. -/
def hScale1 : Vec F S248x1 .f32 :=
  k0_pay33 (k0_pay32 (hAt m c 4) (hAt m c 5) (hAt m c 6) (hAt m c 7) (hAt m c 8) (hAt m c 9))
    (hAt m c 10) (hAt m c 11) (hAt m c 12) (hAt m c 13) (hAt m c 14)
def hCodes : Vec F S248x5632 .fp8e4m3 := fun y => k0_pay15 (hScale1 m c) (hAt m c ((tileOf y).val + 4)) (inTile y)
def hScale : Vec F S248x128 .f32 := k0_pay17 (hScale1 m c)
/-- The last projection's columns at point `n`, and the result's. -/
def mpAt (n : ℕ) : Vec F S248x1x512 .f32 := k0_pay20 (hCodes m c) (bw2 m c (pt n)) (col (hScale m c)) (bw2s m c (pt n))
def outAt (n : ℕ) : Vec F S248x512 .bf16 :=
  k0_pay21 (hCodes m c) (bw2 m c (pt n)) (col (hScale m c)) (bw2s m c (pt n)) (rAt m c (n - 15))

/-! ## What the buffers hold after `n` grid points -/

/-- The scale scratch: each of the three scales in its turn. -/
def ScaleOk (n : ℕ) (s : Vec F S248x128 .f32) : Prop :=
  (1 ≤ n → n ≤ 4 → s = oScale m c) ∧ (5 ≤ n → n ≤ 15 → s = nScale m c) ∧ (16 ≤ n → s = hScale m c)
/-- The residual scratch: the slabs of the points done. -/
def ResOk (n : ℕ) (r : Vec F S4x248x512 .f32) : Prop := ∀ k : Fin 4, k.val < n → slab4 r k = rAt m c k.val
/-- The hidden scratch: the slabs of the points done. -/
def HidOk (n : ℕ) (h : Vec F S11x248x512 .f32) : Prop := ∀ k : Fin 11, k.val + 4 < n → slab11 h k = hAt m c (k.val + 4)

def Ok11 (n : ℕ) (X : Vec F S248x512 .bf16) : Prop := 16 ≤ n → X = outAt m c (n - 1)
def Ok12 (n : ℕ) (X : Vec F S248x1x3072 .f32) : Prop := 1 ≤ n → X = k0_pay1 (oRows m c)
def Ok13 (n : ℕ) (X : Vec F S248x3072 .fp8e4m3) : Prop := 1 ≤ n → X = oCodes m c
def Ok14 (n : ℕ) (X : Vec F S1x248 .f32) : Prop := 1 ≤ n → X = k0_pay6 (oRows m c)
def Ok15 (n : ℕ) (X : Vec F S248x1x512 .f32) : Prop := 1 ≤ n → X = opAt m c (min (n - 1) 3)
def Ok16 (n : ℕ) (X : Vec F S248x2048 .fp8e4m3) : Prop := 5 ≤ n → X = nCodes m c
def Ok17 (n : ℕ) (X : Vec F S1x248 .f32) : Prop := 5 ≤ n → X = k0_pay13 (nScale1 m c)
def Ok18 (n : ℕ) (X : Vec F S248x1x512 .f32) : Prop := 5 ≤ n → X = gAt m c (min (n - 1) 14)
def Ok19 (n : ℕ) (X : Vec F S248x1x512 .f32) : Prop := 5 ≤ n → X = vAt m c (min (n - 1) 14)
def Ok20 (n : ℕ) (X : Vec F S248x5632 .fp8e4m3) : Prop := 16 ≤ n → X = hCodes m c
def Ok21 (n : ℕ) (X : Vec F S1x248 .f32) : Prop := 16 ≤ n → X = k0_pay18 (hScale1 m c)
def Ok22 (n : ℕ) (X : Vec F S248x1x512 .f32) : Prop := 16 ≤ n → X = mpAt m c (n - 1)

variable {m c}

theorem normScale_eq {n : ℕ} {r : Vec F S4x248x512 .f32} (hn : 4 ≤ n) (h : ResOk m c n r) :
    normScale r (bn m c (pt 4)) = nScale1 m c := by
  unfold normScale nScale1
  rw [h 0 (by show 0 < n; omega), h 1 (by show 1 < n; omega), h 2 (by show 2 < n; omega), h 3 (by show 3 < n; omega)]
  rfl
theorem normCodes_eq {n : ℕ} {r : Vec F S4x248x512 .f32} (hn : 4 ≤ n) (h : ResOk m c n r) :
    normCodes r (bn m c (pt 4)) = nCodes m c := by
  unfold normCodes nCodes
  rw [h 0 (by show 0 < n; omega), h 1 (by show 1 < n; omega), h 2 (by show 2 < n; omega), h 3 (by show 3 < n; omega)]
  rfl
theorem hidScale_eq {n : ℕ} {r : Vec F S11x248x512 .f32} (hn : 15 ≤ n) (h : HidOk m c n r) :
    hidScale r = hScale1 m c := by
  have e : ∀ k : Fin 11, slab11 r k = hAt m c (k.val + 4) := fun k => h k (by have := k.isLt; omega)
  unfold hidScale hScale1
  simp only [e]
  rfl
theorem hidCodes_eq {n : ℕ} {r : Vec F S11x248x512 .f32} (hn : 15 ≤ n) (h : HidOk m c n r) :
    hidCodes r = hCodes m c := by
  funext y
  unfold hidCodes hCodes
  rw [hidScale_eq hn h, h (tileOf y) (by have := (tileOf y).isLt; omega)]

theorem ResOk.mono {n n' : ℕ} {r : Vec F S4x248x512 .f32} (h : ResOk m c n r) (hn : n' ≤ n ∨ 4 ≤ n) : ResOk m c n' r :=
  fun k hk => h k (by have := k.isLt; omega)
theorem HidOk.mono {n n' : ℕ} {r : Vec F S11x248x512 .f32} (h : HidOk m c n r) (hn : n' ≤ n ∨ n' ≤ 4 ∨ 15 ≤ n) : HidOk m c n' r :=
  fun k hk => h k (by have := k.isLt; omega)
theorem ResOk.put {n : ℕ} {r : Vec F S4x248x512 .f32} (h : ResOk m c n r) (hn : n < 4) :
    ResOk m c (n + 1) (put4 r ⟨n, hn⟩ (rAt m c n)) := by
  intro k hk
  by_cases e : (⟨n, hn⟩ : Fin 4) = k
  · subst e; exact slab4_put4 _ _ _
  · rw [slab4_put4_of_ne _ _ _ _ e]
    exact h k (by have : n ≠ k.val := fun e' => e (Fin.ext e'); omega)
theorem HidOk.put {n : ℕ} {r : Vec F S11x248x512 .f32} (h : HidOk m c n r) (hn : 4 ≤ n) (hn' : n < 15) :
    HidOk m c (n + 1) (put11 r ⟨n - 4, by omega⟩ (hAt m c n)) := by
  have hlt : n - 4 < 11 := by omega
  intro k hk
  by_cases e : (⟨n - 4, hlt⟩ : Fin 11) = k
  · subst e
    refine (slab11_put11 _ _ _).trans (congrArg (hAt m c) ?_)
    show n = n - 4 + 4
    omega
  · rw [slab11_put11_of_ne _ _ _ _ e]
    exact h k (by have : n - 4 ≠ k.val := fun e' => e (Fin.ext e'); omega)

end Cert.Tail.Hand
-- ==== Proof.TailFloat.Steps.lean ====
module

public import proofs.«01_k».proof.Proof.TailFloat.Values
public import proofs.«01_k».proof.Proof.Gen.Tail.Launch
public import proofs.«01_k».proof.Proof.Gen.Tail.Points
public import proofs.«01_k».proof.Proof.Gen.Tail.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Tail.Hand

open Cert.Tail Cert.Tail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (t : Fin cfg0.N)

/-! ## What the body may find in an output's staging buffer -/

def Find12 (X : Vec F S248x1x3072 .f32) : Prop := Ok12 m c t.val X
def Find13 (X : Vec F S248x3072 .fp8e4m3) : Prop := Ok13 m c t.val X
def Find14 (X : Vec F S1x248 .f32) : Prop := Ok14 m c t.val X
def Find15 (X : Vec F S248x1x512 .f32) : Prop := (4 ≤ t.val → Ok15 m c t.val X)
def Find16 (X : Vec F S248x2048 .fp8e4m3) : Prop := Ok16 m c t.val X
def Find17 (X : Vec F S1x248 .f32) : Prop := Ok17 m c t.val X
def Find18 (X : Vec F S248x1x512 .f32) : Prop := (15 ≤ t.val → Ok18 m c t.val X)
def Find19 (X : Vec F S248x1x512 .f32) : Prop := (15 ≤ t.val → Ok19 m c t.val X)
def Find20 (X : Vec F S248x5632 .fp8e4m3) : Prop := Ok20 m c t.val X
def Find21 (X : Vec F S1x248 .f32) : Prop := Ok21 m c t.val X

variable (arg1 : Memref sig .tc .vmem S248x512 .bf16) (harg1 : arg1.IsWhole) (arg2 : Memref sig .tc .vmem S248x3072 .f32) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x2048 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S2048x512 .fp8e4m3) (harg8 : arg8.IsWhole) (arg9 : Memref sig .tc .vmem S1x512 .f32) (harg9 : arg9.IsWhole) (arg10 : Memref sig .tc .vmem S5632x512 .fp8e4m3) (harg10 : arg10.IsWhole) (arg11 : Memref sig .tc .vmem S1x512 .f32) (harg11 : arg11.IsWhole) (arg12 : Memref sig .tc .vmem S248x512 .bf16)
  (harg12 : arg12.IsWhole) (arg13 : Memref sig .tc .vmem S248x1x3072 .f32) (harg13 : arg13.IsWhole) (arg14 : Memref sig .tc .vmem S248x3072 .fp8e4m3) (harg14 : arg14.IsWhole) (arg15 : Memref sig .tc .vmem S1x248 .f32) (harg15 : arg15.IsWhole) (arg16 : Memref sig .tc .vmem S248x1x512 .f32) (harg16 : arg16.IsWhole) (arg17 : Memref sig .tc .vmem S248x2048 .fp8e4m3) (harg17 : arg17.IsWhole) (arg18 : Memref sig .tc .vmem S1x248 .f32) (harg18 : arg18.IsWhole) (arg19 : Memref sig .tc .vmem S248x1x512 .f32) (harg19 : arg19.IsWhole) (arg20 : Memref sig .tc .vmem S248x1x512 .f32) (harg20 : arg20.IsWhole) (arg21 : Memref sig .tc .vmem S248x5632 .fp8e4m3) (harg21 : arg21.IsWhole) (arg22 : Memref sig .tc .vmem S1x248 .f32) (harg22 : arg22.IsWhole) (arg23 : Memref sig .tc .vmem S248x1x512 .f32) (harg23 : arg23.IsWhole) (arg24 : Memref sig .tc .vmem S248x128 .f32) (harg24 : arg24.IsWhole) (arg25 : Memref sig .tc .vmem S4x248x512 .f32) (harg25 : arg25.IsWhole) (arg26 : Memref sig .tc .vmem S11x248x512 .f32) (harg26 : arg26.IsWhole)

/-- The three scratch buffers after `n` points. -/
def scratchAt (n : ℕ) : sProp 𝕄 :=
  iprop(∃ s r h, ⌜ScaleOk m c n s ∧ ResOk m c n r ∧ HidOk m c n h⌝ ∗ own c arg24 s ∗ own c arg25 r ∗ own c arg26 h)

/-- What the body finds at point `t`. -/
def found (R : sProp 𝕄) : sProp 𝕄 :=
  iprop(R ∗ scratchAt m c arg24 arg25 arg26 t.val
    ∗ own c arg1 (bx m c t)
    ∗ own c arg2 (bo m c t)
    ∗ own c arg3 (bw m c t)
    ∗ own c arg4 (bws m c t)
    ∗ own c arg5 (bn m c t)
    ∗ own c arg6 (bwg m c t)
    ∗ own c arg7 (bgs m c t)
    ∗ own c arg8 (bwv m c t)
    ∗ own c arg9 (bvs m c t)
    ∗ own c arg10 (bw2 m c t)
    ∗ own c arg11 (bw2s m c t)
    ∗ (∃ X, ⌜True⌝ ∗ own c arg12 X)
    ∗ (∃ X, ⌜Find12 m c t X⌝ ∗ own c arg13 X)
    ∗ (∃ X, ⌜Find13 m c t X⌝ ∗ own c arg14 X)
    ∗ (∃ X, ⌜Find14 m c t X⌝ ∗ own c arg15 X)
    ∗ (∃ X, ⌜Find15 m c t X⌝ ∗ own c arg16 X)
    ∗ (∃ X, ⌜Find16 m c t X⌝ ∗ own c arg17 X)
    ∗ (∃ X, ⌜Find17 m c t X⌝ ∗ own c arg18 X)
    ∗ (∃ X, ⌜Find18 m c t X⌝ ∗ own c arg19 X)
    ∗ (∃ X, ⌜Find19 m c t X⌝ ∗ own c arg20 X)
    ∗ (∃ X, ⌜Find20 m c t X⌝ ∗ own c arg21 X)
    ∗ (∃ X, ⌜Find21 m c t X⌝ ∗ own c arg22 X)
    ∗ (∃ X, ⌜True⌝ ∗ own c arg23 X))

/-- What the body leaves at point `t`. -/
def left (R : sProp 𝕄) : sProp 𝕄 :=
  iprop(R ∗ scratchAt m c arg24 arg25 arg26 (t.val + 1)
    ∗ own c arg1 (bx m c t)
    ∗ own c arg2 (bo m c t)
    ∗ own c arg3 (bw m c t)
    ∗ own c arg4 (bws m c t)
    ∗ own c arg5 (bn m c t)
    ∗ own c arg6 (bwg m c t)
    ∗ own c arg7 (bgs m c t)
    ∗ own c arg8 (bwv m c t)
    ∗ own c arg9 (bvs m c t)
    ∗ own c arg10 (bw2 m c t)
    ∗ own c arg11 (bw2s m c t)
    ∗ (∃ X, ⌜Ok11 m c (t.val + 1) X⌝ ∗ own c arg12 X)
    ∗ (∃ X, ⌜Ok12 m c (t.val + 1) X⌝ ∗ own c arg13 X)
    ∗ (∃ X, ⌜Ok13 m c (t.val + 1) X⌝ ∗ own c arg14 X)
    ∗ (∃ X, ⌜Ok14 m c (t.val + 1) X⌝ ∗ own c arg15 X)
    ∗ (∃ X, ⌜Ok15 m c (t.val + 1) X⌝ ∗ own c arg16 X)
    ∗ (∃ X, ⌜Ok16 m c (t.val + 1) X⌝ ∗ own c arg17 X)
    ∗ (∃ X, ⌜Ok17 m c (t.val + 1) X⌝ ∗ own c arg18 X)
    ∗ (∃ X, ⌜Ok18 m c (t.val + 1) X⌝ ∗ own c arg19 X)
    ∗ (∃ X, ⌜Ok19 m c (t.val + 1) X⌝ ∗ own c arg20 X)
    ∗ (∃ X, ⌜Ok20 m c (t.val + 1) X⌝ ∗ own c arg21 X)
    ∗ (∃ X, ⌜Ok21 m c (t.val + 1) X⌝ ∗ own c arg22 X)
    ∗ (∃ X, ⌜Ok22 m c (t.val + 1) X⌝ ∗ own c arg23 X))

variable {m c t arg1 arg2 arg3 arg4 arg5 arg6 arg7 arg8 arg9 arg10 arg11 arg12 arg13 arg14 arg15 arg16 arg17 arg18 arg19 arg20 arg21 arg22 arg23 arg24 arg25 arg26} in
/-- The buffers at contents that are as they should be, put together. -/
theorem left_intro (R : sProp 𝕄) (s : Vec F S248x128 .f32) (r : Vec F S4x248x512 .f32) (h : Vec F S11x248x512 .f32)
    (X11 : Vec F S248x512 .bf16)    (X12 : Vec F S248x1x3072 .f32)    (X13 : Vec F S248x3072 .fp8e4m3)
    (X14 : Vec F S1x248 .f32)    (X15 : Vec F S248x1x512 .f32)    (X16 : Vec F S248x2048 .fp8e4m3)
    (X17 : Vec F S1x248 .f32)    (X18 : Vec F S248x1x512 .f32)    (X19 : Vec F S248x1x512 .f32)
    (X20 : Vec F S248x5632 .fp8e4m3)    (X21 : Vec F S1x248 .f32)    (X22 : Vec F S248x1x512 .f32)

    (hs : ScaleOk m c (t.val + 1) s) (hr : ResOk m c (t.val + 1) r) (hh : HidOk m c (t.val + 1) h)
    (h11 : Ok11 m c (t.val + 1) X11)    (h12 : Ok12 m c (t.val + 1) X12)    (h13 : Ok13 m c (t.val + 1) X13)
    (h14 : Ok14 m c (t.val + 1) X14)    (h15 : Ok15 m c (t.val + 1) X15)    (h16 : Ok16 m c (t.val + 1) X16)
    (h17 : Ok17 m c (t.val + 1) X17)    (h18 : Ok18 m c (t.val + 1) X18)    (h19 : Ok19 m c (t.val + 1) X19)
    (h20 : Ok20 m c (t.val + 1) X20)    (h21 : Ok21 m c (t.val + 1) X21)    (h22 : Ok22 m c (t.val + 1) X22)

    : iprop(R ∗ own c arg24 s ∗ own c arg25 r ∗ own c arg26 h
    ∗ own c arg1 (bx m c t)
    ∗ own c arg2 (bo m c t)
    ∗ own c arg3 (bw m c t)
    ∗ own c arg4 (bws m c t)
    ∗ own c arg5 (bn m c t)
    ∗ own c arg6 (bwg m c t)
    ∗ own c arg7 (bgs m c t)
    ∗ own c arg8 (bwv m c t)
    ∗ own c arg9 (bvs m c t)
    ∗ own c arg10 (bw2 m c t)
    ∗ own c arg11 (bw2s m c t)
    ∗ own c arg12 X11
    ∗ own c arg13 X12
    ∗ own c arg14 X13
    ∗ own c arg15 X14
    ∗ own c arg16 X15
    ∗ own c arg17 X16
    ∗ own c arg18 X17
    ∗ own c arg19 X18
    ∗ own c arg20 X19
    ∗ own c arg21 X20
    ∗ own c arg22 X21
    ∗ own c arg23 X22)
    ⊢ left m c t arg1 arg2 arg3 arg4 arg5 arg6 arg7 arg8 arg9 arg10 arg11 arg12 arg13 arg14 arg15 arg16 arg17 arg18 arg19 arg20 arg21 arg22 arg23 arg24 arg25 arg26 R := by
  unfold left scratchAt
  iintro ⟨HR, H24, H25, H26, H1, H2, H3, H4, H5, H6, H7, H8, H9, H10, H11, H12, H13, H14, H15, H16, H17, H18, H19, H20, H21, H22, H23⟩
  isplitl [HR]
  · iexact HR
  isplitl [H24 H25 H26]
  · iexists s, r, h
    isplitr
    · ipureintro; exact ⟨hs, hr, hh⟩
    isplitl [H24]
    · iexact H24
    isplitl [H25]
    · iexact H25
    iexact H26
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists X11
    isplitr
    · ipureintro; exact h11
    iexact H12
  isplitl [H13]
  · iexists X12
    isplitr
    · ipureintro; exact h12
    iexact H13
  isplitl [H14]
  · iexists X13
    isplitr
    · ipureintro; exact h13
    iexact H14
  isplitl [H15]
  · iexists X14
    isplitr
    · ipureintro; exact h14
    iexact H15
  isplitl [H16]
  · iexists X15
    isplitr
    · ipureintro; exact h15
    iexact H16
  isplitl [H17]
  · iexists X16
    isplitr
    · ipureintro; exact h16
    iexact H17
  isplitl [H18]
  · iexists X17
    isplitr
    · ipureintro; exact h17
    iexact H18
  isplitl [H19]
  · iexists X18
    isplitr
    · ipureintro; exact h18
    iexact H19
  isplitl [H20]
  · iexists X19
    isplitr
    · ipureintro; exact h19
    iexact H20
  isplitl [H21]
  · iexists X20
    isplitr
    · ipureintro; exact h20
    iexact H21
  isplitl [H22]
  · iexists X21
    isplitr
    · ipureintro; exact h21
    iexact H22
  iexists X22
  isplitr
  · ipureintro; exact h22
  iexact H23

/-! ## Carrying the facts over a point that does not touch the buffer -/

variable {m c}
theorem Ok12.step {n : ℕ} {X : Vec F S248x1x3072 .f32} (h : Ok12 m c n X) (hn : 1 ≤ n) : Ok12 m c (n + 1) X := fun _ => h hn
theorem Ok13.step {n : ℕ} {X : Vec F S248x3072 .fp8e4m3} (h : Ok13 m c n X) (hn : 1 ≤ n) : Ok13 m c (n + 1) X := fun _ => h hn
theorem Ok14.step {n : ℕ} {X : Vec F S1x248 .f32} (h : Ok14 m c n X) (hn : 1 ≤ n) : Ok14 m c (n + 1) X := fun _ => h hn
theorem Ok15.step {n : ℕ} {X : Vec F S248x1x512 .f32} (h : Ok15 m c n X) (hn : 4 ≤ n) : Ok15 m c (n + 1) X := fun _ => by
  rw [h (by omega), show min (n - 1) 3 = min (n + 1 - 1) 3 by omega]
theorem Ok16.step {n : ℕ} {X : Vec F S248x2048 .fp8e4m3} (h : Ok16 m c n X) (hn : 5 ≤ n) : Ok16 m c (n + 1) X := fun _ => h hn
theorem Ok17.step {n : ℕ} {X : Vec F S1x248 .f32} (h : Ok17 m c n X) (hn : 5 ≤ n) : Ok17 m c (n + 1) X := fun _ => h hn
theorem Ok18.step {n : ℕ} {X : Vec F S248x1x512 .f32} (h : Ok18 m c n X) (hn : 15 ≤ n) : Ok18 m c (n + 1) X := fun _ => by
  rw [h (by omega), show min (n - 1) 14 = min (n + 1 - 1) 14 by omega]
theorem Ok19.step {n : ℕ} {X : Vec F S248x1x512 .f32} (h : Ok19 m c n X) (hn : 15 ≤ n) : Ok19 m c (n + 1) X := fun _ => by
  rw [h (by omega), show min (n - 1) 14 = min (n + 1 - 1) 14 by omega]
theorem Ok20.step {n : ℕ} {X : Vec F S248x5632 .fp8e4m3} (h : Ok20 m c n X) (hn : 16 ≤ n) : Ok20 m c (n + 1) X := fun _ => h hn
theorem Ok21.step {n : ℕ} {X : Vec F S1x248 .f32} (h : Ok21 m c n X) (hn : 16 ≤ n) : Ok21 m c (n + 1) X := fun _ => h hn
theorem ScaleOk.step {n : ℕ} {s : Vec F S248x128 .f32} (h : ScaleOk m c n s) (h0 : n ≠ 0) (h4 : n ≠ 4) (h15 : n ≠ 15) :
    ScaleOk m c (n + 1) s :=
  ⟨fun _ _ => h.1 (by omega) (by omega), fun _ _ => h.2.1 (by omega) (by omega), fun _ => h.2.2 (by omega)⟩

variable (m c)
theorem opAt_val : opAt m c t.val = k0_pay8 (oCodes m c) (bw m c t) (col (oScale m c)) (bws m c t) := by
  unfold opAt; rw [pt_val]
theorem rAt_val : rAt m c t.val = k0_pay9 (oCodes m c) (bw m c t) (col (oScale m c)) (bws m c t) (bx m c t) := by
  unfold rAt; rw [pt_val]
theorem gAt_val : gAt m c t.val = k0_pay29 (nCodes m c) (bwg m c t) (col (nScale m c)) (bgs m c t) := by
  unfold gAt; rw [pt_val]
theorem vAt_val : vAt m c t.val = k0_pay30 (nCodes m c) (bwv m c t) (col (nScale m c)) (bvs m c t) := by
  unfold vAt; rw [pt_val]
theorem hAt_val : hAt m c t.val = k0_pay14 (k0_pay31 (nCodes m c) (bwg m c t) (col (nScale m c)) (bgs m c t)
    (bwv m c t) (col (nScale m c)) (bvs m c t)) := by
  unfold hAt; rw [pt_val]
theorem mpAt_val : mpAt m c t.val = k0_pay20 (hCodes m c) (bw2 m c t) (col (hScale m c)) (bw2s m c t) := by
  unfold mpAt; rw [pt_val]
theorem outAt_val : outAt m c t.val = k0_pay21 (hCodes m c) (bw2 m c t) (col (hScale m c)) (bw2s m c t) (rAt m c (t.val - 15)) := by
  unfold outAt; rw [pt_val]
theorem oRows_of (h : t.val = 0) : bo m c t = oRows m c := by
  unfold oRows; rw [← pt_val t, h]
theorem bn_of (h : t.val = 4) : bn m c t = bn m c (pt 4) := by
  conv_lhs => rw [← pt_val t, h]

/-! ## The body at a point of each kind -/

set_option maxHeartbeats 2000000 in
/-- The first point. -/
theorem step_first (R : sProp 𝕄) (ht : t.val = 0) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  have eo := oRows_of m c t ht
  iapply (run_first c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (cond1_iff t |>.mpr (by omega)) (cond2_iff t |>.mpr (by omega)) (fun hc => absurd ((cond3_iff t).mp hc) (by omega)) (fun hc => absurd ((cond4_iff t).mp hc) (by omega)) (fun hc => absurd ((cond5_iff t).mp hc) (by omega)) (fun hc => absurd ((cond6_iff t).mp hc) (by omega))
      ⟨t.val, by omega⟩ (off1_eq t (by omega)) (bx m c t) (bo m c t) (bw m c t) (bws m c t) X12 X13 X14 X15 s r _)
  iframe H1 H2 H3 H4 H13 H14 H15 H16 H24 H25
  iintro ⟨H1, H2, H3, H4, H13, H14, H15, H16, H24, H25⟩
  iapply (left_intro (t := t) R (k0_pay5 (bo m c t)) (put4 r ⟨t.val, by omega⟩ (k0_pay9 (k0_pay3 (bo m c t)) (bw m c t) (col (k0_pay5 (bo m c t))) (bws m c t) (bx m c t))) h
      X11 (k0_pay1 (bo m c t)) (k0_pay3 (bo m c t)) (k0_pay6 (bo m c t)) (k0_pay8 (k0_pay3 (bo m c t)) (bw m c t) (col (k0_pay5 (bo m c t))) (bws m c t)) X16 X17 X18 X19 X20 X21 X22
      ⟨fun _ _ => by rw [eo]; rfl, fun hc => absurd hc (by omega), fun hc => absurd hc (by omega)⟩ (by rw [eo]; exact (rAt_val m c t) ▸ hr.put (by omega)) (hh.mono (by omega))
      (fun hc => absurd hc (by omega))
      (fun _ => by rw [eo])
      (fun _ => by rw [eo]; rfl)
      (fun _ => by rw [eo])
      (fun _ => by rw [eo, show min (t.val + 1 - 1) 3 = t.val by omega]; exact (opAt_val m c t).symm)
      (fun hc => absurd hc (by omega))
      (fun hc => absurd hc (by omega))
      (fun hc => absurd hc (by omega))
      (fun hc => absurd hc (by omega))
      (fun hc => absurd hc (by omega))
      (fun hc => absurd hc (by omega))
      (fun hc => absurd hc (by omega)))
  iframe HR H24 H25 H26 H1 H2 H3 H4 H5 H6 H7 H8 H9 H10 H11 H12 H13 H14 H15 H16 H17 H18 H19 H20 H21 H22 H23

set_option maxHeartbeats 2000000 in
/-- The points that take one more tile of the first product. -/
theorem step_out (R : sProp 𝕄) (ht : 1 ≤ t.val) (ht' : t.val < 4) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  obtain rfl := E13 (by omega)
  obtain rfl := hs.1 (by omega) (by omega)
  iapply (run_out c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (cond2_iff t |>.mpr (by omega)) (fun hc => absurd ((cond3_iff t).mp hc) (by omega)) (fun hc => absurd ((cond4_iff t).mp hc) (by omega)) (fun hc => absurd ((cond5_iff t).mp hc) (by omega)) (fun hc => absurd ((cond6_iff t).mp hc) (by omega))
      ⟨t.val, ht'⟩ (off1_eq t ht') (bx m c t) (bw m c t) (bws m c t) (oCodes m c) X15 (oScale m c) r _)
  iframe H1 H3 H4 H14 H16 H24 H25
  iintro ⟨H1, H3, H4, H14, H16, H24, H25⟩
  iapply (left_intro (t := t) R (oScale m c) (put4 r ⟨t.val, ht'⟩ (k0_pay9 (oCodes m c) (bw m c t) (col (oScale m c)) (bws m c t) (bx m c t))) h
      X11 X12 (oCodes m c) X14 (k0_pay8 (oCodes m c) (bw m c t) (col (oScale m c)) (bws m c t)) X16 X17 X18 X19 X20 X21 X22
      (hs.step (by omega) (by omega) (by omega)) ((rAt_val m c t) ▸ hr.put ht') (hh.mono (by omega))
      (fun hc => absurd hc (by omega))
      (E12.step ht)
      (E13.step ht)
      (E14.step ht)
      (fun _ => by rw [show min (t.val + 1 - 1) 3 = t.val by omega]; exact (opAt_val m c t).symm)
      (fun hc => absurd hc (by omega))
      (fun hc => absurd hc (by omega))
      (fun hc => absurd hc (by omega))
      (fun hc => absurd hc (by omega))
      (fun hc => absurd hc (by omega))
      (fun hc => absurd hc (by omega))
      (fun hc => absurd hc (by omega)))
  iframe HR H24 H25 H26 H1 H2 H3 H4 H5 H6 H7 H8 H9 H10 H11 H12 H13 H14 H15 H16 H17 H18 H19 H20 H21 H22 H23

set_option maxHeartbeats 2000000 in
/-- The point that norms and quantises the residual rows and takes the first hidden tile. -/
theorem step_norm (R : sProp 𝕄) (ht : t.val = 4) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  have en := bn_of m c t ht
  have eS : normScale r (bn m c t) = nScale1 m c := by rw [en]; exact normScale_eq (by omega) hr
  have eC : normCodes r (bn m c t) = nCodes m c := by rw [en]; exact normCodes_eq (by omega) hr
  iapply (run_norm c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (fun hc => absurd ((cond2_iff t).mp hc) (by omega)) (cond3_iff t |>.mpr (by omega)) (cond4_iff t |>.mpr (by omega)) (fun hc => absurd ((cond5_iff t).mp hc) (by omega)) (fun hc => absurd ((cond6_iff t).mp hc) (by omega))
      ⟨t.val - 4, by omega⟩ (off2_eq t (by omega) (by omega)) (bn m c t) (bwg m c t) (bgs m c t) (bwv m c t) (bvs m c t) X16 X17 X18 X19 s r h _)
  iframe H5 H6 H7 H8 H9 H17 H18 H19 H20 H24 H25 H26
  iintro ⟨H5, H6, H7, H8, H9, H17, H18, H19, H20, H24, H25, H26⟩
  iapply (left_intro (t := t) R (k0_pay12 (normScale r (bn m c t))) r (put11 h ⟨t.val - 4, by omega⟩ (k0_pay14 (k0_pay31 (normCodes r (bn m c t)) (bwg m c t) (col (k0_pay12 (normScale r (bn m c t)))) (bgs m c t) (bwv m c t) (col (k0_pay12 (normScale r (bn m c t)))) (bvs m c t))))
      X11 X12 X13 X14 X15 (normCodes r (bn m c t)) (k0_pay13 (normScale r (bn m c t))) (k0_pay29 (normCodes r (bn m c t)) (bwg m c t) (col (k0_pay12 (normScale r (bn m c t)))) (bgs m c t)) (k0_pay30 (normCodes r (bn m c t)) (bwv m c t) (col (k0_pay12 (normScale r (bn m c t)))) (bvs m c t)) X20 X21 X22
      ⟨fun _ hc => absurd hc (by omega), fun _ _ => by rw [eS]; rfl, fun hc => absurd hc (by omega)⟩ (hr.mono (by omega)) (by rw [eS, eC]; exact (hAt_val m c t) ▸ hh.put (by omega) (by omega))
      (fun hc => absurd hc (by omega))
      (E12.step (by omega))
      (E13.step (by omega))
      (E14.step (by omega))
      ((E15 (by omega)).step (by omega))
      (fun _ => eC)
      (fun _ => by rw [eS])
      (fun _ => by rw [eS, eC, show min (t.val + 1 - 1) 14 = t.val by omega]; exact (gAt_val m c t).symm)
      (fun _ => by rw [eS, eC, show min (t.val + 1 - 1) 14 = t.val by omega]; exact (vAt_val m c t).symm)
      (fun hc => absurd hc (by omega))
      (fun hc => absurd hc (by omega))
      (fun hc => absurd hc (by omega)))
  iframe HR H24 H25 H26 H1 H2 H3 H4 H5 H6 H7 H8 H9 H10 H11 H12 H13 H14 H15 H16 H17 H18 H19 H20 H21 H22 H23

set_option maxHeartbeats 2000000 in
/-- The points that take one more hidden tile. -/
theorem step_mlp (R : sProp 𝕄) (ht : 5 ≤ t.val) (ht' : t.val < 15) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  obtain rfl := E16 (by omega)
  obtain rfl := hs.2.1 (by omega) (by omega)
  iapply (run_mlp c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (fun hc => absurd ((cond2_iff t).mp hc) (by omega)) (fun hc => absurd ((cond3_iff t).mp hc) (by omega)) (cond4_iff t |>.mpr (by omega)) (fun hc => absurd ((cond5_iff t).mp hc) (by omega)) (fun hc => absurd ((cond6_iff t).mp hc) (by omega))
      ⟨t.val - 4, by omega⟩ (off2_eq t (by omega) ht') (bwg m c t) (bgs m c t) (bwv m c t) (bvs m c t) (nCodes m c) X18 X19 (nScale m c) h _)
  iframe H6 H7 H8 H9 H17 H19 H20 H24 H26
  iintro ⟨H6, H7, H8, H9, H17, H19, H20, H24, H26⟩
  iapply (left_intro (t := t) R (nScale m c) r (put11 h ⟨t.val - 4, by omega⟩ (k0_pay14 (k0_pay31 (nCodes m c) (bwg m c t) (col (nScale m c)) (bgs m c t) (bwv m c t) (col (nScale m c)) (bvs m c t))))
      X11 X12 X13 X14 X15 (nCodes m c) X17 (k0_pay29 (nCodes m c) (bwg m c t) (col (nScale m c)) (bgs m c t)) (k0_pay30 (nCodes m c) (bwv m c t) (col (nScale m c)) (bvs m c t)) X20 X21 X22
      (hs.step (by omega) (by omega) (by omega)) (hr.mono (by omega)) ((hAt_val m c t) ▸ hh.put (by omega) ht')
      (fun hc => absurd hc (by omega))
      (E12.step (by omega))
      (E13.step (by omega))
      (E14.step (by omega))
      ((E15 (by omega)).step (by omega))
      (E16.step ht)
      (E17.step ht)
      (fun _ => by rw [show min (t.val + 1 - 1) 14 = t.val by omega]; exact (gAt_val m c t).symm)
      (fun _ => by rw [show min (t.val + 1 - 1) 14 = t.val by omega]; exact (vAt_val m c t).symm)
      (fun hc => absurd hc (by omega))
      (fun hc => absurd hc (by omega))
      (fun hc => absurd hc (by omega)))
  iframe HR H24 H25 H26 H1 H2 H3 H4 H5 H6 H7 H8 H9 H10 H11 H12 H13 H14 H15 H16 H17 H18 H19 H20 H21 H22 H23

set_option maxHeartbeats 2000000 in
/-- The point that quantises the hidden rows and takes the first tile of the last product. -/
theorem step_hid (R : sProp 𝕄) (ht : t.val = 15) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  have eS : hidScale h = hScale1 m c := hidScale_eq (by omega) hh
  have eC : hidCodes h = hCodes m c := hidCodes_eq (by omega) hh
  have eR : slab4 r ⟨t.val - 15, by omega⟩ = rAt m c (t.val - 15) := hr _ (by show t.val - 15 < t.val; omega)
  iapply (run_hid c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (fun hc => absurd ((cond2_iff t).mp hc) (by omega)) (fun hc => absurd ((cond3_iff t).mp hc) (by omega)) (fun hc => absurd ((cond4_iff t).mp hc) (by omega)) (cond5_iff t |>.mpr (by omega)) (cond6_iff t |>.mpr (by omega))
      ⟨t.val - 15, by omega⟩ (off3_eq t (by omega)) (bw2 m c t) (bw2s m c t) X11 X20 X21 X22 s r h _)
  iframe H10 H11 H12 H21 H22 H23 H24 H25 H26
  iintro ⟨H10, H11, H12, H21, H22, H23, H24, H25, H26⟩
  iapply (left_intro (t := t) R (k0_pay17 (hidScale h)) r h
      (k0_pay21 (hidCodes h) (bw2 m c t) (col (k0_pay17 (hidScale h))) (bw2s m c t) (slab4 r ⟨t.val - 15, by omega⟩)) X12 X13 X14 X15 X16 X17 X18 X19 (hidCodes h) (k0_pay18 (hidScale h)) (k0_pay20 (hidCodes h) (bw2 m c t) (col (k0_pay17 (hidScale h))) (bw2s m c t))
      ⟨fun _ hc => absurd hc (by omega), fun _ hc => absurd hc (by omega), fun _ => by rw [eS]; rfl⟩ (hr.mono (by omega)) (hh.mono (by omega))
      (fun _ => by rw [eS, eC, eR, Nat.add_sub_cancel]; exact (outAt_val m c t).symm)
      (E12.step (by omega))
      (E13.step (by omega))
      (E14.step (by omega))
      ((E15 (by omega)).step (by omega))
      (E16.step (by omega))
      (E17.step (by omega))
      ((E18 (by omega)).step (by omega))
      ((E19 (by omega)).step (by omega))
      (fun _ => eC)
      (fun _ => by rw [eS])
      (fun _ => by rw [eS, eC, Nat.add_sub_cancel]; exact (mpAt_val m c t).symm))
  iframe HR H24 H25 H26 H1 H2 H3 H4 H5 H6 H7 H8 H9 H10 H11 H12 H13 H14 H15 H16 H17 H18 H19 H20 H21 H22 H23

set_option maxHeartbeats 2000000 in
/-- The points that take one more tile of the last product. -/
theorem step_proj (R : sProp 𝕄) (ht : 16 ≤ t.val) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  obtain rfl := E20 (by omega)
  obtain rfl := hs.2.2 (by omega)
  have hlt : t.val < 19 := lt_of_lt_of_eq t.isLt N_0
  have eR : slab4 r ⟨t.val - 15, by omega⟩ = rAt m c (t.val - 15) := hr _ (by show t.val - 15 < t.val; omega)
  iapply (run_proj c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (fun hc => absurd ((cond2_iff t).mp hc) (by omega)) (fun hc => absurd ((cond3_iff t).mp hc) (by omega)) (fun hc => absurd ((cond4_iff t).mp hc) (by omega)) (fun hc => absurd ((cond5_iff t).mp hc) (by omega)) (cond6_iff t |>.mpr (by omega))
      ⟨t.val - 15, by omega⟩ (off3_eq t (by omega)) (bw2 m c t) (bw2s m c t) X11 (hCodes m c) X22 (hScale m c) r _)
  iframe H10 H11 H12 H21 H23 H24 H25
  iintro ⟨H10, H11, H12, H21, H23, H24, H25⟩
  iapply (left_intro (t := t) R (hScale m c) r h
      (k0_pay21 (hCodes m c) (bw2 m c t) (col (hScale m c)) (bw2s m c t) (slab4 r ⟨t.val - 15, by omega⟩)) X12 X13 X14 X15 X16 X17 X18 X19 (hCodes m c) X21 (k0_pay20 (hCodes m c) (bw2 m c t) (col (hScale m c)) (bw2s m c t))
      (hs.step (by omega) (by omega) (by omega)) (hr.mono (by omega)) (hh.mono (by omega))
      (fun _ => by rw [eR, Nat.add_sub_cancel]; exact (outAt_val m c t).symm)
      (E12.step (by omega))
      (E13.step (by omega))
      (E14.step (by omega))
      ((E15 (by omega)).step (by omega))
      (E16.step (by omega))
      (E17.step (by omega))
      ((E18 (by omega)).step (by omega))
      ((E19 (by omega)).step (by omega))
      (E20.step ht)
      (E21.step ht)
      (fun _ => by rw [Nat.add_sub_cancel]; exact (mpAt_val m c t).symm))
  iframe HR H24 H25 H26 H1 H2 H3 H4 H5 H6 H7 H8 H9 H10 H11 H12 H13 H14 H15 H16 H17 H18 H19 H20 H21 H22 H23

end Cert.Tail.Hand
-- ==== Proof.TailFloat.Run.lean ====
module

public import proofs.«01_k».proof.Proof.TailFloat.Steps
public import proofs.«01_k».proof.Proof.Gen.Tail.Launch
public import Idealize.ShloMosaic.Lib.Pipeline.DatRel
public import Idealize.ShloMosaic.Lib.Pipeline.ArrRel
public import proofs.«01_k».proof.Proof.Gen.Tail.Points
public import proofs.«01_k».proof.Proof.Gen.Tail.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Tail.Hand

open Cert.Tail Cert.Tail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch after `n` points, and the core's random-number register. -/
def carried (c : Dev nD) (n : ℕ) : sProp 𝕄 :=
  iprop(scratchAt m c (Memref.whole cc0_scratch0) (Memref.whole cc0_scratch1) (Memref.whole cc0_scratch2) n ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t.val
    | ⟨12, _⟩ => k0_pay1 (oRows m c)
    | ⟨13, _⟩ => oCodes m c
    | ⟨14, _⟩ => k0_pay6 (oRows m c)
    | ⟨15, _⟩ => opAt m c t.val
    | ⟨16, _⟩ => nCodes m c
    | ⟨17, _⟩ => k0_pay13 (nScale1 m c)
    | ⟨18, _⟩ => gAt m c t.val
    | ⟨19, _⟩ => vAt m c t.val
    | ⟨20, _⟩ => hCodes m c
    | ⟨21, _⟩ => k0_pay18 (hScale1 m c)
    | ⟨22, _⟩ => mpAt m c t.val
    | ⟨_ + 23, h⟩ => absurd h (Nat.not_lt.2 (Nat.le_add_left _ _))
  Φ n := carried m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = bx m c t :=
  before0_0_of m (dats m 0 c) (A_eq m c 0) (after0_0 m c) t d
theorem before0_1 (c : Dev nD) (t : Fin cfg0.N) (d) : (dats m 0 c).before 1 t d = bo m c t :=
  before0_1_of m (dats m 0 c) (A_eq m c 1) (after0_1 m c) t d
theorem before0_2 (c : Dev nD) (t : Fin cfg0.N) (d) : (dats m 0 c).before 2 t d = bw m c t :=
  before0_2_of m (dats m 0 c) (A_eq m c 2) (after0_2 m c) t d
theorem before0_3 (c : Dev nD) (t : Fin cfg0.N) (d) : (dats m 0 c).before 3 t d = bws m c t :=
  before0_3_of m (dats m 0 c) (A_eq m c 3) (after0_3 m c) t d
theorem before0_4 (c : Dev nD) (t : Fin cfg0.N) (d) : (dats m 0 c).before 4 t d = bn m c t :=
  before0_4_of m (dats m 0 c) (A_eq m c 4) (after0_4 m c) t d
theorem before0_5 (c : Dev nD) (t : Fin cfg0.N) (d) : (dats m 0 c).before 5 t d = bwg m c t :=
  before0_5_of m (dats m 0 c) (A_eq m c 5) (after0_5 m c) t d
theorem before0_6 (c : Dev nD) (t : Fin cfg0.N) (d) : (dats m 0 c).before 6 t d = bgs m c t :=
  before0_6_of m (dats m 0 c) (A_eq m c 6) (after0_6 m c) t d
theorem before0_7 (c : Dev nD) (t : Fin cfg0.N) (d) : (dats m 0 c).before 7 t d = bwv m c t :=
  before0_7_of m (dats m 0 c) (A_eq m c 7) (after0_7 m c) t d
theorem before0_8 (c : Dev nD) (t : Fin cfg0.N) (d) : (dats m 0 c).before 8 t d = bvs m c t :=
  before0_8_of m (dats m 0 c) (A_eq m c 8) (after0_8 m c) t d
theorem before0_9 (c : Dev nD) (t : Fin cfg0.N) (d) : (dats m 0 c).before 9 t d = bw2 m c t :=
  before0_9_of m (dats m 0 c) (A_eq m c 9) (after0_9 m c) t d
theorem before0_10 (c : Dev nD) (t : Fin cfg0.N) (d) : (dats m 0 c).before 10 t d = bw2s m c t :=
  before0_10_of m (dats m 0 c) (A_eq m c 10) (after0_10 m c) t d

/-- The outputs, whose buffers the body need not leave at one value. -/
def isOut (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => true

/-- What the body leaves in an output's buffer at a point. -/
def leaves (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun _ => True
  | ⟨11, _⟩ => fun X => Ok11 m c (t.val + 1) X
  | ⟨12, _⟩ => fun X => Ok12 m c (t.val + 1) X
  | ⟨13, _⟩ => fun X => Ok13 m c (t.val + 1) X
  | ⟨14, _⟩ => fun X => Ok14 m c (t.val + 1) X
  | ⟨15, _⟩ => fun X => Ok15 m c (t.val + 1) X
  | ⟨16, _⟩ => fun X => Ok16 m c (t.val + 1) X
  | ⟨17, _⟩ => fun X => Ok17 m c (t.val + 1) X
  | ⟨18, _⟩ => fun X => Ok18 m c (t.val + 1) X
  | ⟨19, _⟩ => fun X => Ok19 m c (t.val + 1) X
  | ⟨20, _⟩ => fun X => Ok20 m c (t.val + 1) X
  | ⟨21, _⟩ => fun X => Ok21 m c (t.val + 1) X
  | ⟨22, _⟩ => fun X => Ok22 m c (t.val + 1) X
  | ⟨_ + 23, h⟩ => absurd h (Nat.not_lt.2 (Nat.le_add_left _ _))

abbrev rdat (c : Dev nD) : Pipeline.RDat τ (Elt F) Unit ℕ (UR sig nD τ) ℕ cfg0 c := (dats m 0 c).toRRel isOut (leaves m c)

/-! ## What the body may find in an output's buffer -/

theorem prev_lt (t : Fin cfg0.N) : t.val - 1 < cfg0.N := Nat.lt_of_le_of_lt (Nat.sub_le _ _) t.isLt

/-- Found after the first point, in a buffer not just written back: what the point before left. -/
theorem leaves_of_finds (c : Dev nD) (w : Fin cfg0.W) (hw : isOut w = true) (t : Fin cfg0.N) (hf : (cfg0.win w).fetch t = false)
    (h0 : t.val ≠ 0) (hfl : ¬ (cfg0.win w).flush ⟨t.val - 1, prev_lt t⟩ = true)
    (X : (cfg0.win w).block.Idx → Elt F (cfg0.win w).elt) (h : (rdat m c).Finds w t X) :
    leaves m c w ⟨t.val - 1, prev_lt t⟩ X :=
  (dats m 0 c).toRRel_leaves hw ((((rdat m c).finds_of_pos hf h0 X).mp h).resolve_left hfl)

theorem flush15 : ∀ t : Fin grid0.N, win0_15.flush t = true → t.val < 3 ∨ t.val = 18 := by decide +kernel
theorem flush18 : ∀ t : Fin grid0.N, win0_18.flush t = true → t.val < 14 ∨ t.val = 18 := by decide +kernel
theorem flush19 : ∀ t : Fin grid0.N, win0_19.flush t = true → t.val < 14 ∨ t.val = 18 := by decide +kernel

theorem find12 (c : Dev nD) (t : Fin cfg0.N) (X : Vec F S248x1x3072 .f32) (h : (rdat m c).Finds 12 t X) : Find12 m c t X := by
  by_cases h0 : t.val = 0
  · exact fun hc => absurd hc (by omega)
  have hlt := lt_of_lt_of_eq t.isLt N_0
  have h' : Ok12 m c (t.val - 1 + 1) X := leaves_of_finds m c 12 rfl t rfl h0 (fun hc => by
    have hd : (t.val - 1) % 19 = 18 := (flush0_12 ⟨t.val - 1, prev_lt t⟩).mp hc
    omega) X h
  rwa [Nat.sub_add_cancel (by omega)] at h'
theorem find13 (c : Dev nD) (t : Fin cfg0.N) (X : Vec F S248x3072 .fp8e4m3) (h : (rdat m c).Finds 13 t X) : Find13 m c t X := by
  by_cases h0 : t.val = 0
  · exact fun hc => absurd hc (by omega)
  have hlt := lt_of_lt_of_eq t.isLt N_0
  have h' : Ok13 m c (t.val - 1 + 1) X := leaves_of_finds m c 13 rfl t rfl h0 (fun hc => by
    have hd : (t.val - 1) % 19 = 18 := (flush0_13 ⟨t.val - 1, prev_lt t⟩).mp hc
    omega) X h
  rwa [Nat.sub_add_cancel (by omega)] at h'
theorem find14 (c : Dev nD) (t : Fin cfg0.N) (X : Vec F S1x248 .f32) (h : (rdat m c).Finds 14 t X) : Find14 m c t X := by
  by_cases h0 : t.val = 0
  · exact fun hc => absurd hc (by omega)
  have hlt := lt_of_lt_of_eq t.isLt N_0
  have h' : Ok14 m c (t.val - 1 + 1) X := leaves_of_finds m c 14 rfl t rfl h0 (fun hc => by
    have hd : (t.val - 1) % 19 = 18 := (flush0_14 ⟨t.val - 1, prev_lt t⟩).mp hc
    omega) X h
  rwa [Nat.sub_add_cancel (by omega)] at h'
theorem find15 (c : Dev nD) (t : Fin cfg0.N) (X : Vec F S248x1x512 .f32) (h : (rdat m c).Finds 15 t X) : Find15 m c t X := by
  intro ht
  have h0 : t.val ≠ 0 := by omega
  have hlt := lt_of_lt_of_eq t.isLt N_0
  have h' : Ok15 m c (t.val - 1 + 1) X := leaves_of_finds m c 15 rfl t rfl h0 (fun hc => by
    have hd : t.val - 1 < 3 ∨ t.val - 1 = 18 := flush15 ⟨t.val - 1, prev_lt t⟩ hc
    omega) X h
  rwa [Nat.sub_add_cancel (by omega)] at h'
theorem find16 (c : Dev nD) (t : Fin cfg0.N) (X : Vec F S248x2048 .fp8e4m3) (h : (rdat m c).Finds 16 t X) : Find16 m c t X := by
  by_cases h0 : t.val = 0
  · exact fun hc => absurd hc (by omega)
  have hlt := lt_of_lt_of_eq t.isLt N_0
  have h' : Ok16 m c (t.val - 1 + 1) X := leaves_of_finds m c 16 rfl t rfl h0 (fun hc => by
    have hd : (t.val - 1) % 19 = 18 := (flush0_16 ⟨t.val - 1, prev_lt t⟩).mp hc
    omega) X h
  rwa [Nat.sub_add_cancel (by omega)] at h'
theorem find17 (c : Dev nD) (t : Fin cfg0.N) (X : Vec F S1x248 .f32) (h : (rdat m c).Finds 17 t X) : Find17 m c t X := by
  by_cases h0 : t.val = 0
  · exact fun hc => absurd hc (by omega)
  have hlt := lt_of_lt_of_eq t.isLt N_0
  have h' : Ok17 m c (t.val - 1 + 1) X := leaves_of_finds m c 17 rfl t rfl h0 (fun hc => by
    have hd : (t.val - 1) % 19 = 18 := (flush0_17 ⟨t.val - 1, prev_lt t⟩).mp hc
    omega) X h
  rwa [Nat.sub_add_cancel (by omega)] at h'
theorem find18 (c : Dev nD) (t : Fin cfg0.N) (X : Vec F S248x1x512 .f32) (h : (rdat m c).Finds 18 t X) : Find18 m c t X := by
  intro ht
  have h0 : t.val ≠ 0 := by omega
  have hlt := lt_of_lt_of_eq t.isLt N_0
  have h' : Ok18 m c (t.val - 1 + 1) X := leaves_of_finds m c 18 rfl t rfl h0 (fun hc => by
    have hd : t.val - 1 < 14 ∨ t.val - 1 = 18 := flush18 ⟨t.val - 1, prev_lt t⟩ hc
    omega) X h
  rwa [Nat.sub_add_cancel (by omega)] at h'
theorem find19 (c : Dev nD) (t : Fin cfg0.N) (X : Vec F S248x1x512 .f32) (h : (rdat m c).Finds 19 t X) : Find19 m c t X := by
  intro ht
  have h0 : t.val ≠ 0 := by omega
  have hlt := lt_of_lt_of_eq t.isLt N_0
  have h' : Ok19 m c (t.val - 1 + 1) X := leaves_of_finds m c 19 rfl t rfl h0 (fun hc => by
    have hd : t.val - 1 < 14 ∨ t.val - 1 = 18 := flush19 ⟨t.val - 1, prev_lt t⟩ hc
    omega) X h
  rwa [Nat.sub_add_cancel (by omega)] at h'
theorem find20 (c : Dev nD) (t : Fin cfg0.N) (X : Vec F S248x5632 .fp8e4m3) (h : (rdat m c).Finds 20 t X) : Find20 m c t X := by
  by_cases h0 : t.val = 0
  · exact fun hc => absurd hc (by omega)
  have hlt := lt_of_lt_of_eq t.isLt N_0
  have h' : Ok20 m c (t.val - 1 + 1) X := leaves_of_finds m c 20 rfl t rfl h0 (fun hc => by
    have hd : (t.val - 1) % 19 = 18 := (flush0_20 ⟨t.val - 1, prev_lt t⟩).mp hc
    omega) X h
  rwa [Nat.sub_add_cancel (by omega)] at h'
theorem find21 (c : Dev nD) (t : Fin cfg0.N) (X : Vec F S1x248 .f32) (h : (rdat m c).Finds 21 t X) : Find21 m c t X := by
  by_cases h0 : t.val = 0
  · exact fun hc => absurd hc (by omega)
  have hlt := lt_of_lt_of_eq t.isLt N_0
  have h' : Ok21 m c (t.val - 1 + 1) X := leaves_of_finds m c 21 rfl t rfl h0 (fun hc => by
    have hd : (t.val - 1) % 19 = 18 := (flush0_21 ⟨t.val - 1, prev_lt t⟩).mp hc
    omega) X h
  rwa [Nat.sub_add_cancel (by omega)] at h'

/-! ## The body at any point -/

/-- What the pipeline hands the body at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y)
    ∗ (∃ Y, ⌜(rdat m c).Finds 13 t Y⌝ ∗ owns (c : Thread nD τ) (st0_13 t) fullShare Y)
    ∗ (∃ Y, ⌜(rdat m c).Finds 14 t Y⌝ ∗ owns (c : Thread nD τ) (st0_14 t) fullShare Y)
    ∗ (∃ Y, ⌜(rdat m c).Finds 15 t Y⌝ ∗ owns (c : Thread nD τ) (st0_15 t) fullShare Y)
    ∗ (∃ Y, ⌜(rdat m c).Finds 16 t Y⌝ ∗ owns (c : Thread nD τ) (st0_16 t) fullShare Y)
    ∗ (∃ Y, ⌜(rdat m c).Finds 17 t Y⌝ ∗ owns (c : Thread nD τ) (st0_17 t) fullShare Y)
    ∗ (∃ Y, ⌜(rdat m c).Finds 18 t Y⌝ ∗ owns (c : Thread nD τ) (st0_18 t) fullShare Y)
    ∗ (∃ Y, ⌜(rdat m c).Finds 19 t Y⌝ ∗ owns (c : Thread nD τ) (st0_19 t) fullShare Y)
    ∗ (∃ Y, ⌜(rdat m c).Finds 20 t Y⌝ ∗ owns (c : Thread nD τ) (st0_20 t) fullShare Y)
    ∗ (∃ Y, ⌜(rdat m c).Finds 21 t Y⌝ ∗ owns (c : Thread nD τ) (st0_21 t) fullShare Y)
    ∗ (∃ Y, ⌜(rdat m c).Finds 22 t Y⌝ ∗ owns (c : Thread nD τ) (st0_22 t) fullShare Y))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, ⌜leaves m c 11 t X⌝ ∗ owns (c : Thread nD τ) (st0_11 t) fullShare X)
    ∗ (∃ X, ⌜leaves m c 12 t X⌝ ∗ owns (c : Thread nD τ) (st0_12 t) fullShare X)
    ∗ (∃ X, ⌜leaves m c 13 t X⌝ ∗ owns (c : Thread nD τ) (st0_13 t) fullShare X)
    ∗ (∃ X, ⌜leaves m c 14 t X⌝ ∗ owns (c : Thread nD τ) (st0_14 t) fullShare X)
    ∗ (∃ X, ⌜leaves m c 15 t X⌝ ∗ owns (c : Thread nD τ) (st0_15 t) fullShare X)
    ∗ (∃ X, ⌜leaves m c 16 t X⌝ ∗ owns (c : Thread nD τ) (st0_16 t) fullShare X)
    ∗ (∃ X, ⌜leaves m c 17 t X⌝ ∗ owns (c : Thread nD τ) (st0_17 t) fullShare X)
    ∗ (∃ X, ⌜leaves m c 18 t X⌝ ∗ owns (c : Thread nD τ) (st0_18 t) fullShare X)
    ∗ (∃ X, ⌜leaves m c 19 t X⌝ ∗ owns (c : Thread nD τ) (st0_19 t) fullShare X)
    ∗ (∃ X, ⌜leaves m c 20 t X⌝ ∗ owns (c : Thread nD τ) (st0_20 t) fullShare X)
    ∗ (∃ X, ⌜leaves m c 21 t X⌝ ∗ owns (c : Thread nD τ) (st0_21 t) fullShare X)
    ∗ (∃ X, ⌜leaves m c 22 t X⌝ ∗ owns (c : Thread nD τ) (st0_22 t) fullShare X))

/-- The register and the core's debts, which the body does not touch. -/
def aside (c : Dev nD) (t : Fin cfg0.N) : sProp 𝕄 := iprop((∃ r, prngReg c r) ∗ (dats m 0 c).owesAt () t.castSucc)

theorem found_of_pre (c : Dev nD) (t : Fin cfg0.N) : bodyPre m c t ⊢ found m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (Memref.whole cc0_scratch0) (Memref.whole cc0_scratch1) (Memref.whole cc0_scratch2) (aside m c t) := by
  unfold bodyPre found aside
  rw [show (dats m 0 c).Φ t.castSucc = carried m c t.val from rfl]
  unfold carried
  simp only [before0_0, before0_1, before0_2, before0_3, before0_4, before0_5, before0_6, before0_7, before0_8, before0_9, before0_10]
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %E11, H11⟩, ⟨%Y12, %E12, H12⟩, ⟨%Y13, %E13, H13⟩, ⟨%Y14, %E14, H14⟩, ⟨%Y15, %E15, H15⟩, ⟨%Y16, %E16, H16⟩, ⟨%Y17, %E17, H17⟩, ⟨%Y18, %E18, H18⟩, ⟨%Y19, %E19, H19⟩, ⟨%Y20, %E20, H20⟩, ⟨%Y21, %E21, H21⟩, ⟨%Y22, %E22, H22⟩⟩
  isplitl [HP Ho]
  · isplitl [HP]
    · iexact HP
    iexact Ho
  isplitl [HS]
  · iexact HS
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists Y11
    isplitr
    · ipureintro; exact trivial
    iexact H11
  isplitl [H12]
  · iexists Y12
    isplitr
    · ipureintro; exact find12 m c t Y12 E12
    iexact H12
  isplitl [H13]
  · iexists Y13
    isplitr
    · ipureintro; exact find13 m c t Y13 E13
    iexact H13
  isplitl [H14]
  · iexists Y14
    isplitr
    · ipureintro; exact find14 m c t Y14 E14
    iexact H14
  isplitl [H15]
  · iexists Y15
    isplitr
    · ipureintro; exact find15 m c t Y15 E15
    iexact H15
  isplitl [H16]
  · iexists Y16
    isplitr
    · ipureintro; exact find16 m c t Y16 E16
    iexact H16
  isplitl [H17]
  · iexists Y17
    isplitr
    · ipureintro; exact find17 m c t Y17 E17
    iexact H17
  isplitl [H18]
  · iexists Y18
    isplitr
    · ipureintro; exact find18 m c t Y18 E18
    iexact H18
  isplitl [H19]
  · iexists Y19
    isplitr
    · ipureintro; exact find19 m c t Y19 E19
    iexact H19
  isplitl [H20]
  · iexists Y20
    isplitr
    · ipureintro; exact find20 m c t Y20 E20
    iexact H20
  isplitl [H21]
  · iexists Y21
    isplitr
    · ipureintro; exact find21 m c t Y21 E21
    iexact H21
  iexists Y22
  isplitr
  · ipureintro; exact trivial
  iexact H22

theorem post_of_left (c : Dev nD) (t : Fin cfg0.N) : left m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (Memref.whole cc0_scratch0) (Memref.whole cc0_scratch1) (Memref.whole cc0_scratch2) (aside m c t) ⊢ bodyPost m c t := by
  unfold bodyPost left aside
  rw [show (dats m 0 c).Φ t.succ = carried m c (t.val + 1) from rfl,
    show (dats m 0 c).owesAt () t.succ = (dats m 0 c).owesAt () t.castSucc from rfl,
    after0_0, after0_1, after0_2, after0_3, after0_4, after0_5, after0_6, after0_7, after0_8, after0_9, after0_10]
  unfold carried
  iintro ⟨⟨HP, Ho⟩, HS, H0, H1, H2, H3, H4, H5, H6, H7, H8, H9, H10, ⟨%Y11, %E11, H11⟩, ⟨%Y12, %E12, H12⟩, ⟨%Y13, %E13, H13⟩, ⟨%Y14, %E14, H14⟩, ⟨%Y15, %E15, H15⟩, ⟨%Y16, %E16, H16⟩, ⟨%Y17, %E17, H17⟩, ⟨%Y18, %E18, H18⟩, ⟨%Y19, %E19, H19⟩, ⟨%Y20, %E20, H20⟩, ⟨%Y21, %E21, H21⟩, ⟨%Y22, %E22, H22⟩⟩
  isplitl [HP HS]
  · isplitl [HS]
    · iexact HS
    iexact HP
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists Y11
    isplitr
    · ipureintro; exact E11
    iexact H11
  isplitl [H12]
  · iexists Y12
    isplitr
    · ipureintro; exact E12
    iexact H12
  isplitl [H13]
  · iexists Y13
    isplitr
    · ipureintro; exact E13
    iexact H13
  isplitl [H14]
  · iexists Y14
    isplitr
    · ipureintro; exact E14
    iexact H14
  isplitl [H15]
  · iexists Y15
    isplitr
    · ipureintro; exact E15
    iexact H15
  isplitl [H16]
  · iexists Y16
    isplitr
    · ipureintro; exact E16
    iexact H16
  isplitl [H17]
  · iexists Y17
    isplitr
    · ipureintro; exact E17
    iexact H17
  isplitl [H18]
  · iexists Y18
    isplitr
    · ipureintro; exact E18
    iexact H18
  isplitl [H19]
  · iexists Y19
    isplitr
    · ipureintro; exact E19
    iexact H19
  isplitl [H20]
  · iexists Y20
    isplitr
    · ipureintro; exact E20
    iexact H20
  isplitl [H21]
  · iexists Y21
    isplitr
    · ipureintro; exact E21
    iexact H21
  iexists Y22
  isplitr
  · ipureintro; exact E22
  iexact H22

theorem sound_body (c : Dev nD) (t : Fin cfg0.N) :
    bodyPre m c t ⊢ wp frame (wpE (defs₀ (F := F)) Variants.none c none) Set.univ (bodyAt0 t) (fun _ => bodyPost m c t) := by
  have hlt := lt_of_lt_of_eq t.isLt N_0
  refine triple_restated (Q := fun _ => left m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (Memref.whole cc0_scratch0) (Memref.whole cc0_scratch1) (Memref.whole cc0_scratch2) (aside m c t)) ?_ rfl (found_of_pre m c t) fun _ => post_of_left m c t
  unfold bodyAt0
  by_cases h0 : t.val = 0
  · exact step_first m c t _ _ _ _ _ _ _ _ _ _ _ _ _ _ _ _ _ _ _ _ _ _ _ _ _ _ _ _ _ _ _ _ _ _ _ _ _ _ _ _ _ _ _ _ _ _ _ _ _ _ _ _ (aside m c t) h0
  by_cases h1 : t.val < 4
  · exact step_out m c t _ _ _ _ _ _ _ _ _ _ _ _ _ _ _ _ _ _ _ _ _ _ _ _ _ _ _ _ _ _ _ _ _ _ _ _ _ _ _ _ _ _ _ _ _ _ _ _ _ _ _ _ (aside m c t) (by omega) h1
  by_cases h2 : t.val = 4
  · exact step_norm m c t _ _ _ _ _ _ _ _ _ _ _ _ _ _ _ _ _ _ _ _ _ _ _ _ _ _ _ _ _ _ _ _ _ _ _ _ _ _ _ _ _ _ _ _ _ _ _ _ _ _ _ _ (aside m c t) h2
  by_cases h3 : t.val < 15
  · exact step_mlp m c t _ _ _ _ _ _ _ _ _ _ _ _ _ _ _ _ _ _ _ _ _ _ _ _ _ _ _ _ _ _ _ _ _ _ _ _ _ _ _ _ _ _ _ _ _ _ _ _ _ _ _ _ (aside m c t) (by omega) h3
  by_cases h4 : t.val = 15
  · exact step_hid m c t _ _ _ _ _ _ _ _ _ _ _ _ _ _ _ _ _ _ _ _ _ _ _ _ _ _ _ _ _ _ _ _ _ _ _ _ _ _ _ _ _ _ _ _ _ _ _ _ _ _ _ _ (aside m c t) h4
  · exact step_proj m c t _ _ _ _ _ _ _ _ _ _ _ _ _ _ _ _ _ _ _ _ _ _ _ _ _ _ _ _ _ _ _ _ _ _ _ _ _ _ _ _ _ _ _ _ _ _ _ _ _ _ _ _ (aside m c t) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ isOut (leaves m c) := fun t => by
  rw [bigSep_W0, bigSep_W0, defs₀_row]
  exact triple_restated (sound_body m c t) rfl .rfl fun _ => .rfl

/-! ## The run -/

/-- Before the first point the scratch holds anything; -/
theorem carried_of_any (c : Dev nD) : Pipeline.ΦA spec0 c ⊢ carried m c 0 := by
  unfold carried scratchAt Pipeline.ΦA
  rw [scopedRest0_eq]
  simp only [own, owns_whole]
  iintro ⟨⟨⟨%s, Hs⟩, ⟨%r, Hr⟩, ⟨%h, Hh⟩⟩, HP⟩
  isplitr [HP]
  · iexists s, r, h
    isplitr
    · ipureintro
      exact ⟨⟨fun hc => absurd hc (by omega), fun hc => absurd hc (by omega), fun hc => absurd hc (by omega)⟩,
        fun k hk => absurd hk (by omega), fun k hk => absurd hk (by omega)⟩
    isplitl [Hs]
    · iexact Hs
    isplitl [Hr]
    · iexact Hr
    iexact Hh
  iexact HP

/-- after the last its contents are forgotten. -/
theorem any_of_carried (c : Dev nD) (n : ℕ) : carried m c n ⊢ Pipeline.ΦA spec0 c := by
  unfold carried scratchAt Pipeline.ΦA
  rw [scopedRest0_eq]
  simp only [own, owns_whole]
  iintro ⟨⟨%s, %r, %h, %hsrh, Hs, Hr, Hh⟩, HP⟩
  isplitr [HP]
  · isplitl [Hs]
    · iexists s; iexact Hs
    isplitl [Hr]
    · iexists r; iexact Hr
    iexists h; iexact Hh
  iexact HP

set_option backward.isDefEq.respectTransparency.types false in
set_option maxHeartbeats 800000 in
/-- Every run of the program ends with every array at contents the relational data allow, the other buffers as the region found
    them, and every counter at zero. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => carried_of_any m c) (hout := fun c => any_of_carried m c _) (hQ' := fun _ h => h)

end Cert.Tail.Hand
-- ==== Proof.TailFloat.Final.lean ====
module

public import proofs.«01_k».proof.Proof.TailFloat.Run
public import proofs.«01_k».proof.Proof.Gen.Tail.Launch
public import proofs.«01_k».proof.Proof.Gen.Tail.Points
public import proofs.«01_k».proof.Proof.Gen.Tail.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Tail.Hand

open Cert.Tail Cert.Tail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final state says of the argument arrays. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)

/-- Off the relational data: on each core one exact data name what every array holds at the end. -/
theorem kept_of_post (r : PUnit × MemSt nD τ sig (Elt F)) (h : Pipeline.RDat.FramePost cfg0 (rdat m) (V m) r) (c : Dev nD) : Kept m r c := by
  obtain ⟨after, -, hA⟩ := h.exists_exact c
  have hin : ∀ w : Fin cfg0.W, (cfg0.win w).isOut = false →
      r.2.mem ((spec0 w).arr.view.loc (c.tc : Thread nD τ)) = V m c (Pipeline.arrRef spec0 w) := fun w hw =>
    (hA w).trans ((((rdat m c).withAfter after).arrAt_in w hw _).trans (A_eq m c w))
  exact ⟨((h c).2 main_arg0 (Pipeline.mem_restRefs_of main_arg0 (by decide) (by decide))).trans (V_main_arg0 m c),
    (hin 1 rfl).trans (V_main_arg1 m c),
    (hin 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (hin 5 rfl).trans (V_main_arg5 m c),
    ((h c).2 main_arg6 (Pipeline.mem_restRefs_of main_arg6 (by decide) (by decide))).trans (V_main_arg6 m c),
    (hin 7 rfl).trans (V_main_arg7 m c),
    ((h c).2 main_arg8 (Pipeline.mem_restRefs_of main_arg8 (by decide) (by decide))).trans (V_main_arg8 m c),
    (hin 9 rfl).trans (V_main_arg9 m c),
    ((h c).2 main_arg10 (Pipeline.mem_restRefs_of main_arg10 (by decide) (by decide))).trans (V_main_arg10 m c)⟩

/-- Every run ends, its arguments as they were and every counter at zero. -/
theorem frame : θ_run defs (onTc (τ := τ) (main (F := F))) ⟨m, fun _ => 0, ρ⟩ (fun r => (∀ c : Dev nD, Kept m r c) ∧ r.2.sem = fun _ => 0) :=
  (θ_run defs _ _).mono (fun r h => ⟨fun c => kept_of_post m r h.1 c, h.2⟩) (run_main_quiescent m ρ)

end Cert.Tail.Hand
-- ==== Proof.Tail.Body.lean ====
/-
  The body of `_tail`, one grid step at a time. A step takes one of six forms, by which of the printed `scf.if`s it
  enters; each theorem below runs one form over staging and scratch memrefs held at named contents and says, with the
  printed payloads, what every buffer the step touches holds afterwards.
-/
module

public import proofs.«01_k».proof.Proof.Gen.TailIdeal.Launch
public import proofs.«01_k».proof.Proof.Gen.TailIdeal.Points
public import proofs.«01_k».proof.Proof.Gen.TailIdeal.Skeleton
public import Idealize.ShloMosaic.Lib.Pipeline.FrameBody
public import Idealize.ShloMosaic.Lib.VecWindow
public import Idealize.ShloMosaic.Lib.Pipeline.TableIdle
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.TailIdeal.Hand

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A staging or scratch memref held whole at the contents `X`. -/
abbrev own {s : Shape} {e : EltTy} (c : Dev nD) (m : Memref sig .tc .vmem s e) (X : Vec F s e) : sProp 𝕄 :=
  owns (c : Thread nD τ) m fullShare X

/-- The first column of the scale scratch. -/
def col (s : Vec F S248x128 .f32) : Vec F S248x1 .f32 := VecWindow.window s ![0, 0] ![248, 1] inb_S248x128_S248x1_0_0

theorem slab4_inb (k : Fin 4) : ∀ a, (![k.val, 0, 0] : Fin 3 → ℕ) a + (![1, 248, 512] : Fin 3 → ℕ) a ≤ S4x248x512.size a := by
  decide +revert

theorem slab11_inb (k : Fin 11) : ∀ a, (![k.val, 0, 0] : Fin 3 → ℕ) a + (![1, 248, 512] : Fin 3 → ℕ) a ≤ S11x248x512.size a := by
  decide +revert

/-- Slab `k` of the residual scratch, and of the hidden scratch. -/
def slab4 (r : Vec F S4x248x512 .f32) (k : Fin 4) : Vec F S1x248x512 .f32 :=
  VecWindow.window r ![k.val, 0, 0] ![1, 248, 512] (slab4_inb k)
def slab11 (r : Vec F S11x248x512 .f32) (k : Fin 11) : Vec F S1x248x512 .f32 :=
  VecWindow.window r ![k.val, 0, 0] ![1, 248, 512] (slab11_inb k)
def put4 (r : Vec F S4x248x512 .f32) (k : Fin 4) (w : Vec F S1x248x512 .f32) : Vec F S4x248x512 .f32 :=
  VecWindow.put r ![k.val, 0, 0] ![1, 248, 512] w
def put11 (r : Vec F S11x248x512 .f32) (k : Fin 11) (w : Vec F S1x248x512 .f32) : Vec F S11x248x512 .f32 :=
  VecWindow.put r ![k.val, 0, 0] ![1, 248, 512] w

/-! ## What the loads and stores of the body read and leave -/

/-- The first column read after the scale scratch was written whole. -/
theorem readCov_col (m : Memref sig .tc .vmem S248x128 .f32) (w : Vec F S248x128 .f32) :
    m.view.readCov (Val := Elt F) [⟨Rect.unit ![0, 0] ![248, 128] inb_S248x128_S248x128_0_0, w⟩]
      (Rect.unit ![0, 0] ![248, 1] inb_S248x128_S248x1_0_0).toLoadRect = col w :=
  (View.readAt_unit m.view _ _ rfl _).trans (congrArg col (View.read_writes_full m.view _ _ _ _))

/-- The quantisation scale of the normalised residual rows, and their codes. -/
def normScale (r : Vec F S4x248x512 .f32) (nw : Vec F S1x2048 .f32) : Vec F S248x1 .f32 :=
  k0_pay23 (slab4 r 0) (slab4 r 1) (slab4 r 2) (slab4 r 3) nw
def normCodes (r : Vec F S4x248x512 .f32) (nw : Vec F S1x2048 .f32) : Vec F S248x2048 .fp8e4m3 :=
  k0_pay10 (k0_pay24 (slab4 r 0) (slab4 r 1) (slab4 r 2) (slab4 r 3) nw) k0_pay25

/-- The quantisation scale of the hidden rows. -/
def hidScale (h : Vec F S11x248x512 .f32) : Vec F S248x1 .f32 :=
  k0_pay33 (k0_pay32 (slab11 h 0) (slab11 h 1) (slab11 h 2) (slab11 h 3) (slab11 h 4) (slab11 h 5))
    (slab11 h 6) (slab11 h 7) (slab11 h 8) (slab11 h 9) (slab11 h 10)

/-- The tile of 512 columns a column of the hidden rows lies in, and the column's place in that tile. -/
def tileOf (y : S248x5632.Idx) : Fin 11 := ⟨(y 1).val / 512, by have : (y 1).val < 5632 := (y 1).isLt; omega⟩
def inTile (y : S248x5632.Idx) : S248x512.Idx := fun a => match a with
  | ⟨0, _⟩ => (y 0 : Fin 248)
  | ⟨1, _⟩ => (⟨(y 1).val % 512, Nat.mod_lt _ (by decide)⟩ : Fin 512)

/-- The codes of the hidden rows: tile by tile, each slab divided by the one scale, clipped and rounded. -/
def hidCodes (h : Vec F S11x248x512 .f32) : Vec F S248x5632 .fp8e4m3 :=
  fun y => k0_pay15 (hidScale h) (slab11 h (tileOf y)) (inTile y)

/-- A piece that stores tile `k` of the codes agrees with `hidCodes`. -/
theorem hidCodes_piece (h : Vec F S11x248x512 .f32) (k : Fin 11)
    (inb : ∀ a, (![0, 512 * k.val] : Fin 2 → ℕ) a + (![248, 512] : Fin 2 → ℕ) a ≤ S248x5632.size a)
    (z : (Rect.unit (s := S248x5632) ![0, 512 * k.val] ![248, 512] inb).shape.Idx) :
    hidCodes h ((Rect.unit (s := S248x5632) ![0, 512 * k.val] ![248, 512] inb).emb z)
      = k0_pay15 (hidScale h) (slab11 h k) z := by
  have h1 : (z 1).val < 512 := (z 1).isLt
  have e1 : ((Rect.unit (s := S248x5632) ![0, 512 * k.val] ![248, 512] inb).emb z 1).val = 512 * k.val + 1 * (z 1).val := rfl
  have e0 : ((Rect.unit (s := S248x5632) ![0, 512 * k.val] ![248, 512] inb).emb z 0).val = 0 + 1 * (z 0).val := rfl
  have hk : tileOf ((Rect.unit (s := S248x5632) ![0, 512 * k.val] ![248, 512] inb).emb z) = k := Fin.ext (by
    show ((Rect.unit (s := S248x5632) ![0, 512 * k.val] ![248, 512] inb).emb z 1).val / 512 = k.val
    rw [e1]; omega)
  have hz : inTile ((Rect.unit (s := S248x5632) ![0, 512 * k.val] ![248, 512] inb).emb z) = z := by
    funext a; apply Fin.ext
    match a with
    | ⟨0, _⟩ => exact e0.trans (Nat.zero_add _ |>.trans (Nat.one_mul _))
    | ⟨1, _⟩ =>
      show ((Rect.unit (s := S248x5632) ![0, 512 * k.val] ![248, 512] inb).emb z 1).val % 512 = (z 1).val
      rw [e1]; omega
  unfold hidCodes
  rw [hk, hz]

variable (c : Dev nD) (i : grid0.Coords) (arg1 : Memref sig .tc .vmem S248x512 .bf16) (harg1 : arg1.IsWhole) (arg2 : Memref sig .tc .vmem S248x3072 .f32) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x2048 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S2048x512 .fp8e4m3) (harg8 : arg8.IsWhole) (arg9 : Memref sig .tc .vmem S1x512 .f32) (harg9 : arg9.IsWhole) (arg10 : Memref sig .tc .vmem S5632x512 .fp8e4m3) (harg10 : arg10.IsWhole) (arg11 : Memref sig .tc .vmem S1x512 .f32) (harg11 : arg11.IsWhole) (arg12 : Memref sig .tc .vmem S248x512 .bf16)
  (harg12 : arg12.IsWhole) (arg13 : Memref sig .tc .vmem S248x1x3072 .f32) (harg13 : arg13.IsWhole) (arg14 : Memref sig .tc .vmem S248x3072 .fp8e4m3) (harg14 : arg14.IsWhole) (arg15 : Memref sig .tc .vmem S1x248 .f32) (harg15 : arg15.IsWhole) (arg16 : Memref sig .tc .vmem S248x1x512 .f32) (harg16 : arg16.IsWhole) (arg17 : Memref sig .tc .vmem S248x2048 .fp8e4m3) (harg17 : arg17.IsWhole) (arg18 : Memref sig .tc .vmem S1x248 .f32) (harg18 : arg18.IsWhole) (arg19 : Memref sig .tc .vmem S248x1x512 .f32) (harg19 : arg19.IsWhole) (arg20 : Memref sig .tc .vmem S248x1x512 .f32) (harg20 : arg20.IsWhole) (arg21 : Memref sig .tc .vmem S248x5632 .fp8e4m3) (harg21 : arg21.IsWhole) (arg22 : Memref sig .tc .vmem S1x248 .f32) (harg22 : arg22.IsWhole) (arg23 : Memref sig .tc .vmem S248x1x512 .f32) (harg23 : arg23.IsWhole) (arg24 : Memref sig .tc .vmem S248x128 .f32) (harg24 : arg24.IsWhole) (arg25 : Memref sig .tc .vmem S4x248x512 .f32) (harg25 : arg25.IsWhole) (arg26 : Memref sig .tc .vmem S11x248x512 .f32) (harg26 : arg26.IsWhole)

set_option maxHeartbeats 4000000 in
/-- Step 0: quantise the attention rows, take the first output tile and the first residual slab. -/
theorem run_first
    (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (k : Fin 4) (hk : k0_off1 i = ![k.val, 0, 0])
    (x : Vec F S248x512 .bf16) (o : Vec F S248x3072 .f32) (w : Vec F S3072x512 .fp8e4m3) (ws : Vec F S1x512 .f32) (d13 : Vec F S248x1x3072 .f32) (d14 : Vec F S248x3072 .fp8e4m3) (d15 : Vec F S1x248 .f32) (d16 : Vec F S248x1x512 .f32) (s : Vec F S248x128 .f32) (r : Vec F S4x248x512 .f32)
    (K : PUnit → sProp 𝕄) :
    iprop(own c arg1 x
      ∗ own c arg2 o
      ∗ own c arg3 w
      ∗ own c arg4 ws
      ∗ own c arg13 d13
      ∗ own c arg14 d14
      ∗ own c arg15 d15
      ∗ own c arg16 d16
      ∗ own c arg24 s
      ∗ own c arg25 r
      ∗ (iprop(own c arg1 x
          ∗ own c arg2 o
          ∗ own c arg3 w
          ∗ own c arg4 ws
          ∗ own c arg13 (k0_pay1 o)
          ∗ own c arg14 (k0_pay3 o)
          ∗ own c arg15 (k0_pay6 o)
          ∗ own c arg16 (k0_pay8 (k0_pay3 o) w (col (k0_pay5 o)) ws)
          ∗ own c arg24 (k0_pay5 o)
          ∗ own c arg25 (put4 r k (k0_pay9 (k0_pay3 o) w (col (k0_pay5 o)) ws x))) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H1, H2, H3, H4, H13, H14, H15, H16, H24, H25, Hk⟩
  sl_exec
  sl_step
  have e1 : View.readAt (Elt F) arg1.view (Rect.unit ![0, 0] ![248, 512] inb_S248x512_S248x512_0_0).toLoadRect (arg1.view.rep x) = x :=
    View.readAt_rep_full _ _ _
  have e2 : View.readAt (Elt F) arg2.view (Rect.unit ![0, 0] ![248, 3072] inb_S248x3072_S248x3072_0_0).toLoadRect (arg2.view.rep o) = o :=
    View.readAt_rep_full _ _ _
  have e3 : View.readAt (Elt F) arg3.view (Rect.unit ![0, 0] ![3072, 512] inb_S3072x512_S3072x512_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e20 : run_first.sl.v20 arg2 arg14 o = k0_pay3 o :=
    (View.readCov_full _ _ _ _ _).trans (congrArg k0_pay3 e2)
  have e24 : run_first.sl.v24 arg2 arg24 o = col (k0_pay5 o) :=
    (readCov_col _ _).trans (congrArg (fun v => col (k0_pay5 v)) e2)
  iapply Hk
  isplitl [H1]
  · iexact H1
  isplitl [H2]
  · iexact H2
  isplitl [H3]
  · iexact H3
  isplitl [H4]
  · iexact H4
  isplitl [H13]
  · refine pointsTo_rep_of_read _ _ _ _ _ ?_
    refine (View.read_writes_full _ _ _ _ _).trans ?_
    rw [e2]
  isplitl [H14]
  · refine pointsTo_rep_of_read _ _ _ _ _ ?_
    refine (View.read_writes_full _ _ _ _ _).trans ?_
    rw [e2]
  isplitl [H15]
  · refine pointsTo_rep_of_read _ _ _ _ _ ?_
    refine (View.read_writes_full _ _ _ _ _).trans ?_
    rw [e2]
  isplitl [H16]
  · refine pointsTo_rep_of_read _ _ _ _ _ ?_
    refine (View.read_writes_full _ _ _ _ _).trans ?_
    rw [e20, e24, e3, e4]
  isplitl [H24]
  · refine pointsTo_rep_of_read _ _ _ _ _ ?_
    refine (View.read_writes_full _ _ _ _ _).trans ?_
    rw [e2]
  refine pointsTo_rep_of_read _ _ _ _ _ ?_
  refine (View.read_writes_rep_unit _ _ _ _ hk).trans ?_
  rw [e20, e24, e3, e4, e1]
  rfl

set_option maxHeartbeats 4000000 in
/-- Steps 1 to 3: one output tile and one residual slab. -/
theorem run_out
    (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (k : Fin 4) (hk : k0_off1 i = ![k.val, 0, 0])
    (x : Vec F S248x512 .bf16) (w : Vec F S3072x512 .fp8e4m3) (ws : Vec F S1x512 .f32) (oc : Vec F S248x3072 .fp8e4m3) (d16 : Vec F S248x1x512 .f32) (s : Vec F S248x128 .f32) (r : Vec F S4x248x512 .f32)
    (K : PUnit → sProp 𝕄) :
    iprop(own c arg1 x
      ∗ own c arg3 w
      ∗ own c arg4 ws
      ∗ own c arg14 oc
      ∗ own c arg16 d16
      ∗ own c arg24 s
      ∗ own c arg25 r
      ∗ (iprop(own c arg1 x
          ∗ own c arg3 w
          ∗ own c arg4 ws
          ∗ own c arg14 oc
          ∗ own c arg16 (k0_pay8 oc w (col s) ws)
          ∗ own c arg24 s
          ∗ own c arg25 (put4 r k (k0_pay9 oc w (col s) ws x))) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H1, H3, H4, H14, H16, H24, H25, Hk⟩
  sl_exec
  sl_step
  have e1 : View.readAt (Elt F) arg1.view (Rect.unit ![0, 0] ![248, 512] inb_S248x512_S248x512_0_0).toLoadRect (arg1.view.rep x) = x :=
    View.readAt_rep_full _ _ _
  have e14 : View.readAt (Elt F) arg14.view (Rect.unit ![0, 0] ![248, 3072] inb_S248x3072_S248x3072_0_0).toLoadRect (arg14.view.rep oc) = oc :=
    View.readAt_rep_full _ _ _
  have e3 : View.readAt (Elt F) arg3.view (Rect.unit ![0, 0] ![3072, 512] inb_S3072x512_S3072x512_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e24 : View.readAt (Elt F) arg24.view (Rect.unit ![0, 0] ![248, 1] inb_S248x128_S248x1_0_0).toLoadRect (arg24.view.rep s) = col s :=
    View.readAt_rep_unit _ _ _ rfl _
  iapply Hk
  isplitl [H1]
  · iexact H1
  isplitl [H3]
  · iexact H3
  isplitl [H4]
  · iexact H4
  isplitl [H14]
  · iexact H14
  isplitl [H16]
  · refine pointsTo_rep_of_read _ _ _ _ _ ?_
    refine (View.read_writes_full _ _ _ _ _).trans ?_
    rw [e14, e24, e3, e4]
  isplitl [H24]
  · iexact H24
  refine pointsTo_rep_of_read _ _ _ _ _ ?_
  refine (View.read_writes_rep_unit _ _ _ _ hk).trans ?_
  rw [e14, e24, e3, e4, e1]
  rfl

set_option maxHeartbeats 4000000 in
/-- Step 4: normalise and quantise the residual rows, then the first tile of the gated MLP. -/
theorem run_norm
    (h1 : ¬ k0_cond1 i = 1#1) (h2 : ¬ k0_cond2 i = 1#1) (h3 : k0_cond3 i = 1#1) (h4 : k0_cond4 i = 1#1) (h5 : ¬ k0_cond5 i = 1#1) (h6 : ¬ k0_cond6 i = 1#1)
    (k : Fin 11) (hk : k0_off2 i = ![k.val, 0, 0])
    (nw : Vec F S1x2048 .f32) (wg : Vec F S2048x512 .fp8e4m3) (gs : Vec F S1x512 .f32) (wv : Vec F S2048x512 .fp8e4m3) (vs : Vec F S1x512 .f32) (d17 : Vec F S248x2048 .fp8e4m3) (d18 : Vec F S1x248 .f32) (d19 : Vec F S248x1x512 .f32) (d20 : Vec F S248x1x512 .f32) (s : Vec F S248x128 .f32) (r : Vec F S4x248x512 .f32) (h : Vec F S11x248x512 .f32)
    (K : PUnit → sProp 𝕄) :
    iprop(own c arg5 nw
      ∗ own c arg6 wg
      ∗ own c arg7 gs
      ∗ own c arg8 wv
      ∗ own c arg9 vs
      ∗ own c arg17 d17
      ∗ own c arg18 d18
      ∗ own c arg19 d19
      ∗ own c arg20 d20
      ∗ own c arg24 s
      ∗ own c arg25 r
      ∗ own c arg26 h
      ∗ (iprop(own c arg5 nw
          ∗ own c arg6 wg
          ∗ own c arg7 gs
          ∗ own c arg8 wv
          ∗ own c arg9 vs
          ∗ own c arg17 (normCodes r nw)
          ∗ own c arg18 (k0_pay13 (normScale r nw))
          ∗ own c arg19 (k0_pay29 (normCodes r nw) wg (col (k0_pay12 (normScale r nw))) gs)
          ∗ own c arg20 (k0_pay30 (normCodes r nw) wv (col (k0_pay12 (normScale r nw))) vs)
          ∗ own c arg24 (k0_pay12 (normScale r nw))
          ∗ own c arg25 r
          ∗ own c arg26 (put11 h k (k0_pay14 (k0_pay31 (normCodes r nw) wg (col (k0_pay12 (normScale r nw))) gs wv (col (k0_pay12 (normScale r nw))) vs)))) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H5, H6, H7, H8, H9, H17, H18, H19, H20, H24, H25, H26, Hk⟩
  sl_exec
  sl_step
  have e5 : View.readAt (Elt F) arg5.view (Rect.unit ![0, 0] ![1, 2048] inb_S1x2048_S1x2048_0_0).toLoadRect (arg5.view.rep nw) = nw :=
    View.readAt_rep_full _ _ _
  have e6 : View.readAt (Elt F) arg6.view (Rect.unit ![0, 0] ![2048, 512] inb_S2048x512_S2048x512_0_0).toLoadRect (arg6.view.rep wg) = wg :=
    View.readAt_rep_full _ _ _
  have e7 : View.readAt (Elt F) arg7.view (Rect.unit ![0, 0] ![1, 512] inb_S1x512_S1x512_0_0).toLoadRect (arg7.view.rep gs) = gs :=
    View.readAt_rep_full _ _ _
  have e8 : View.readAt (Elt F) arg8.view (Rect.unit ![0, 0] ![2048, 512] inb_S2048x512_S2048x512_0_0).toLoadRect (arg8.view.rep wv) = wv :=
    View.readAt_rep_full _ _ _
  have e9 : View.readAt (Elt F) arg9.view (Rect.unit ![0, 0] ![1, 512] inb_S1x512_S1x512_0_0).toLoadRect (arg9.view.rep vs) = vs :=
    View.readAt_rep_full _ _ _
  have s0 : View.readAt (Elt F) arg25.view (Rect.unit ![0, 0, 0] ![1, 248, 512] inb_S4x248x512_S1x248x512_0_0_0).toLoadRect (arg25.view.rep r) = slab4 r 0 :=
    View.readAt_rep_unit _ _ _ rfl _
  have s1 : View.readAt (Elt F) arg25.view (Rect.unit ![1, 0, 0] ![1, 248, 512] inb_S4x248x512_S1x248x512_1_0_0).toLoadRect (arg25.view.rep r) = slab4 r 1 :=
    View.readAt_rep_unit _ _ _ rfl _
  have s2 : View.readAt (Elt F) arg25.view (Rect.unit ![2, 0, 0] ![1, 248, 512] inb_S4x248x512_S1x248x512_2_0_0).toLoadRect (arg25.view.rep r) = slab4 r 2 :=
    View.readAt_rep_unit _ _ _ rfl _
  have s3 : View.readAt (Elt F) arg25.view (Rect.unit ![3, 0, 0] ![1, 248, 512] inb_S4x248x512_S1x248x512_3_0_0).toLoadRect (arg25.view.rep r) = slab4 r 3 :=
    View.readAt_rep_unit _ _ _ rfl _
  have er : run_norm.sl.r arg5 arg25 nw r = normScale r nw := by
    unfold run_norm.sl.r normScale; rw [s0, s1, s2, s3, e5]
  have er1 : k0_pay10 (run_norm.sl.r_1 arg5 arg25 nw r) k0_pay25 = normCodes r nw := by
    unfold run_norm.sl.r_1 normCodes; rw [s0, s1, s2, s3, e5]
  have e20 : run_norm.sl.v20 arg5 arg17 arg25 nw r = normCodes r nw := (View.readCov_full _ _ _ _ _).trans er1
  have e24 : run_norm.sl.v24 arg5 arg24 arg25 nw r = col (k0_pay12 (normScale r nw)) :=
    (readCov_col _ _).trans (congrArg (fun v => col (k0_pay12 v)) er)
  have er2 : run_norm.sl.r_2 arg5 arg6 arg7 arg8 arg9 arg17 arg24 arg25 nw wg gs wv vs r
      = k0_pay31 (normCodes r nw) wg (col (k0_pay12 (normScale r nw))) gs wv (col (k0_pay12 (normScale r nw))) vs := by
    unfold run_norm.sl.r_2; rw [e20, e24, e6, e7, e8, e9]
  iapply Hk
  isplitl [H5]
  · iexact H5
  isplitl [H6]
  · iexact H6
  isplitl [H7]
  · iexact H7
  isplitl [H8]
  · iexact H8
  isplitl [H9]
  · iexact H9
  isplitl [H17]
  · refine pointsTo_rep_of_read _ _ _ _ _ ?_
    refine (View.read_writes_full _ _ _ _ _).trans ?_
    exact er1
  isplitl [H18]
  · refine pointsTo_rep_of_read _ _ _ _ _ ?_
    refine (View.read_writes_full _ _ _ _ _).trans ?_
    rw [er]
  isplitl [H19]
  · refine pointsTo_rep_of_read _ _ _ _ _ ?_
    refine (View.read_writes_full _ _ _ _ _).trans ?_
    rw [e20, e24, e6, e7]
  isplitl [H20]
  · refine pointsTo_rep_of_read _ _ _ _ _ ?_
    refine (View.read_writes_full _ _ _ _ _).trans ?_
    rw [e20, e24, e8, e9]
  isplitl [H24]
  · refine pointsTo_rep_of_read _ _ _ _ _ ?_
    refine (View.read_writes_full _ _ _ _ _).trans ?_
    rw [er]
  isplitl [H25]
  · iexact H25
  refine pointsTo_rep_of_read _ _ _ _ _ ?_
  refine (View.read_writes_rep_unit _ _ _ _ hk).trans ?_
  rw [er2]
  rfl

set_option maxHeartbeats 4000000 in
/-- Steps 5 to 14: one tile of the gated MLP. -/
theorem run_mlp
    (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1)
    (k : Fin 11) (hk : k0_off2 i = ![k.val, 0, 0])
    (wg : Vec F S2048x512 .fp8e4m3) (gs : Vec F S1x512 .f32) (wv : Vec F S2048x512 .fp8e4m3) (vs : Vec F S1x512 .f32) (ac : Vec F S248x2048 .fp8e4m3) (d19 : Vec F S248x1x512 .f32) (d20 : Vec F S248x1x512 .f32) (s : Vec F S248x128 .f32) (h : Vec F S11x248x512 .f32)
    (K : PUnit → sProp 𝕄) :
    iprop(own c arg6 wg
      ∗ own c arg7 gs
      ∗ own c arg8 wv
      ∗ own c arg9 vs
      ∗ own c arg17 ac
      ∗ own c arg19 d19
      ∗ own c arg20 d20
      ∗ own c arg24 s
      ∗ own c arg26 h
      ∗ (iprop(own c arg6 wg
          ∗ own c arg7 gs
          ∗ own c arg8 wv
          ∗ own c arg9 vs
          ∗ own c arg17 ac
          ∗ own c arg19 (k0_pay29 ac wg (col s) gs)
          ∗ own c arg20 (k0_pay30 ac wv (col s) vs)
          ∗ own c arg24 s
          ∗ own c arg26 (put11 h k (k0_pay14 (k0_pay31 ac wg (col s) gs wv (col s) vs)))) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H6, H7, H8, H9, H17, H19, H20, H24, H26, Hk⟩
  sl_exec
  sl_step
  have e6 : View.readAt (Elt F) arg6.view (Rect.unit ![0, 0] ![2048, 512] inb_S2048x512_S2048x512_0_0).toLoadRect (arg6.view.rep wg) = wg :=
    View.readAt_rep_full _ _ _
  have e7 : View.readAt (Elt F) arg7.view (Rect.unit ![0, 0] ![1, 512] inb_S1x512_S1x512_0_0).toLoadRect (arg7.view.rep gs) = gs :=
    View.readAt_rep_full _ _ _
  have e8 : View.readAt (Elt F) arg8.view (Rect.unit ![0, 0] ![2048, 512] inb_S2048x512_S2048x512_0_0).toLoadRect (arg8.view.rep wv) = wv :=
    View.readAt_rep_full _ _ _
  have e9 : View.readAt (Elt F) arg9.view (Rect.unit ![0, 0] ![1, 512] inb_S1x512_S1x512_0_0).toLoadRect (arg9.view.rep vs) = vs :=
    View.readAt_rep_full _ _ _
  have e17 : View.readAt (Elt F) arg17.view (Rect.unit ![0, 0] ![248, 2048] inb_S248x2048_S248x2048_0_0).toLoadRect (arg17.view.rep ac) = ac :=
    View.readAt_rep_full _ _ _
  have e24 : View.readAt (Elt F) arg24.view (Rect.unit ![0, 0] ![248, 1] inb_S248x128_S248x1_0_0).toLoadRect (arg24.view.rep s) = col s :=
    View.readAt_rep_unit _ _ _ rfl _
  iapply Hk
  isplitl [H6]
  · iexact H6
  isplitl [H7]
  · iexact H7
  isplitl [H8]
  · iexact H8
  isplitl [H9]
  · iexact H9
  isplitl [H17]
  · iexact H17
  isplitl [H19]
  · refine pointsTo_rep_of_read _ _ _ _ _ ?_
    refine (View.read_writes_full _ _ _ _ _).trans ?_
    rw [e17, e24, e6, e7]
  isplitl [H20]
  · refine pointsTo_rep_of_read _ _ _ _ _ ?_
    refine (View.read_writes_full _ _ _ _ _).trans ?_
    rw [e17, e24, e8, e9]
  isplitl [H24]
  · iexact H24
  refine pointsTo_rep_of_read _ _ _ _ _ ?_
  refine (View.read_writes_rep_unit _ _ _ _ hk).trans ?_
  unfold run_mlp.sl.r; rw [e17, e24, e6, e7, e8, e9]
  rfl

set_option maxHeartbeats 4000000 in
/-- Step 15: quantise the hidden rows, then the first tile of the last product and of the result. -/
theorem run_hid
    (h1 : ¬ k0_cond1 i = 1#1) (h2 : ¬ k0_cond2 i = 1#1) (h3 : ¬ k0_cond3 i = 1#1) (h4 : ¬ k0_cond4 i = 1#1) (h5 : k0_cond5 i = 1#1) (h6 : k0_cond6 i = 1#1)
    (k : Fin 4) (hk : k0_off3 i = ![k.val, 0, 0])
    (w2 : Vec F S5632x512 .fp8e4m3) (w2s : Vec F S1x512 .f32) (d12 : Vec F S248x512 .bf16) (d21 : Vec F S248x5632 .fp8e4m3) (d22 : Vec F S1x248 .f32) (d23 : Vec F S248x1x512 .f32) (s : Vec F S248x128 .f32) (r : Vec F S4x248x512 .f32) (h : Vec F S11x248x512 .f32)
    (K : PUnit → sProp 𝕄) :
    iprop(own c arg10 w2
      ∗ own c arg11 w2s
      ∗ own c arg12 d12
      ∗ own c arg21 d21
      ∗ own c arg22 d22
      ∗ own c arg23 d23
      ∗ own c arg24 s
      ∗ own c arg25 r
      ∗ own c arg26 h
      ∗ (iprop(own c arg10 w2
          ∗ own c arg11 w2s
          ∗ own c arg12 (k0_pay21 (hidCodes h) w2 (col (k0_pay17 (hidScale h))) w2s (slab4 r k))
          ∗ own c arg21 (hidCodes h)
          ∗ own c arg22 (k0_pay18 (hidScale h))
          ∗ own c arg23 (k0_pay20 (hidCodes h) w2 (col (k0_pay17 (hidScale h))) w2s)
          ∗ own c arg24 (k0_pay17 (hidScale h))
          ∗ own c arg25 r
          ∗ own c arg26 h) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H10, H11, H12, H21, H22, H23, H24, H25, H26, Hk⟩
  sl_exec
  sl_step
  have e10 : View.readAt (Elt F) arg10.view (Rect.unit ![0, 0] ![5632, 512] inb_S5632x512_S5632x512_0_0).toLoadRect (arg10.view.rep w2) = w2 :=
    View.readAt_rep_full _ _ _
  have e11 : View.readAt (Elt F) arg11.view (Rect.unit ![0, 0] ![1, 512] inb_S1x512_S1x512_0_0).toLoadRect (arg11.view.rep w2s) = w2s :=
    View.readAt_rep_full _ _ _
  have s0 : View.readAt (Elt F) arg26.view (Rect.unit ![0, 0, 0] ![1, 248, 512] inb_S11x248x512_S1x248x512_0_0_0).toLoadRect (arg26.view.rep h) = slab11 h 0 :=
    View.readAt_rep_unit _ _ _ rfl _
  have s1 : View.readAt (Elt F) arg26.view (Rect.unit ![1, 0, 0] ![1, 248, 512] inb_S11x248x512_S1x248x512_1_0_0).toLoadRect (arg26.view.rep h) = slab11 h 1 :=
    View.readAt_rep_unit _ _ _ rfl _
  have s2 : View.readAt (Elt F) arg26.view (Rect.unit ![2, 0, 0] ![1, 248, 512] inb_S11x248x512_S1x248x512_2_0_0).toLoadRect (arg26.view.rep h) = slab11 h 2 :=
    View.readAt_rep_unit _ _ _ rfl _
  have s3 : View.readAt (Elt F) arg26.view (Rect.unit ![3, 0, 0] ![1, 248, 512] inb_S11x248x512_S1x248x512_3_0_0).toLoadRect (arg26.view.rep h) = slab11 h 3 :=
    View.readAt_rep_unit _ _ _ rfl _
  have s4 : View.readAt (Elt F) arg26.view (Rect.unit ![4, 0, 0] ![1, 248, 512] inb_S11x248x512_S1x248x512_4_0_0).toLoadRect (arg26.view.rep h) = slab11 h 4 :=
    View.readAt_rep_unit _ _ _ rfl _
  have s5 : View.readAt (Elt F) arg26.view (Rect.unit ![5, 0, 0] ![1, 248, 512] inb_S11x248x512_S1x248x512_5_0_0).toLoadRect (arg26.view.rep h) = slab11 h 5 :=
    View.readAt_rep_unit _ _ _ rfl _
  have s6 : View.readAt (Elt F) arg26.view (Rect.unit ![6, 0, 0] ![1, 248, 512] inb_S11x248x512_S1x248x512_6_0_0).toLoadRect (arg26.view.rep h) = slab11 h 6 :=
    View.readAt_rep_unit _ _ _ rfl _
  have s7 : View.readAt (Elt F) arg26.view (Rect.unit ![7, 0, 0] ![1, 248, 512] inb_S11x248x512_S1x248x512_7_0_0).toLoadRect (arg26.view.rep h) = slab11 h 7 :=
    View.readAt_rep_unit _ _ _ rfl _
  have s8 : View.readAt (Elt F) arg26.view (Rect.unit ![8, 0, 0] ![1, 248, 512] inb_S11x248x512_S1x248x512_8_0_0).toLoadRect (arg26.view.rep h) = slab11 h 8 :=
    View.readAt_rep_unit _ _ _ rfl _
  have s9 : View.readAt (Elt F) arg26.view (Rect.unit ![9, 0, 0] ![1, 248, 512] inb_S11x248x512_S1x248x512_9_0_0).toLoadRect (arg26.view.rep h) = slab11 h 9 :=
    View.readAt_rep_unit _ _ _ rfl _
  have s10 : View.readAt (Elt F) arg26.view (Rect.unit ![10, 0, 0] ![1, 248, 512] inb_S11x248x512_S1x248x512_10_0_0).toLoadRect (arg26.view.rep h) = slab11 h 10 :=
    View.readAt_rep_unit _ _ _ rfl _
  have er : run_hid.sl.r arg26 h = k0_pay32 (slab11 h 0) (slab11 h 1) (slab11 h 2) (slab11 h 3) (slab11 h 4) (slab11 h 5) := by
    unfold run_hid.sl.r; rw [s0, s1, s2, s3, s4, s5]
  have er1 : run_hid.sl.r_1 arg26 h = hidScale h := by
    unfold run_hid.sl.r_1 hidScale; rw [er, s6, s7, s8, s9, s10]
  have e21 : ∀ f, View.read (Elt F) arg21.view (arg21.view.writes (Elt F) f (run_hid.sl.H21_11 arg26 h)) = hidCodes h := fun f => by
    unfold run_hid.sl.H21_11 run_hid.sl.r_2 run_hid.sl.r_3 run_hid.sl.cst_67 run_hid.sl.v191
    rw [er1, s0, s1, s2, s3, s4, s5, s6, s7, s8, s9, s10]
    funext y
    refine View.read_writes_apply_of_pieces _ _ (hidCodes h) _ ?_ y (View.cover_of_tiled _ ![248, 512] (by rfl) y)
    simp only [List.forall_mem_cons]
    exact ⟨fun z => (hidCodes_piece h 10 _ z).symm, fun z => (hidCodes_piece h 9 _ z).symm, fun z => (hidCodes_piece h 8 _ z).symm,
      fun z => (hidCodes_piece h 7 _ z).symm, fun z => (hidCodes_piece h 6 _ z).symm, fun z => (hidCodes_piece h 5 _ z).symm,
      fun z => (hidCodes_piece h 4 _ z).symm, fun z => (hidCodes_piece h 3 _ z).symm, fun z => (hidCodes_piece h 2 _ z).symm,
      fun z => (hidCodes_piece h 1 _ z).symm, fun z => (hidCodes_piece h 0 _ z).symm, fun _ h => absurd h List.not_mem_nil⟩
  have e20 : run_hid.sl.v20 arg21 arg26 h = hidCodes h := (View.readAt_full arg21.view _ _).trans (e21 _)
  have e24 : run_hid.sl.v24 arg24 arg26 h = col (k0_pay17 (hidScale h)) :=
    (readCov_col _ _).trans (congrArg (fun v => col (k0_pay17 v)) er1)
  iapply Hk
  isplitl [H10]
  · iexact H10
  isplitl [H11]
  · iexact H11
  isplitl [H12]
  · refine pointsTo_rep_of_read _ _ _ _ _ ?_
    refine (View.read_writes_full _ _ _ _ _).trans ?_
    rw [e20, e24, e10, e11]
    exact congrArg (k0_pay21 (hidCodes h) w2 (col (k0_pay17 (hidScale h))) w2s) (View.readAt_rep_unit _ _ _ hk _)
  isplitl [H21]
  · refine pointsTo_rep_of_read _ _ _ _ _ ?_
    exact e21 _
  isplitl [H22]
  · refine pointsTo_rep_of_read _ _ _ _ _ ?_
    refine (View.read_writes_full _ _ _ _ _).trans ?_
    rw [er1]
  isplitl [H23]
  · refine pointsTo_rep_of_read _ _ _ _ _ ?_
    refine (View.read_writes_full _ _ _ _ _).trans ?_
    rw [e20, e24, e10, e11]
  isplitl [H24]
  · refine pointsTo_rep_of_read _ _ _ _ _ ?_
    refine (View.read_writes_full _ _ _ _ _).trans ?_
    rw [er1]
  isplitl [H25]
  · iexact H25
  iexact H26

set_option maxHeartbeats 4000000 in
/-- Steps 16 to 18: one tile of the last product and of the result. -/
theorem run_proj
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1)
    (k : Fin 4) (hk : k0_off3 i = ![k.val, 0, 0])
    (w2 : Vec F S5632x512 .fp8e4m3) (w2s : Vec F S1x512 .f32) (d12 : Vec F S248x512 .bf16) (hc : Vec F S248x5632 .fp8e4m3) (d23 : Vec F S248x1x512 .f32) (s : Vec F S248x128 .f32) (r : Vec F S4x248x512 .f32)
    (K : PUnit → sProp 𝕄) :
    iprop(own c arg10 w2
      ∗ own c arg11 w2s
      ∗ own c arg12 d12
      ∗ own c arg21 hc
      ∗ own c arg23 d23
      ∗ own c arg24 s
      ∗ own c arg25 r
      ∗ (iprop(own c arg10 w2
          ∗ own c arg11 w2s
          ∗ own c arg12 (k0_pay21 hc w2 (col s) w2s (slab4 r k))
          ∗ own c arg21 hc
          ∗ own c arg23 (k0_pay20 hc w2 (col s) w2s)
          ∗ own c arg24 s
          ∗ own c arg25 r) -∗ K ⟨⟩))
    ⊢ wp frame (wpE (defs₀ (F := F)) Variants.none c none) Set.univ
        (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_tail_eq_skeleton]; unfold cc0_tail_skel
  simp only [k0_part1_eq_skeleton, k0_part2_eq_skeleton, k0_part3_eq_skeleton, k0_part4_eq_skeleton, k0_part5_eq_skeleton,
    k0_part6_eq_skeleton, k0_part7_eq_skeleton]
  simp only [owns_eq_rep]
  iintro ⟨H10, H11, H12, H21, H23, H24, H25, Hk⟩
  sl_exec
  sl_step
  have e10 : View.readAt (Elt F) arg10.view (Rect.unit ![0, 0] ![5632, 512] inb_S5632x512_S5632x512_0_0).toLoadRect (arg10.view.rep w2) = w2 :=
    View.readAt_rep_full _ _ _
  have e11 : View.readAt (Elt F) arg11.view (Rect.unit ![0, 0] ![1, 512] inb_S1x512_S1x512_0_0).toLoadRect (arg11.view.rep w2s) = w2s :=
    View.readAt_rep_full _ _ _
  have e21 : View.readAt (Elt F) arg21.view (Rect.unit ![0, 0] ![248, 5632] inb_S248x5632_S248x5632_0_0).toLoadRect (arg21.view.rep hc) = hc :=
    View.readAt_rep_full _ _ _
  have e24 : View.readAt (Elt F) arg24.view (Rect.unit ![0, 0] ![248, 1] inb_S248x128_S248x1_0_0).toLoadRect (arg24.view.rep s) = col s :=
    View.readAt_rep_unit _ _ _ rfl _
  iapply Hk
  isplitl [H10]
  · iexact H10
  isplitl [H11]
  · iexact H11
  isplitl [H12]
  · refine pointsTo_rep_of_read _ _ _ _ _ ?_
    refine (View.read_writes_full _ _ _ _ _).trans ?_
    rw [e21, e24, e10, e11]
    exact congrArg (k0_pay21 hc w2 (col s) w2s) (View.readAt_rep_unit _ _ _ hk _)
  isplitl [H21]
  · iexact H21
  isplitl [H23]
  · refine pointsTo_rep_of_read _ _ _ _ _ ?_
    refine (View.read_writes_full _ _ _ _ _).trans ?_
    rw [e21, e24, e10, e11]
  isplitl [H24]
  · iexact H24
  iexact H25

end Cert.TailIdeal.Hand
-- ==== Proof.Tail.Values.lean ====
module

public import proofs.«01_k».proof.Proof.Tail.Body
public import proofs.«01_k».proof.Proof.Gen.TailIdeal.Frame
public import proofs.«01_k».proof.Proof.Gen.TailIdeal.Launch
public import proofs.«01_k».proof.Proof.Gen.TailIdeal.Points
public import proofs.«01_k».proof.Proof.Gen.TailIdeal.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.TailIdeal.Hand

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule of the body, by the number of the grid point -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 4 := by decide +kernel
theorem cond3_iff : ∀ t : Fin grid0.N, k0_cond3 (grid0.coords t) = 1#1 ↔ t.val = 4 := by decide +kernel
theorem cond4_iff : ∀ t : Fin grid0.N, k0_cond4 (grid0.coords t) = 1#1 ↔ (4 ≤ t.val ∧ t.val < 15) := by decide +kernel
theorem cond5_iff : ∀ t : Fin grid0.N, k0_cond5 (grid0.coords t) = 1#1 ↔ t.val = 15 := by decide +kernel
theorem cond6_iff : ∀ t : Fin grid0.N, k0_cond6 (grid0.coords t) = 1#1 ↔ 15 ≤ t.val := by decide +kernel
theorem off1_eq : ∀ t : Fin grid0.N, t.val < 4 → k0_off1 (grid0.coords t) = ![t.val, 0, 0] := by decide +kernel
theorem off2_eq : ∀ t : Fin grid0.N, 4 ≤ t.val → t.val < 15 → k0_off2 (grid0.coords t) = ![t.val - 4, 0, 0] := by decide +kernel
theorem off3_eq : ∀ t : Fin grid0.N, 15 ≤ t.val → k0_off3 (grid0.coords t) = ![t.val - 15, 0, 0] := by decide +kernel

/-! ## Slabs -/

theorem slab4_put4 (r : Vec F S4x248x512 .f32) (k : Fin 4) (w) : slab4 (put4 r k w) k = w :=
  VecWindow.window_put_same _ _ _ _ _
theorem slab4_put4_of_ne (r : Vec F S4x248x512 .f32) (k k' : Fin 4) (w) (h : k ≠ k') :
    slab4 (put4 r k w) k' = slab4 r k' :=
  VecWindow.window_put_of_disjoint _ _ _ _ _ _ _ (0 : Fin 3) (by
    have : k.val ≠ k'.val := fun e => h (Fin.ext e)
    show k'.val + 1 ≤ k.val ∨ k.val + 1 ≤ k'.val
    omega)
theorem slab11_put11 (r : Vec F S11x248x512 .f32) (k : Fin 11) (w) : slab11 (put11 r k w) k = w :=
  VecWindow.window_put_same _ _ _ _ _
theorem slab11_put11_of_ne (r : Vec F S11x248x512 .f32) (k k' : Fin 11) (w) (h : k ≠ k') :
    slab11 (put11 r k w) k' = slab11 r k' :=
  VecWindow.window_put_of_disjoint _ _ _ _ _ _ _ (0 : Fin 3) (by
    have : k.val ≠ k'.val := fun e => h (Fin.ext e)
    show k'.val + 1 ≤ k.val ∨ k.val + 1 ≤ k'.val
    omega)

/-! ## The values the body computes, from the blocks of its inputs -/

/-- Grid point number `n`. -/
def pt (n : ℕ) : Fin cfg0.N := ⟨n % 19, Nat.mod_lt _ (by decide)⟩
theorem pt_val (t : Fin cfg0.N) : pt t.val = t := Fin.ext (Nat.mod_eq_of_lt (lt_of_lt_of_eq t.isLt N_0))

variable (m : (ℓ : Loc nD τ sig) → Buf (Elt F) ℓ) (ρ : Dev nD → PrngReg) (c : Dev nD)

def bx (t : Fin cfg0.N) : Vec F S248x512 .bf16 := iblk m c 0 t
def bo (t : Fin cfg0.N) : Vec F S248x3072 .f32 := iblk m c 1 t
def bw (t : Fin cfg0.N) : Vec F S3072x512 .fp8e4m3 := iblk m c 2 t
def bws (t : Fin cfg0.N) : Vec F S1x512 .f32 := iblk m c 3 t
def bn (t : Fin cfg0.N) : Vec F S1x2048 .f32 := iblk m c 4 t
def bwg (t : Fin cfg0.N) : Vec F S2048x512 .fp8e4m3 := iblk m c 5 t
def bgs (t : Fin cfg0.N) : Vec F S1x512 .f32 := iblk m c 6 t
def bwv (t : Fin cfg0.N) : Vec F S2048x512 .fp8e4m3 := iblk m c 7 t
def bvs (t : Fin cfg0.N) : Vec F S1x512 .f32 := iblk m c 8 t
def bw2 (t : Fin cfg0.N) : Vec F S5632x512 .fp8e4m3 := iblk m c 9 t
def bw2s (t : Fin cfg0.N) : Vec F S1x512 .f32 := iblk m c 10 t

/-- The first input's rows and the norm's weight, the same block at every point. -/
def oRows : Vec F S248x3072 .f32 := bo m c (pt 0)
def oCodes : Vec F S248x3072 .fp8e4m3 := k0_pay3 (oRows m c)
def oScale : Vec F S248x128 .f32 := k0_pay5 (oRows m c)
/-- The output projection's columns at point `n`, and the residual rows there. -/
def opAt (n : ℕ) : Vec F S248x1x512 .f32 := k0_pay8 (oCodes m c) (bw m c (pt n)) (col (oScale m c)) (bws m c (pt n))
def rAt (n : ℕ) : Vec F S1x248x512 .f32 :=
  k0_pay9 (oCodes m c) (bw m c (pt n)) (col (oScale m c)) (bws m c (pt n)) (bx m c (pt n))
/-- The normalised residual rows' scale and codes. -/
def nScale1 : Vec F S248x1 .f32 := k0_pay23 (rAt m c 0) (rAt m c 1) (rAt m c 2) (rAt m c 3) (bn m c (pt 4))
def nCodes : Vec F S248x2048 .fp8e4m3 :=
  k0_pay10 (k0_pay24 (rAt m c 0) (rAt m c 1) (rAt m c 2) (rAt m c 3) (bn m c (pt 4))) k0_pay25
def nScale : Vec F S248x128 .f32 := k0_pay12 (nScale1 m c)
/-- The gate, value and hidden columns at point `n`. -/
def gAt (n : ℕ) : Vec F S248x1x512 .f32 := k0_pay29 (nCodes m c) (bwg m c (pt n)) (col (nScale m c)) (bgs m c (pt n))
def vAt (n : ℕ) : Vec F S248x1x512 .f32 := k0_pay30 (nCodes m c) (bwv m c (pt n)) (col (nScale m c)) (bvs m c (pt n))
def hAt (n : ℕ) : Vec F S1x248x512 .f32 :=
  k0_pay14 (k0_pay31 (nCodes m c) (bwg m c (pt n)) (col (nScale m c)) (bgs m c (pt n)) (bwv m c (pt n)) (col (nScale m c)) (bvs m c (pt n)))
/-- The hidden rows' scale and codes. -/
def hScale1 : Vec F S248x1 .f32 :=
  k0_pay33 (k0_pay32 (hAt m c 4) (hAt m c 5) (hAt m c 6) (hAt m c 7) (hAt m c 8) (hAt m c 9))
    (hAt m c 10) (hAt m c 11) (hAt m c 12) (hAt m c 13) (hAt m c 14)
def hCodes : Vec F S248x5632 .fp8e4m3 := fun y => k0_pay15 (hScale1 m c) (hAt m c ((tileOf y).val + 4)) (inTile y)
def hScale : Vec F S248x128 .f32 := k0_pay17 (hScale1 m c)
/-- The last projection's columns at point `n`, and the result's. -/
def mpAt (n : ℕ) : Vec F S248x1x512 .f32 := k0_pay20 (hCodes m c) (bw2 m c (pt n)) (col (hScale m c)) (bw2s m c (pt n))
def outAt (n : ℕ) : Vec F S248x512 .bf16 :=
  k0_pay21 (hCodes m c) (bw2 m c (pt n)) (col (hScale m c)) (bw2s m c (pt n)) (rAt m c (n - 15))

/-! ## What the buffers hold after `n` grid points -/

/-- The scale scratch: each of the three scales in its turn. -/
def ScaleOk (n : ℕ) (s : Vec F S248x128 .f32) : Prop :=
  (1 ≤ n → n ≤ 4 → s = oScale m c) ∧ (5 ≤ n → n ≤ 15 → s = nScale m c) ∧ (16 ≤ n → s = hScale m c)
/-- The residual scratch: the slabs of the points done. -/
def ResOk (n : ℕ) (r : Vec F S4x248x512 .f32) : Prop := ∀ k : Fin 4, k.val < n → slab4 r k = rAt m c k.val
/-- The hidden scratch: the slabs of the points done. -/
def HidOk (n : ℕ) (h : Vec F S11x248x512 .f32) : Prop := ∀ k : Fin 11, k.val + 4 < n → slab11 h k = hAt m c (k.val + 4)

def Ok11 (n : ℕ) (X : Vec F S248x512 .bf16) : Prop := 16 ≤ n → X = outAt m c (n - 1)
def Ok12 (n : ℕ) (X : Vec F S248x1x3072 .f32) : Prop := 1 ≤ n → X = k0_pay1 (oRows m c)
def Ok13 (n : ℕ) (X : Vec F S248x3072 .fp8e4m3) : Prop := 1 ≤ n → X = oCodes m c
def Ok14 (n : ℕ) (X : Vec F S1x248 .f32) : Prop := 1 ≤ n → X = k0_pay6 (oRows m c)
def Ok15 (n : ℕ) (X : Vec F S248x1x512 .f32) : Prop := 1 ≤ n → X = opAt m c (min (n - 1) 3)
def Ok16 (n : ℕ) (X : Vec F S248x2048 .fp8e4m3) : Prop := 5 ≤ n → X = nCodes m c
def Ok17 (n : ℕ) (X : Vec F S1x248 .f32) : Prop := 5 ≤ n → X = k0_pay13 (nScale1 m c)
def Ok18 (n : ℕ) (X : Vec F S248x1x512 .f32) : Prop := 5 ≤ n → X = gAt m c (min (n - 1) 14)
def Ok19 (n : ℕ) (X : Vec F S248x1x512 .f32) : Prop := 5 ≤ n → X = vAt m c (min (n - 1) 14)
def Ok20 (n : ℕ) (X : Vec F S248x5632 .fp8e4m3) : Prop := 16 ≤ n → X = hCodes m c
def Ok21 (n : ℕ) (X : Vec F S1x248 .f32) : Prop := 16 ≤ n → X = k0_pay18 (hScale1 m c)
def Ok22 (n : ℕ) (X : Vec F S248x1x512 .f32) : Prop := 16 ≤ n → X = mpAt m c (n - 1)

variable {m c}

theorem normScale_eq {n : ℕ} {r : Vec F S4x248x512 .f32} (hn : 4 ≤ n) (h : ResOk m c n r) :
    normScale r (bn m c (pt 4)) = nScale1 m c := by
  unfold normScale nScale1
  rw [h 0 (by show 0 < n; omega), h 1 (by show 1 < n; omega), h 2 (by show 2 < n; omega), h 3 (by show 3 < n; omega)]
  rfl
theorem normCodes_eq {n : ℕ} {r : Vec F S4x248x512 .f32} (hn : 4 ≤ n) (h : ResOk m c n r) :
    normCodes r (bn m c (pt 4)) = nCodes m c := by
  unfold normCodes nCodes
  rw [h 0 (by show 0 < n; omega), h 1 (by show 1 < n; omega), h 2 (by show 2 < n; omega), h 3 (by show 3 < n; omega)]
  rfl
theorem hidScale_eq {n : ℕ} {r : Vec F S11x248x512 .f32} (hn : 15 ≤ n) (h : HidOk m c n r) :
    hidScale r = hScale1 m c := by
  have e : ∀ k : Fin 11, slab11 r k = hAt m c (k.val + 4) := fun k => h k (by have := k.isLt; omega)
  unfold hidScale hScale1
  simp only [e]
  rfl
theorem hidCodes_eq {n : ℕ} {r : Vec F S11x248x512 .f32} (hn : 15 ≤ n) (h : HidOk m c n r) :
    hidCodes r = hCodes m c := by
  funext y
  unfold hidCodes hCodes
  rw [hidScale_eq hn h, h (tileOf y) (by have := (tileOf y).isLt; omega)]

theorem ResOk.mono {n n' : ℕ} {r : Vec F S4x248x512 .f32} (h : ResOk m c n r) (hn : n' ≤ n ∨ 4 ≤ n) : ResOk m c n' r :=
  fun k hk => h k (by have := k.isLt; omega)
theorem HidOk.mono {n n' : ℕ} {r : Vec F S11x248x512 .f32} (h : HidOk m c n r) (hn : n' ≤ n ∨ n' ≤ 4 ∨ 15 ≤ n) : HidOk m c n' r :=
  fun k hk => h k (by have := k.isLt; omega)
theorem ResOk.put {n : ℕ} {r : Vec F S4x248x512 .f32} (h : ResOk m c n r) (hn : n < 4) :
    ResOk m c (n + 1) (put4 r ⟨n, hn⟩ (rAt m c n)) := by
  intro k hk
  by_cases e : (⟨n, hn⟩ : Fin 4) = k
  · subst e; exact slab4_put4 _ _ _
  · rw [slab4_put4_of_ne _ _ _ _ e]
    exact h k (by have : n ≠ k.val := fun e' => e (Fin.ext e'); omega)
theorem HidOk.put {n : ℕ} {r : Vec F S11x248x512 .f32} (h : HidOk m c n r) (hn : 4 ≤ n) (hn' : n < 15) :
    HidOk m c (n + 1) (put11 r ⟨n - 4, by omega⟩ (hAt m c n)) := by
  have hlt : n - 4 < 11 := by omega
  intro k hk
  by_cases e : (⟨n - 4, hlt⟩ : Fin 11) = k
  · subst e
    refine (slab11_put11 _ _ _).trans (congrArg (hAt m c) ?_)
    show n = n - 4 + 4
    omega
  · rw [slab11_put11_of_ne _ _ _ _ e]
    exact h k (by have : n - 4 ≠ k.val := fun e' => e (Fin.ext e'); omega)

end Cert.TailIdeal.Hand
-- ==== Proof.Tail.Steps.lean ====
module

public import proofs.«01_k».proof.Proof.Tail.Values
public import proofs.«01_k».proof.Proof.Gen.TailIdeal.Launch
public import proofs.«01_k».proof.Proof.Gen.TailIdeal.Points
public import proofs.«01_k».proof.Proof.Gen.TailIdeal.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.TailIdeal.Hand

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (t : Fin cfg0.N)

/-! ## What the body may find in an output's staging buffer -/

def Find12 (X : Vec F S248x1x3072 .f32) : Prop := Ok12 m c t.val X
def Find13 (X : Vec F S248x3072 .fp8e4m3) : Prop := Ok13 m c t.val X
def Find14 (X : Vec F S1x248 .f32) : Prop := Ok14 m c t.val X
def Find15 (X : Vec F S248x1x512 .f32) : Prop := (4 ≤ t.val → Ok15 m c t.val X)
def Find16 (X : Vec F S248x2048 .fp8e4m3) : Prop := Ok16 m c t.val X
def Find17 (X : Vec F S1x248 .f32) : Prop := Ok17 m c t.val X
def Find18 (X : Vec F S248x1x512 .f32) : Prop := (15 ≤ t.val → Ok18 m c t.val X)
def Find19 (X : Vec F S248x1x512 .f32) : Prop := (15 ≤ t.val → Ok19 m c t.val X)
def Find20 (X : Vec F S248x5632 .fp8e4m3) : Prop := Ok20 m c t.val X
def Find21 (X : Vec F S1x248 .f32) : Prop := Ok21 m c t.val X

variable (arg1 : Memref sig .tc .vmem S248x512 .bf16) (harg1 : arg1.IsWhole) (arg2 : Memref sig .tc .vmem S248x3072 .f32) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x2048 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S2048x512 .fp8e4m3) (harg8 : arg8.IsWhole) (arg9 : Memref sig .tc .vmem S1x512 .f32) (harg9 : arg9.IsWhole) (arg10 : Memref sig .tc .vmem S5632x512 .fp8e4m3) (harg10 : arg10.IsWhole) (arg11 : Memref sig .tc .vmem S1x512 .f32) (harg11 : arg11.IsWhole) (arg12 : Memref sig .tc .vmem S248x512 .bf16)
  (harg12 : arg12.IsWhole) (arg13 : Memref sig .tc .vmem S248x1x3072 .f32) (harg13 : arg13.IsWhole) (arg14 : Memref sig .tc .vmem S248x3072 .fp8e4m3) (harg14 : arg14.IsWhole) (arg15 : Memref sig .tc .vmem S1x248 .f32) (harg15 : arg15.IsWhole) (arg16 : Memref sig .tc .vmem S248x1x512 .f32) (harg16 : arg16.IsWhole) (arg17 : Memref sig .tc .vmem S248x2048 .fp8e4m3) (harg17 : arg17.IsWhole) (arg18 : Memref sig .tc .vmem S1x248 .f32) (harg18 : arg18.IsWhole) (arg19 : Memref sig .tc .vmem S248x1x512 .f32) (harg19 : arg19.IsWhole) (arg20 : Memref sig .tc .vmem S248x1x512 .f32) (harg20 : arg20.IsWhole) (arg21 : Memref sig .tc .vmem S248x5632 .fp8e4m3) (harg21 : arg21.IsWhole) (arg22 : Memref sig .tc .vmem S1x248 .f32) (harg22 : arg22.IsWhole) (arg23 : Memref sig .tc .vmem S248x1x512 .f32) (harg23 : arg23.IsWhole) (arg24 : Memref sig .tc .vmem S248x128 .f32) (harg24 : arg24.IsWhole) (arg25 : Memref sig .tc .vmem S4x248x512 .f32) (harg25 : arg25.IsWhole) (arg26 : Memref sig .tc .vmem S11x248x512 .f32) (harg26 : arg26.IsWhole)

/-- The three scratch buffers after `n` points. -/
def scratchAt (n : ℕ) : sProp 𝕄 :=
  iprop(∃ s r h, ⌜ScaleOk m c n s ∧ ResOk m c n r ∧ HidOk m c n h⌝ ∗ own c arg24 s ∗ own c arg25 r ∗ own c arg26 h)

/-- What the body finds at point `t`. -/
def found (R : sProp 𝕄) : sProp 𝕄 :=
  iprop(R ∗ scratchAt m c arg24 arg25 arg26 t.val
    ∗ own c arg1 (bx m c t)
    ∗ own c arg2 (bo m c t)
    ∗ own c arg3 (bw m c t)
    ∗ own c arg4 (bws m c t)
    ∗ own c arg5 (bn m c t)
    ∗ own c arg6 (bwg m c t)
    ∗ own c arg7 (bgs m c t)
    ∗ own c arg8 (bwv m c t)
    ∗ own c arg9 (bvs m c t)
    ∗ own c arg10 (bw2 m c t)
    ∗ own c arg11 (bw2s m c t)
    ∗ (∃ X, ⌜True⌝ ∗ own c arg12 X)
    ∗ (∃ X, ⌜Find12 m c t X⌝ ∗ own c arg13 X)
    ∗ (∃ X, ⌜Find13 m c t X⌝ ∗ own c arg14 X)
    ∗ (∃ X, ⌜Find14 m c t X⌝ ∗ own c arg15 X)
    ∗ (∃ X, ⌜Find15 m c t X⌝ ∗ own c arg16 X)
    ∗ (∃ X, ⌜Find16 m c t X⌝ ∗ own c arg17 X)
    ∗ (∃ X, ⌜Find17 m c t X⌝ ∗ own c arg18 X)
    ∗ (∃ X, ⌜Find18 m c t X⌝ ∗ own c arg19 X)
    ∗ (∃ X, ⌜Find19 m c t X⌝ ∗ own c arg20 X)
    ∗ (∃ X, ⌜Find20 m c t X⌝ ∗ own c arg21 X)
    ∗ (∃ X, ⌜Find21 m c t X⌝ ∗ own c arg22 X)
    ∗ (∃ X, ⌜True⌝ ∗ own c arg23 X))

/-- What the body leaves at point `t`. -/
def left (R : sProp 𝕄) : sProp 𝕄 :=
  iprop(R ∗ scratchAt m c arg24 arg25 arg26 (t.val + 1)
    ∗ own c arg1 (bx m c t)
    ∗ own c arg2 (bo m c t)
    ∗ own c arg3 (bw m c t)
    ∗ own c arg4 (bws m c t)
    ∗ own c arg5 (bn m c t)
    ∗ own c arg6 (bwg m c t)
    ∗ own c arg7 (bgs m c t)
    ∗ own c arg8 (bwv m c t)
    ∗ own c arg9 (bvs m c t)
    ∗ own c arg10 (bw2 m c t)
    ∗ own c arg11 (bw2s m c t)
    ∗ (∃ X, ⌜Ok11 m c (t.val + 1) X⌝ ∗ own c arg12 X)
    ∗ (∃ X, ⌜Ok12 m c (t.val + 1) X⌝ ∗ own c arg13 X)
    ∗ (∃ X, ⌜Ok13 m c (t.val + 1) X⌝ ∗ own c arg14 X)
    ∗ (∃ X, ⌜Ok14 m c (t.val + 1) X⌝ ∗ own c arg15 X)
    ∗ (∃ X, ⌜Ok15 m c (t.val + 1) X⌝ ∗ own c arg16 X)
    ∗ (∃ X, ⌜Ok16 m c (t.val + 1) X⌝ ∗ own c arg17 X)
    ∗ (∃ X, ⌜Ok17 m c (t.val + 1) X⌝ ∗ own c arg18 X)
    ∗ (∃ X, ⌜Ok18 m c (t.val + 1) X⌝ ∗ own c arg19 X)
    ∗ (∃ X, ⌜Ok19 m c (t.val + 1) X⌝ ∗ own c arg20 X)
    ∗ (∃ X, ⌜Ok20 m c (t.val + 1) X⌝ ∗ own c arg21 X)
    ∗ (∃ X, ⌜Ok21 m c (t.val + 1) X⌝ ∗ own c arg22 X)
    ∗ (∃ X, ⌜Ok22 m c (t.val + 1) X⌝ ∗ own c arg23 X))

variable {m c t arg1 arg2 arg3 arg4 arg5 arg6 arg7 arg8 arg9 arg10 arg11 arg12 arg13 arg14 arg15 arg16 arg17 arg18 arg19 arg20 arg21 arg22 arg23 arg24 arg25 arg26} in
/-- The buffers at contents that are as they should be, put together. -/
theorem left_intro (R : sProp 𝕄) (s : Vec F S248x128 .f32) (r : Vec F S4x248x512 .f32) (h : Vec F S11x248x512 .f32)
    (X11 : Vec F S248x512 .bf16)    (X12 : Vec F S248x1x3072 .f32)    (X13 : Vec F S248x3072 .fp8e4m3)
    (X14 : Vec F S1x248 .f32)    (X15 : Vec F S248x1x512 .f32)    (X16 : Vec F S248x2048 .fp8e4m3)
    (X17 : Vec F S1x248 .f32)    (X18 : Vec F S248x1x512 .f32)    (X19 : Vec F S248x1x512 .f32)
    (X20 : Vec F S248x5632 .fp8e4m3)    (X21 : Vec F S1x248 .f32)    (X22 : Vec F S248x1x512 .f32)

    (hs : ScaleOk m c (t.val + 1) s) (hr : ResOk m c (t.val + 1) r) (hh : HidOk m c (t.val + 1) h)
    (h11 : Ok11 m c (t.val + 1) X11)    (h12 : Ok12 m c (t.val + 1) X12)    (h13 : Ok13 m c (t.val + 1) X13)
    (h14 : Ok14 m c (t.val + 1) X14)    (h15 : Ok15 m c (t.val + 1) X15)    (h16 : Ok16 m c (t.val + 1) X16)
    (h17 : Ok17 m c (t.val + 1) X17)    (h18 : Ok18 m c (t.val + 1) X18)    (h19 : Ok19 m c (t.val + 1) X19)
    (h20 : Ok20 m c (t.val + 1) X20)    (h21 : Ok21 m c (t.val + 1) X21)    (h22 : Ok22 m c (t.val + 1) X22)

    : iprop(R ∗ own c arg24 s ∗ own c arg25 r ∗ own c arg26 h
    ∗ own c arg1 (bx m c t)
    ∗ own c arg2 (bo m c t)
    ∗ own c arg3 (bw m c t)
    ∗ own c arg4 (bws m c t)
    ∗ own c arg5 (bn m c t)
    ∗ own c arg6 (bwg m c t)
    ∗ own c arg7 (bgs m c t)
    ∗ own c arg8 (bwv m c t)
    ∗ own c arg9 (bvs m c t)
    ∗ own c arg10 (bw2 m c t)
    ∗ own c arg11 (bw2s m c t)
    ∗ own c arg12 X11
    ∗ own c arg13 X12
    ∗ own c arg14 X13
    ∗ own c arg15 X14
    ∗ own c arg16 X15
    ∗ own c arg17 X16
    ∗ own c arg18 X17
    ∗ own c arg19 X18
    ∗ own c arg20 X19
    ∗ own c arg21 X20
    ∗ own c arg22 X21
    ∗ own c arg23 X22)
    ⊢ left m c t arg1 arg2 arg3 arg4 arg5 arg6 arg7 arg8 arg9 arg10 arg11 arg12 arg13 arg14 arg15 arg16 arg17 arg18 arg19 arg20 arg21 arg22 arg23 arg24 arg25 arg26 R := by
  unfold left scratchAt
  iintro ⟨HR, H24, H25, H26, H1, H2, H3, H4, H5, H6, H7, H8, H9, H10, H11, H12, H13, H14, H15, H16, H17, H18, H19, H20, H21, H22, H23⟩
  isplitl [HR]
  · iexact HR
  isplitl [H24 H25 H26]
  · iexists s, r, h
    isplitr
    · ipureintro; exact ⟨hs, hr, hh⟩
    isplitl [H24]
    · iexact H24
    isplitl [H25]
    · iexact H25
    iexact H26
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists X11
    isplitr
    · ipureintro; exact h11
    iexact H12
  isplitl [H13]
  · iexists X12
    isplitr
    · ipureintro; exact h12
    iexact H13
  isplitl [H14]
  · iexists X13
    isplitr
    · ipureintro; exact h13
    iexact H14
  isplitl [H15]
  · iexists X14
    isplitr
    · ipureintro; exact h14
    iexact H15
  isplitl [H16]
  · iexists X15
    isplitr
    · ipureintro; exact h15
    iexact H16
  isplitl [H17]
  · iexists X16
    isplitr
    · ipureintro; exact h16
    iexact H17
  isplitl [H18]
  · iexists X17
    isplitr
    · ipureintro; exact h17
    iexact H18
  isplitl [H19]
  · iexists X18
    isplitr
    · ipureintro; exact h18
    iexact H19
  isplitl [H20]
  · iexists X19
    isplitr
    · ipureintro; exact h19
    iexact H20
  isplitl [H21]
  · iexists X20
    isplitr
    · ipureintro; exact h20
    iexact H21
  isplitl [H22]
  · iexists X21
    isplitr
    · ipureintro; exact h21
    iexact H22
  iexists X22
  isplitr
  · ipureintro; exact h22
  iexact H23

/-! ## Carrying the facts over a point that does not touch the buffer -/

variable {m c}
theorem Ok12.step {n : ℕ} {X : Vec F S248x1x3072 .f32} (h : Ok12 m c n X) (hn : 1 ≤ n) : Ok12 m c (n + 1) X := fun _ => h hn
theorem Ok13.step {n : ℕ} {X : Vec F S248x3072 .fp8e4m3} (h : Ok13 m c n X) (hn : 1 ≤ n) : Ok13 m c (n + 1) X := fun _ => h hn
theorem Ok14.step {n : ℕ} {X : Vec F S1x248 .f32} (h : Ok14 m c n X) (hn : 1 ≤ n) : Ok14 m c (n + 1) X := fun _ => h hn
theorem Ok15.step {n : ℕ} {X : Vec F S248x1x512 .f32} (h : Ok15 m c n X) (hn : 4 ≤ n) : Ok15 m c (n + 1) X := fun _ => by
  rw [h (by omega), show min (n - 1) 3 = min (n + 1 - 1) 3 by omega]
theorem Ok16.step {n : ℕ} {X : Vec F S248x2048 .fp8e4m3} (h : Ok16 m c n X) (hn : 5 ≤ n) : Ok16 m c (n + 1) X := fun _ => h hn
theorem Ok17.step {n : ℕ} {X : Vec F S1x248 .f32} (h : Ok17 m c n X) (hn : 5 ≤ n) : Ok17 m c (n + 1) X := fun _ => h hn
theorem Ok18.step {n : ℕ} {X : Vec F S248x1x512 .f32} (h : Ok18 m c n X) (hn : 15 ≤ n) : Ok18 m c (n + 1) X := fun _ => by
  rw [h (by omega), show min (n - 1) 14 = min (n + 1 - 1) 14 by omega]
theorem Ok19.step {n : ℕ} {X : Vec F S248x1x512 .f32} (h : Ok19 m c n X) (hn : 15 ≤ n) : Ok19 m c (n + 1) X := fun _ => by
  rw [h (by omega), show min (n - 1) 14 = min (n + 1 - 1) 14 by omega]
theorem Ok20.step {n : ℕ} {X : Vec F S248x5632 .fp8e4m3} (h : Ok20 m c n X) (hn : 16 ≤ n) : Ok20 m c (n + 1) X := fun _ => h hn
theorem Ok21.step {n : ℕ} {X : Vec F S1x248 .f32} (h : Ok21 m c n X) (hn : 16 ≤ n) : Ok21 m c (n + 1) X := fun _ => h hn
theorem ScaleOk.step {n : ℕ} {s : Vec F S248x128 .f32} (h : ScaleOk m c n s) (h0 : n ≠ 0) (h4 : n ≠ 4) (h15 : n ≠ 15) :
    ScaleOk m c (n + 1) s :=
  ⟨fun _ _ => h.1 (by omega) (by omega), fun _ _ => h.2.1 (by omega) (by omega), fun _ => h.2.2 (by omega)⟩

variable (m c)
theorem opAt_val : opAt m c t.val = k0_pay8 (oCodes m c) (bw m c t) (col (oScale m c)) (bws m c t) := by
  unfold opAt; rw [pt_val]
theorem rAt_val : rAt m c t.val = k0_pay9 (oCodes m c) (bw m c t) (col (oScale m c)) (bws m c t) (bx m c t) := by
  unfold rAt; rw [pt_val]
theorem gAt_val : gAt m c t.val = k0_pay29 (nCodes m c) (bwg m c t) (col (nScale m c)) (bgs m c t) := by
  unfold gAt; rw [pt_val]
theorem vAt_val : vAt m c t.val = k0_pay30 (nCodes m c) (bwv m c t) (col (nScale m c)) (bvs m c t) := by
  unfold vAt; rw [pt_val]
theorem hAt_val : hAt m c t.val = k0_pay14 (k0_pay31 (nCodes m c) (bwg m c t) (col (nScale m c)) (bgs m c t)
    (bwv m c t) (col (nScale m c)) (bvs m c t)) := by
  unfold hAt; rw [pt_val]
theorem mpAt_val : mpAt m c t.val = k0_pay20 (hCodes m c) (bw2 m c t) (col (hScale m c)) (bw2s m c t) := by
  unfold mpAt; rw [pt_val]
theorem outAt_val : outAt m c t.val = k0_pay21 (hCodes m c) (bw2 m c t) (col (hScale m c)) (bw2s m c t) (rAt m c (t.val - 15)) := by
  unfold outAt; rw [pt_val]
theorem oRows_of (h : t.val = 0) : bo m c t = oRows m c := by
  unfold oRows; rw [← pt_val t, h]
theorem bn_of (h : t.val = 4) : bn m c t = bn m c (pt 4) := by
  conv_lhs => rw [← pt_val t, h]

/-! ## The body at a point of each kind -/

set_option maxHeartbeats 2000000 in
/-- The first point. -/
theorem step_first (R : sProp 𝕄) (ht : t.val = 0) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  have eo := oRows_of m c t ht
  iapply (run_first c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (cond1_iff t |>.mpr (by omega)) (cond2_iff t |>.mpr (by omega)) (fun hc => absurd ((cond3_iff t).mp hc) (by omega)) (fun hc => absurd ((cond4_iff t).mp hc) (by omega)) (fun hc => absurd ((cond5_iff t).mp hc) (by omega)) (fun hc => absurd ((cond6_iff t).mp hc) (by omega))
      ⟨t.val, by omega⟩ (off1_eq t (by omega)) (bx m c t) (bo m c t) (bw m c t) (bws m c t) X12 X13 X14 X15 s r _)
  iframe H1 H2 H3 H4 H13 H14 H15 H16 H24 H25
  iintro ⟨H1, H2, H3, H4, H13, H14, H15, H16, H24, H25⟩
  iapply (left_intro (t := t) R (k0_pay5 (bo m c t)) (put4 r ⟨t.val, by omega⟩ (k0_pay9 (k0_pay3 (bo m c t)) (bw m c t) (col (k0_pay5 (bo m c t))) (bws m c t) (bx m c t))) h
      X11 (k0_pay1 (bo m c t)) (k0_pay3 (bo m c t)) (k0_pay6 (bo m c t)) (k0_pay8 (k0_pay3 (bo m c t)) (bw m c t) (col (k0_pay5 (bo m c t))) (bws m c t)) X16 X17 X18 X19 X20 X21 X22
      ⟨fun _ _ => by rw [eo]; rfl, fun hc => absurd hc (by omega), fun hc => absurd hc (by omega)⟩ (by rw [eo]; exact (rAt_val m c t) ▸ hr.put (by omega)) (hh.mono (by omega))
      (fun hc => absurd hc (by omega))
      (fun _ => by rw [eo])
      (fun _ => by rw [eo]; rfl)
      (fun _ => by rw [eo])
      (fun _ => by rw [eo, show min (t.val + 1 - 1) 3 = t.val by omega]; exact (opAt_val m c t).symm)
      (fun hc => absurd hc (by omega))
      (fun hc => absurd hc (by omega))
      (fun hc => absurd hc (by omega))
      (fun hc => absurd hc (by omega))
      (fun hc => absurd hc (by omega))
      (fun hc => absurd hc (by omega))
      (fun hc => absurd hc (by omega)))
  iframe HR H24 H25 H26 H1 H2 H3 H4 H5 H6 H7 H8 H9 H10 H11 H12 H13 H14 H15 H16 H17 H18 H19 H20 H21 H22 H23

set_option maxHeartbeats 2000000 in
/-- The points that take one more tile of the first product. -/
theorem step_out (R : sProp 𝕄) (ht : 1 ≤ t.val) (ht' : t.val < 4) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  obtain rfl := E13 (by omega)
  obtain rfl := hs.1 (by omega) (by omega)
  iapply (run_out c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (cond2_iff t |>.mpr (by omega)) (fun hc => absurd ((cond3_iff t).mp hc) (by omega)) (fun hc => absurd ((cond4_iff t).mp hc) (by omega)) (fun hc => absurd ((cond5_iff t).mp hc) (by omega)) (fun hc => absurd ((cond6_iff t).mp hc) (by omega))
      ⟨t.val, ht'⟩ (off1_eq t ht') (bx m c t) (bw m c t) (bws m c t) (oCodes m c) X15 (oScale m c) r _)
  iframe H1 H3 H4 H14 H16 H24 H25
  iintro ⟨H1, H3, H4, H14, H16, H24, H25⟩
  iapply (left_intro (t := t) R (oScale m c) (put4 r ⟨t.val, ht'⟩ (k0_pay9 (oCodes m c) (bw m c t) (col (oScale m c)) (bws m c t) (bx m c t))) h
      X11 X12 (oCodes m c) X14 (k0_pay8 (oCodes m c) (bw m c t) (col (oScale m c)) (bws m c t)) X16 X17 X18 X19 X20 X21 X22
      (hs.step (by omega) (by omega) (by omega)) ((rAt_val m c t) ▸ hr.put ht') (hh.mono (by omega))
      (fun hc => absurd hc (by omega))
      (E12.step ht)
      (E13.step ht)
      (E14.step ht)
      (fun _ => by rw [show min (t.val + 1 - 1) 3 = t.val by omega]; exact (opAt_val m c t).symm)
      (fun hc => absurd hc (by omega))
      (fun hc => absurd hc (by omega))
      (fun hc => absurd hc (by omega))
      (fun hc => absurd hc (by omega))
      (fun hc => absurd hc (by omega))
      (fun hc => absurd hc (by omega))
      (fun hc => absurd hc (by omega)))
  iframe HR H24 H25 H26 H1 H2 H3 H4 H5 H6 H7 H8 H9 H10 H11 H12 H13 H14 H15 H16 H17 H18 H19 H20 H21 H22 H23

set_option maxHeartbeats 2000000 in
/-- The point that norms and quantises the residual rows and takes the first hidden tile. -/
theorem step_norm (R : sProp 𝕄) (ht : t.val = 4) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  have en := bn_of m c t ht
  have eS : normScale r (bn m c t) = nScale1 m c := by rw [en]; exact normScale_eq (by omega) hr
  have eC : normCodes r (bn m c t) = nCodes m c := by rw [en]; exact normCodes_eq (by omega) hr
  iapply (run_norm c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (fun hc => absurd ((cond2_iff t).mp hc) (by omega)) (cond3_iff t |>.mpr (by omega)) (cond4_iff t |>.mpr (by omega)) (fun hc => absurd ((cond5_iff t).mp hc) (by omega)) (fun hc => absurd ((cond6_iff t).mp hc) (by omega))
      ⟨t.val - 4, by omega⟩ (off2_eq t (by omega) (by omega)) (bn m c t) (bwg m c t) (bgs m c t) (bwv m c t) (bvs m c t) X16 X17 X18 X19 s r h _)
  iframe H5 H6 H7 H8 H9 H17 H18 H19 H20 H24 H25 H26
  iintro ⟨H5, H6, H7, H8, H9, H17, H18, H19, H20, H24, H25, H26⟩
  iapply (left_intro (t := t) R (k0_pay12 (normScale r (bn m c t))) r (put11 h ⟨t.val - 4, by omega⟩ (k0_pay14 (k0_pay31 (normCodes r (bn m c t)) (bwg m c t) (col (k0_pay12 (normScale r (bn m c t)))) (bgs m c t) (bwv m c t) (col (k0_pay12 (normScale r (bn m c t)))) (bvs m c t))))
      X11 X12 X13 X14 X15 (normCodes r (bn m c t)) (k0_pay13 (normScale r (bn m c t))) (k0_pay29 (normCodes r (bn m c t)) (bwg m c t) (col (k0_pay12 (normScale r (bn m c t)))) (bgs m c t)) (k0_pay30 (normCodes r (bn m c t)) (bwv m c t) (col (k0_pay12 (normScale r (bn m c t)))) (bvs m c t)) X20 X21 X22
      ⟨fun _ hc => absurd hc (by omega), fun _ _ => by rw [eS]; rfl, fun hc => absurd hc (by omega)⟩ (hr.mono (by omega)) (by rw [eS, eC]; exact (hAt_val m c t) ▸ hh.put (by omega) (by omega))
      (fun hc => absurd hc (by omega))
      (E12.step (by omega))
      (E13.step (by omega))
      (E14.step (by omega))
      ((E15 (by omega)).step (by omega))
      (fun _ => eC)
      (fun _ => by rw [eS])
      (fun _ => by rw [eS, eC, show min (t.val + 1 - 1) 14 = t.val by omega]; exact (gAt_val m c t).symm)
      (fun _ => by rw [eS, eC, show min (t.val + 1 - 1) 14 = t.val by omega]; exact (vAt_val m c t).symm)
      (fun hc => absurd hc (by omega))
      (fun hc => absurd hc (by omega))
      (fun hc => absurd hc (by omega)))
  iframe HR H24 H25 H26 H1 H2 H3 H4 H5 H6 H7 H8 H9 H10 H11 H12 H13 H14 H15 H16 H17 H18 H19 H20 H21 H22 H23

set_option maxHeartbeats 2000000 in
/-- The points that take one more hidden tile. -/
theorem step_mlp (R : sProp 𝕄) (ht : 5 ≤ t.val) (ht' : t.val < 15) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  obtain rfl := E16 (by omega)
  obtain rfl := hs.2.1 (by omega) (by omega)
  iapply (run_mlp c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (fun hc => absurd ((cond2_iff t).mp hc) (by omega)) (fun hc => absurd ((cond3_iff t).mp hc) (by omega)) (cond4_iff t |>.mpr (by omega)) (fun hc => absurd ((cond5_iff t).mp hc) (by omega)) (fun hc => absurd ((cond6_iff t).mp hc) (by omega))
      ⟨t.val - 4, by omega⟩ (off2_eq t (by omega) ht') (bwg m c t) (bgs m c t) (bwv m c t) (bvs m c t) (nCodes m c) X18 X19 (nScale m c) h _)
  iframe H6 H7 H8 H9 H17 H19 H20 H24 H26
  iintro ⟨H6, H7, H8, H9, H17, H19, H20, H24, H26⟩
  iapply (left_intro (t := t) R (nScale m c) r (put11 h ⟨t.val - 4, by omega⟩ (k0_pay14 (k0_pay31 (nCodes m c) (bwg m c t) (col (nScale m c)) (bgs m c t) (bwv m c t) (col (nScale m c)) (bvs m c t))))
      X11 X12 X13 X14 X15 (nCodes m c) X17 (k0_pay29 (nCodes m c) (bwg m c t) (col (nScale m c)) (bgs m c t)) (k0_pay30 (nCodes m c) (bwv m c t) (col (nScale m c)) (bvs m c t)) X20 X21 X22
      (hs.step (by omega) (by omega) (by omega)) (hr.mono (by omega)) ((hAt_val m c t) ▸ hh.put (by omega) ht')
      (fun hc => absurd hc (by omega))
      (E12.step (by omega))
      (E13.step (by omega))
      (E14.step (by omega))
      ((E15 (by omega)).step (by omega))
      (E16.step ht)
      (E17.step ht)
      (fun _ => by rw [show min (t.val + 1 - 1) 14 = t.val by omega]; exact (gAt_val m c t).symm)
      (fun _ => by rw [show min (t.val + 1 - 1) 14 = t.val by omega]; exact (vAt_val m c t).symm)
      (fun hc => absurd hc (by omega))
      (fun hc => absurd hc (by omega))
      (fun hc => absurd hc (by omega)))
  iframe HR H24 H25 H26 H1 H2 H3 H4 H5 H6 H7 H8 H9 H10 H11 H12 H13 H14 H15 H16 H17 H18 H19 H20 H21 H22 H23

set_option maxHeartbeats 2000000 in
/-- The point that quantises the hidden rows and takes the first tile of the last product. -/
theorem step_hid (R : sProp 𝕄) (ht : t.val = 15) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  have eS : hidScale h = hScale1 m c := hidScale_eq (by omega) hh
  have eC : hidCodes h = hCodes m c := hidCodes_eq (by omega) hh
  have eR : slab4 r ⟨t.val - 15, by omega⟩ = rAt m c (t.val - 15) := hr _ (by show t.val - 15 < t.val; omega)
  iapply (run_hid c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (fun hc => absurd ((cond2_iff t).mp hc) (by omega)) (fun hc => absurd ((cond3_iff t).mp hc) (by omega)) (fun hc => absurd ((cond4_iff t).mp hc) (by omega)) (cond5_iff t |>.mpr (by omega)) (cond6_iff t |>.mpr (by omega))
      ⟨t.val - 15, by omega⟩ (off3_eq t (by omega)) (bw2 m c t) (bw2s m c t) X11 X20 X21 X22 s r h _)
  iframe H10 H11 H12 H21 H22 H23 H24 H25 H26
  iintro ⟨H10, H11, H12, H21, H22, H23, H24, H25, H26⟩
  iapply (left_intro (t := t) R (k0_pay17 (hidScale h)) r h
      (k0_pay21 (hidCodes h) (bw2 m c t) (col (k0_pay17 (hidScale h))) (bw2s m c t) (slab4 r ⟨t.val - 15, by omega⟩)) X12 X13 X14 X15 X16 X17 X18 X19 (hidCodes h) (k0_pay18 (hidScale h)) (k0_pay20 (hidCodes h) (bw2 m c t) (col (k0_pay17 (hidScale h))) (bw2s m c t))
      ⟨fun _ hc => absurd hc (by omega), fun _ hc => absurd hc (by omega), fun _ => by rw [eS]; rfl⟩ (hr.mono (by omega)) (hh.mono (by omega))
      (fun _ => by rw [eS, eC, eR, Nat.add_sub_cancel]; exact (outAt_val m c t).symm)
      (E12.step (by omega))
      (E13.step (by omega))
      (E14.step (by omega))
      ((E15 (by omega)).step (by omega))
      (E16.step (by omega))
      (E17.step (by omega))
      ((E18 (by omega)).step (by omega))
      ((E19 (by omega)).step (by omega))
      (fun _ => eC)
      (fun _ => by rw [eS])
      (fun _ => by rw [eS, eC, Nat.add_sub_cancel]; exact (mpAt_val m c t).symm))
  iframe HR H24 H25 H26 H1 H2 H3 H4 H5 H6 H7 H8 H9 H10 H11 H12 H13 H14 H15 H16 H17 H18 H19 H20 H21 H22 H23

set_option maxHeartbeats 2000000 in
/-- The points that take one more tile of the last product. -/
theorem step_proj (R : sProp 𝕄) (ht : 16 ≤ t.val) :
    found m c t arg1 arg2 arg3 arg4 arg5 arg6 arg7 arg8 arg9 arg10 arg11 arg12 arg13 arg14 arg15 arg16 arg17 arg18 arg19 arg20 arg21 arg22 arg23 arg24 arg25 arg26 R
    ⊢ wp frame (wpE (defs₀ (F := F)) Variants.none c none) Set.univ
        (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        (fun _ => left m c t arg1 arg2 arg3 arg4 arg5 arg6 arg7 arg8 arg9 arg10 arg11 arg12 arg13 arg14 arg15 arg16 arg17 arg18 arg19 arg20 arg21 arg22 arg23 arg24 arg25 arg26 R) := by
  unfold found scratchAt
  iintro ⟨HR, ⟨%s, %r, %h, %hsrh, H24, H25, H26⟩, H1, H2, H3, H4, H5, H6, H7, H8, H9, H10, H11,
    ⟨%X11, %E11, H12⟩, ⟨%X12, %E12, H13⟩, ⟨%X13, %E13, H14⟩, ⟨%X14, %E14, H15⟩, ⟨%X15, %E15, H16⟩, ⟨%X16, %E16, H17⟩, ⟨%X17, %E17, H18⟩, ⟨%X18, %E18, H19⟩, ⟨%X19, %E19, H20⟩, ⟨%X20, %E20, H21⟩, ⟨%X21, %E21, H22⟩, ⟨%X22, %E22, H23⟩⟩
  obtain ⟨hs, hr, hh⟩ := hsrh
  have hlt0 : t.val < 19 := lt_of_lt_of_eq t.isLt N_0
  obtain rfl := E20 (by omega)
  obtain rfl := hs.2.2 (by omega)
  have hlt : t.val < 19 := lt_of_lt_of_eq t.isLt N_0
  have eR : slab4 r ⟨t.val - 15, by omega⟩ = rAt m c (t.val - 15) := hr _ (by show t.val - 15 < t.val; omega)
  iapply (run_proj c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      (fun hc => absurd ((cond1_iff t).mp hc) (by omega)) (fun hc => absurd ((cond2_iff t).mp hc) (by omega)) (fun hc => absurd ((cond3_iff t).mp hc) (by omega)) (fun hc => absurd ((cond4_iff t).mp hc) (by omega)) (fun hc => absurd ((cond5_iff t).mp hc) (by omega)) (cond6_iff t |>.mpr (by omega))
      ⟨t.val - 15, by omega⟩ (off3_eq t (by omega)) (bw2 m c t) (bw2s m c t) X11 (hCodes m c) X22 (hScale m c) r _)
  iframe H10 H11 H12 H21 H23 H24 H25
  iintro ⟨H10, H11, H12, H21, H23, H24, H25⟩
  iapply (left_intro (t := t) R (hScale m c) r h
      (k0_pay21 (hCodes m c) (bw2 m c t) (col (hScale m c)) (bw2s m c t) (slab4 r ⟨t.val - 15, by omega⟩)) X12 X13 X14 X15 X16 X17 X18 X19 (hCodes m c) X21 (k0_pay20 (hCodes m c) (bw2 m c t) (col (hScale m c)) (bw2s m c t))
      (hs.step (by omega) (by omega) (by omega)) (hr.mono (by omega)) (hh.mono (by omega))
      (fun _ => by rw [eR, Nat.add_sub_cancel]; exact (outAt_val m c t).symm)
      (E12.step (by omega))
      (E13.step (by omega))
      (E14.step (by omega))
      ((E15 (by omega)).step (by omega))
      (E16.step (by omega))
      (E17.step (by omega))
      ((E18 (by omega)).step (by omega))
      ((E19 (by omega)).step (by omega))
      (E20.step ht)
      (E21.step ht)
      (fun _ => by rw [Nat.add_sub_cancel]; exact (mpAt_val m c t).symm))
  iframe HR H24 H25 H26 H1 H2 H3 H4 H5 H6 H7 H8 H9 H10 H11 H12 H13 H14 H15 H16 H17 H18 H19 H20 H21 H22 H23

end Cert.TailIdeal.Hand
-- ==== Proof.Tail.Run.lean ====
module

public import proofs.«01_k».proof.Proof.Tail.Steps
public import proofs.«01_k».proof.Proof.Gen.TailIdeal.Launch
public import Idealize.ShloMosaic.Lib.Pipeline.DatRel
public import Idealize.ShloMosaic.Lib.Pipeline.ArrRel
public import proofs.«01_k».proof.Proof.Gen.TailIdeal.Points
public import proofs.«01_k».proof.Proof.Gen.TailIdeal.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.TailIdeal.Hand

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch after `n` points, and the core's random-number register. -/
def carried (c : Dev nD) (n : ℕ) : sProp 𝕄 :=
  iprop(scratchAt m c (Memref.whole cc0_scratch0) (Memref.whole cc0_scratch1) (Memref.whole cc0_scratch2) n ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t.val
    | ⟨12, _⟩ => k0_pay1 (oRows m c)
    | ⟨13, _⟩ => oCodes m c
    | ⟨14, _⟩ => k0_pay6 (oRows m c)
    | ⟨15, _⟩ => opAt m c t.val
    | ⟨16, _⟩ => nCodes m c
    | ⟨17, _⟩ => k0_pay13 (nScale1 m c)
    | ⟨18, _⟩ => gAt m c t.val
    | ⟨19, _⟩ => vAt m c t.val
    | ⟨20, _⟩ => hCodes m c
    | ⟨21, _⟩ => k0_pay18 (hScale1 m c)
    | ⟨22, _⟩ => mpAt m c t.val
    | ⟨_ + 23, h⟩ => absurd h (Nat.not_lt.2 (Nat.le_add_left _ _))
  Φ n := carried m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = bx m c t :=
  before0_0_of m (dats m 0 c) (A_eq m c 0) (after0_0 m c) t d
theorem before0_1 (c : Dev nD) (t : Fin cfg0.N) (d) : (dats m 0 c).before 1 t d = bo m c t :=
  before0_1_of m (dats m 0 c) (A_eq m c 1) (after0_1 m c) t d
theorem before0_2 (c : Dev nD) (t : Fin cfg0.N) (d) : (dats m 0 c).before 2 t d = bw m c t :=
  before0_2_of m (dats m 0 c) (A_eq m c 2) (after0_2 m c) t d
theorem before0_3 (c : Dev nD) (t : Fin cfg0.N) (d) : (dats m 0 c).before 3 t d = bws m c t :=
  before0_3_of m (dats m 0 c) (A_eq m c 3) (after0_3 m c) t d
theorem before0_4 (c : Dev nD) (t : Fin cfg0.N) (d) : (dats m 0 c).before 4 t d = bn m c t :=
  before0_4_of m (dats m 0 c) (A_eq m c 4) (after0_4 m c) t d
theorem before0_5 (c : Dev nD) (t : Fin cfg0.N) (d) : (dats m 0 c).before 5 t d = bwg m c t :=
  before0_5_of m (dats m 0 c) (A_eq m c 5) (after0_5 m c) t d
theorem before0_6 (c : Dev nD) (t : Fin cfg0.N) (d) : (dats m 0 c).before 6 t d = bgs m c t :=
  before0_6_of m (dats m 0 c) (A_eq m c 6) (after0_6 m c) t d
theorem before0_7 (c : Dev nD) (t : Fin cfg0.N) (d) : (dats m 0 c).before 7 t d = bwv m c t :=
  before0_7_of m (dats m 0 c) (A_eq m c 7) (after0_7 m c) t d
theorem before0_8 (c : Dev nD) (t : Fin cfg0.N) (d) : (dats m 0 c).before 8 t d = bvs m c t :=
  before0_8_of m (dats m 0 c) (A_eq m c 8) (after0_8 m c) t d
theorem before0_9 (c : Dev nD) (t : Fin cfg0.N) (d) : (dats m 0 c).before 9 t d = bw2 m c t :=
  before0_9_of m (dats m 0 c) (A_eq m c 9) (after0_9 m c) t d
theorem before0_10 (c : Dev nD) (t : Fin cfg0.N) (d) : (dats m 0 c).before 10 t d = bw2s m c t :=
  before0_10_of m (dats m 0 c) (A_eq m c 10) (after0_10 m c) t d

/-- The outputs, whose buffers the body need not leave at one value. -/
def isOut (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => true

/-- What the body leaves in an output's buffer at a point. -/
def leaves (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun _ => True
  | ⟨11, _⟩ => fun X => Ok11 m c (t.val + 1) X
  | ⟨12, _⟩ => fun X => Ok12 m c (t.val + 1) X
  | ⟨13, _⟩ => fun X => Ok13 m c (t.val + 1) X
  | ⟨14, _⟩ => fun X => Ok14 m c (t.val + 1) X
  | ⟨15, _⟩ => fun X => Ok15 m c (t.val + 1) X
  | ⟨16, _⟩ => fun X => Ok16 m c (t.val + 1) X
  | ⟨17, _⟩ => fun X => Ok17 m c (t.val + 1) X
  | ⟨18, _⟩ => fun X => Ok18 m c (t.val + 1) X
  | ⟨19, _⟩ => fun X => Ok19 m c (t.val + 1) X
  | ⟨20, _⟩ => fun X => Ok20 m c (t.val + 1) X
  | ⟨21, _⟩ => fun X => Ok21 m c (t.val + 1) X
  | ⟨22, _⟩ => fun X => Ok22 m c (t.val + 1) X
  | ⟨_ + 23, h⟩ => absurd h (Nat.not_lt.2 (Nat.le_add_left _ _))

abbrev rdat (c : Dev nD) : Pipeline.RDat τ (Elt F) Unit ℕ (UR sig nD τ) ℕ cfg0 c := (dats m 0 c).toRRel isOut (leaves m c)

/-! ## What the body may find in an output's buffer -/

theorem prev_lt (t : Fin cfg0.N) : t.val - 1 < cfg0.N := Nat.lt_of_le_of_lt (Nat.sub_le _ _) t.isLt

/-- Found after the first point, in a buffer not just written back: what the point before left. -/
theorem leaves_of_finds (c : Dev nD) (w : Fin cfg0.W) (hw : isOut w = true) (t : Fin cfg0.N) (hf : (cfg0.win w).fetch t = false)
    (h0 : t.val ≠ 0) (hfl : ¬ (cfg0.win w).flush ⟨t.val - 1, prev_lt t⟩ = true)
    (X : (cfg0.win w).block.Idx → Elt F (cfg0.win w).elt) (h : (rdat m c).Finds w t X) :
    leaves m c w ⟨t.val - 1, prev_lt t⟩ X :=
  (dats m 0 c).toRRel_leaves hw ((((rdat m c).finds_of_pos hf h0 X).mp h).resolve_left hfl)

theorem flush15 : ∀ t : Fin grid0.N, win0_15.flush t = true → t.val < 3 ∨ t.val = 18 := by decide +kernel
theorem flush18 : ∀ t : Fin grid0.N, win0_18.flush t = true → t.val < 14 ∨ t.val = 18 := by decide +kernel
theorem flush19 : ∀ t : Fin grid0.N, win0_19.flush t = true → t.val < 14 ∨ t.val = 18 := by decide +kernel

theorem find12 (c : Dev nD) (t : Fin cfg0.N) (X : Vec F S248x1x3072 .f32) (h : (rdat m c).Finds 12 t X) : Find12 m c t X := by
  by_cases h0 : t.val = 0
  · exact fun hc => absurd hc (by omega)
  have hlt := lt_of_lt_of_eq t.isLt N_0
  have h' : Ok12 m c (t.val - 1 + 1) X := leaves_of_finds m c 12 rfl t rfl h0 (fun hc => by
    have hd : (t.val - 1) % 19 = 18 := (flush0_12 ⟨t.val - 1, prev_lt t⟩).mp hc
    omega) X h
  rwa [Nat.sub_add_cancel (by omega)] at h'
theorem find13 (c : Dev nD) (t : Fin cfg0.N) (X : Vec F S248x3072 .fp8e4m3) (h : (rdat m c).Finds 13 t X) : Find13 m c t X := by
  by_cases h0 : t.val = 0
  · exact fun hc => absurd hc (by omega)
  have hlt := lt_of_lt_of_eq t.isLt N_0
  have h' : Ok13 m c (t.val - 1 + 1) X := leaves_of_finds m c 13 rfl t rfl h0 (fun hc => by
    have hd : (t.val - 1) % 19 = 18 := (flush0_13 ⟨t.val - 1, prev_lt t⟩).mp hc
    omega) X h
  rwa [Nat.sub_add_cancel (by omega)] at h'
theorem find14 (c : Dev nD) (t : Fin cfg0.N) (X : Vec F S1x248 .f32) (h : (rdat m c).Finds 14 t X) : Find14 m c t X := by
  by_cases h0 : t.val = 0
  · exact fun hc => absurd hc (by omega)
  have hlt := lt_of_lt_of_eq t.isLt N_0
  have h' : Ok14 m c (t.val - 1 + 1) X := leaves_of_finds m c 14 rfl t rfl h0 (fun hc => by
    have hd : (t.val - 1) % 19 = 18 := (flush0_14 ⟨t.val - 1, prev_lt t⟩).mp hc
    omega) X h
  rwa [Nat.sub_add_cancel (by omega)] at h'
theorem find15 (c : Dev nD) (t : Fin cfg0.N) (X : Vec F S248x1x512 .f32) (h : (rdat m c).Finds 15 t X) : Find15 m c t X := by
  intro ht
  have h0 : t.val ≠ 0 := by omega
  have hlt := lt_of_lt_of_eq t.isLt N_0
  have h' : Ok15 m c (t.val - 1 + 1) X := leaves_of_finds m c 15 rfl t rfl h0 (fun hc => by
    have hd : t.val - 1 < 3 ∨ t.val - 1 = 18 := flush15 ⟨t.val - 1, prev_lt t⟩ hc
    omega) X h
  rwa [Nat.sub_add_cancel (by omega)] at h'
theorem find16 (c : Dev nD) (t : Fin cfg0.N) (X : Vec F S248x2048 .fp8e4m3) (h : (rdat m c).Finds 16 t X) : Find16 m c t X := by
  by_cases h0 : t.val = 0
  · exact fun hc => absurd hc (by omega)
  have hlt := lt_of_lt_of_eq t.isLt N_0
  have h' : Ok16 m c (t.val - 1 + 1) X := leaves_of_finds m c 16 rfl t rfl h0 (fun hc => by
    have hd : (t.val - 1) % 19 = 18 := (flush0_16 ⟨t.val - 1, prev_lt t⟩).mp hc
    omega) X h
  rwa [Nat.sub_add_cancel (by omega)] at h'
theorem find17 (c : Dev nD) (t : Fin cfg0.N) (X : Vec F S1x248 .f32) (h : (rdat m c).Finds 17 t X) : Find17 m c t X := by
  by_cases h0 : t.val = 0
  · exact fun hc => absurd hc (by omega)
  have hlt := lt_of_lt_of_eq t.isLt N_0
  have h' : Ok17 m c (t.val - 1 + 1) X := leaves_of_finds m c 17 rfl t rfl h0 (fun hc => by
    have hd : (t.val - 1) % 19 = 18 := (flush0_17 ⟨t.val - 1, prev_lt t⟩).mp hc
    omega) X h
  rwa [Nat.sub_add_cancel (by omega)] at h'
theorem find18 (c : Dev nD) (t : Fin cfg0.N) (X : Vec F S248x1x512 .f32) (h : (rdat m c).Finds 18 t X) : Find18 m c t X := by
  intro ht
  have h0 : t.val ≠ 0 := by omega
  have hlt := lt_of_lt_of_eq t.isLt N_0
  have h' : Ok18 m c (t.val - 1 + 1) X := leaves_of_finds m c 18 rfl t rfl h0 (fun hc => by
    have hd : t.val - 1 < 14 ∨ t.val - 1 = 18 := flush18 ⟨t.val - 1, prev_lt t⟩ hc
    omega) X h
  rwa [Nat.sub_add_cancel (by omega)] at h'
theorem find19 (c : Dev nD) (t : Fin cfg0.N) (X : Vec F S248x1x512 .f32) (h : (rdat m c).Finds 19 t X) : Find19 m c t X := by
  intro ht
  have h0 : t.val ≠ 0 := by omega
  have hlt := lt_of_lt_of_eq t.isLt N_0
  have h' : Ok19 m c (t.val - 1 + 1) X := leaves_of_finds m c 19 rfl t rfl h0 (fun hc => by
    have hd : t.val - 1 < 14 ∨ t.val - 1 = 18 := flush19 ⟨t.val - 1, prev_lt t⟩ hc
    omega) X h
  rwa [Nat.sub_add_cancel (by omega)] at h'
theorem find20 (c : Dev nD) (t : Fin cfg0.N) (X : Vec F S248x5632 .fp8e4m3) (h : (rdat m c).Finds 20 t X) : Find20 m c t X := by
  by_cases h0 : t.val = 0
  · exact fun hc => absurd hc (by omega)
  have hlt := lt_of_lt_of_eq t.isLt N_0
  have h' : Ok20 m c (t.val - 1 + 1) X := leaves_of_finds m c 20 rfl t rfl h0 (fun hc => by
    have hd : (t.val - 1) % 19 = 18 := (flush0_20 ⟨t.val - 1, prev_lt t⟩).mp hc
    omega) X h
  rwa [Nat.sub_add_cancel (by omega)] at h'
theorem find21 (c : Dev nD) (t : Fin cfg0.N) (X : Vec F S1x248 .f32) (h : (rdat m c).Finds 21 t X) : Find21 m c t X := by
  by_cases h0 : t.val = 0
  · exact fun hc => absurd hc (by omega)
  have hlt := lt_of_lt_of_eq t.isLt N_0
  have h' : Ok21 m c (t.val - 1 + 1) X := leaves_of_finds m c 21 rfl t rfl h0 (fun hc => by
    have hd : (t.val - 1) % 19 = 18 := (flush0_21 ⟨t.val - 1, prev_lt t⟩).mp hc
    omega) X h
  rwa [Nat.sub_add_cancel (by omega)] at h'

/-! ## The body at any point -/

/-- What the pipeline hands the body at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y)
    ∗ (∃ Y, ⌜(rdat m c).Finds 13 t Y⌝ ∗ owns (c : Thread nD τ) (st0_13 t) fullShare Y)
    ∗ (∃ Y, ⌜(rdat m c).Finds 14 t Y⌝ ∗ owns (c : Thread nD τ) (st0_14 t) fullShare Y)
    ∗ (∃ Y, ⌜(rdat m c).Finds 15 t Y⌝ ∗ owns (c : Thread nD τ) (st0_15 t) fullShare Y)
    ∗ (∃ Y, ⌜(rdat m c).Finds 16 t Y⌝ ∗ owns (c : Thread nD τ) (st0_16 t) fullShare Y)
    ∗ (∃ Y, ⌜(rdat m c).Finds 17 t Y⌝ ∗ owns (c : Thread nD τ) (st0_17 t) fullShare Y)
    ∗ (∃ Y, ⌜(rdat m c).Finds 18 t Y⌝ ∗ owns (c : Thread nD τ) (st0_18 t) fullShare Y)
    ∗ (∃ Y, ⌜(rdat m c).Finds 19 t Y⌝ ∗ owns (c : Thread nD τ) (st0_19 t) fullShare Y)
    ∗ (∃ Y, ⌜(rdat m c).Finds 20 t Y⌝ ∗ owns (c : Thread nD τ) (st0_20 t) fullShare Y)
    ∗ (∃ Y, ⌜(rdat m c).Finds 21 t Y⌝ ∗ owns (c : Thread nD τ) (st0_21 t) fullShare Y)
    ∗ (∃ Y, ⌜(rdat m c).Finds 22 t Y⌝ ∗ owns (c : Thread nD τ) (st0_22 t) fullShare Y))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, ⌜leaves m c 11 t X⌝ ∗ owns (c : Thread nD τ) (st0_11 t) fullShare X)
    ∗ (∃ X, ⌜leaves m c 12 t X⌝ ∗ owns (c : Thread nD τ) (st0_12 t) fullShare X)
    ∗ (∃ X, ⌜leaves m c 13 t X⌝ ∗ owns (c : Thread nD τ) (st0_13 t) fullShare X)
    ∗ (∃ X, ⌜leaves m c 14 t X⌝ ∗ owns (c : Thread nD τ) (st0_14 t) fullShare X)
    ∗ (∃ X, ⌜leaves m c 15 t X⌝ ∗ owns (c : Thread nD τ) (st0_15 t) fullShare X)
    ∗ (∃ X, ⌜leaves m c 16 t X⌝ ∗ owns (c : Thread nD τ) (st0_16 t) fullShare X)
    ∗ (∃ X, ⌜leaves m c 17 t X⌝ ∗ owns (c : Thread nD τ) (st0_17 t) fullShare X)
    ∗ (∃ X, ⌜leaves m c 18 t X⌝ ∗ owns (c : Thread nD τ) (st0_18 t) fullShare X)
    ∗ (∃ X, ⌜leaves m c 19 t X⌝ ∗ owns (c : Thread nD τ) (st0_19 t) fullShare X)
    ∗ (∃ X, ⌜leaves m c 20 t X⌝ ∗ owns (c : Thread nD τ) (st0_20 t) fullShare X)
    ∗ (∃ X, ⌜leaves m c 21 t X⌝ ∗ owns (c : Thread nD τ) (st0_21 t) fullShare X)
    ∗ (∃ X, ⌜leaves m c 22 t X⌝ ∗ owns (c : Thread nD τ) (st0_22 t) fullShare X))

/-- The register and the core's debts, which the body does not touch. -/
def aside (c : Dev nD) (t : Fin cfg0.N) : sProp 𝕄 := iprop((∃ r, prngReg c r) ∗ (dats m 0 c).owesAt () t.castSucc)

theorem found_of_pre (c : Dev nD) (t : Fin cfg0.N) : bodyPre m c t ⊢ found m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (Memref.whole cc0_scratch0) (Memref.whole cc0_scratch1) (Memref.whole cc0_scratch2) (aside m c t) := by
  unfold bodyPre found aside
  rw [show (dats m 0 c).Φ t.castSucc = carried m c t.val from rfl]
  unfold carried
  simp only [before0_0, before0_1, before0_2, before0_3, before0_4, before0_5, before0_6, before0_7, before0_8, before0_9, before0_10]
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %E11, H11⟩, ⟨%Y12, %E12, H12⟩, ⟨%Y13, %E13, H13⟩, ⟨%Y14, %E14, H14⟩, ⟨%Y15, %E15, H15⟩, ⟨%Y16, %E16, H16⟩, ⟨%Y17, %E17, H17⟩, ⟨%Y18, %E18, H18⟩, ⟨%Y19, %E19, H19⟩, ⟨%Y20, %E20, H20⟩, ⟨%Y21, %E21, H21⟩, ⟨%Y22, %E22, H22⟩⟩
  isplitl [HP Ho]
  · isplitl [HP]
    · iexact HP
    iexact Ho
  isplitl [HS]
  · iexact HS
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists Y11
    isplitr
    · ipureintro; exact trivial
    iexact H11
  isplitl [H12]
  · iexists Y12
    isplitr
    · ipureintro; exact find12 m c t Y12 E12
    iexact H12
  isplitl [H13]
  · iexists Y13
    isplitr
    · ipureintro; exact find13 m c t Y13 E13
    iexact H13
  isplitl [H14]
  · iexists Y14
    isplitr
    · ipureintro; exact find14 m c t Y14 E14
    iexact H14
  isplitl [H15]
  · iexists Y15
    isplitr
    · ipureintro; exact find15 m c t Y15 E15
    iexact H15
  isplitl [H16]
  · iexists Y16
    isplitr
    · ipureintro; exact find16 m c t Y16 E16
    iexact H16
  isplitl [H17]
  · iexists Y17
    isplitr
    · ipureintro; exact find17 m c t Y17 E17
    iexact H17
  isplitl [H18]
  · iexists Y18
    isplitr
    · ipureintro; exact find18 m c t Y18 E18
    iexact H18
  isplitl [H19]
  · iexists Y19
    isplitr
    · ipureintro; exact find19 m c t Y19 E19
    iexact H19
  isplitl [H20]
  · iexists Y20
    isplitr
    · ipureintro; exact find20 m c t Y20 E20
    iexact H20
  isplitl [H21]
  · iexists Y21
    isplitr
    · ipureintro; exact find21 m c t Y21 E21
    iexact H21
  iexists Y22
  isplitr
  · ipureintro; exact trivial
  iexact H22

theorem post_of_left (c : Dev nD) (t : Fin cfg0.N) : left m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (Memref.whole cc0_scratch0) (Memref.whole cc0_scratch1) (Memref.whole cc0_scratch2) (aside m c t) ⊢ bodyPost m c t := by
  unfold bodyPost left aside
  rw [show (dats m 0 c).Φ t.succ = carried m c (t.val + 1) from rfl,
    show (dats m 0 c).owesAt () t.succ = (dats m 0 c).owesAt () t.castSucc from rfl,
    after0_0, after0_1, after0_2, after0_3, after0_4, after0_5, after0_6, after0_7, after0_8, after0_9, after0_10]
  unfold carried
  iintro ⟨⟨HP, Ho⟩, HS, H0, H1, H2, H3, H4, H5, H6, H7, H8, H9, H10, ⟨%Y11, %E11, H11⟩, ⟨%Y12, %E12, H12⟩, ⟨%Y13, %E13, H13⟩, ⟨%Y14, %E14, H14⟩, ⟨%Y15, %E15, H15⟩, ⟨%Y16, %E16, H16⟩, ⟨%Y17, %E17, H17⟩, ⟨%Y18, %E18, H18⟩, ⟨%Y19, %E19, H19⟩, ⟨%Y20, %E20, H20⟩, ⟨%Y21, %E21, H21⟩, ⟨%Y22, %E22, H22⟩⟩
  isplitl [HP HS]
  · isplitl [HS]
    · iexact HS
    iexact HP
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists Y11
    isplitr
    · ipureintro; exact E11
    iexact H11
  isplitl [H12]
  · iexists Y12
    isplitr
    · ipureintro; exact E12
    iexact H12
  isplitl [H13]
  · iexists Y13
    isplitr
    · ipureintro; exact E13
    iexact H13
  isplitl [H14]
  · iexists Y14
    isplitr
    · ipureintro; exact E14
    iexact H14
  isplitl [H15]
  · iexists Y15
    isplitr
    · ipureintro; exact E15
    iexact H15
  isplitl [H16]
  · iexists Y16
    isplitr
    · ipureintro; exact E16
    iexact H16
  isplitl [H17]
  · iexists Y17
    isplitr
    · ipureintro; exact E17
    iexact H17
  isplitl [H18]
  · iexists Y18
    isplitr
    · ipureintro; exact E18
    iexact H18
  isplitl [H19]
  · iexists Y19
    isplitr
    · ipureintro; exact E19
    iexact H19
  isplitl [H20]
  · iexists Y20
    isplitr
    · ipureintro; exact E20
    iexact H20
  isplitl [H21]
  · iexists Y21
    isplitr
    · ipureintro; exact E21
    iexact H21
  iexists Y22
  isplitr
  · ipureintro; exact E22
  iexact H22

theorem sound_body (c : Dev nD) (t : Fin cfg0.N) :
    bodyPre m c t ⊢ wp frame (wpE (defs₀ (F := F)) Variants.none c none) Set.univ (bodyAt0 t) (fun _ => bodyPost m c t) := by
  have hlt := lt_of_lt_of_eq t.isLt N_0
  refine triple_restated (Q := fun _ => left m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (Memref.whole cc0_scratch0) (Memref.whole cc0_scratch1) (Memref.whole cc0_scratch2) (aside m c t)) ?_ rfl (found_of_pre m c t) fun _ => post_of_left m c t
  unfold bodyAt0
  by_cases h0 : t.val = 0
  · exact step_first m c t _ _ _ _ _ _ _ _ _ _ _ _ _ _ _ _ _ _ _ _ _ _ _ _ _ _ _ _ _ _ _ _ _ _ _ _ _ _ _ _ _ _ _ _ _ _ _ _ _ _ _ _ (aside m c t) h0
  by_cases h1 : t.val < 4
  · exact step_out m c t _ _ _ _ _ _ _ _ _ _ _ _ _ _ _ _ _ _ _ _ _ _ _ _ _ _ _ _ _ _ _ _ _ _ _ _ _ _ _ _ _ _ _ _ _ _ _ _ _ _ _ _ (aside m c t) (by omega) h1
  by_cases h2 : t.val = 4
  · exact step_norm m c t _ _ _ _ _ _ _ _ _ _ _ _ _ _ _ _ _ _ _ _ _ _ _ _ _ _ _ _ _ _ _ _ _ _ _ _ _ _ _ _ _ _ _ _ _ _ _ _ _ _ _ _ (aside m c t) h2
  by_cases h3 : t.val < 15
  · exact step_mlp m c t _ _ _ _ _ _ _ _ _ _ _ _ _ _ _ _ _ _ _ _ _ _ _ _ _ _ _ _ _ _ _ _ _ _ _ _ _ _ _ _ _ _ _ _ _ _ _ _ _ _ _ _ (aside m c t) (by omega) h3
  by_cases h4 : t.val = 15
  · exact step_hid m c t _ _ _ _ _ _ _ _ _ _ _ _ _ _ _ _ _ _ _ _ _ _ _ _ _ _ _ _ _ _ _ _ _ _ _ _ _ _ _ _ _ _ _ _ _ _ _ _ _ _ _ _ (aside m c t) h4
  · exact step_proj m c t _ _ _ _ _ _ _ _ _ _ _ _ _ _ _ _ _ _ _ _ _ _ _ _ _ _ _ _ _ _ _ _ _ _ _ _ _ _ _ _ _ _ _ _ _ _ _ _ _ _ _ _ (aside m c t) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ isOut (leaves m c) := fun t => by
  rw [bigSep_W0, bigSep_W0, defs₀_row]
  exact triple_restated (sound_body m c t) rfl .rfl fun _ => .rfl

/-! ## The run -/

/-- Before the first point the scratch holds anything; -/
theorem carried_of_any (c : Dev nD) : Pipeline.ΦA spec0 c ⊢ carried m c 0 := by
  unfold carried scratchAt Pipeline.ΦA
  rw [scopedRest0_eq]
  simp only [own, owns_whole]
  iintro ⟨⟨⟨%s, Hs⟩, ⟨%r, Hr⟩, ⟨%h, Hh⟩⟩, HP⟩
  isplitr [HP]
  · iexists s, r, h
    isplitr
    · ipureintro
      exact ⟨⟨fun hc => absurd hc (by omega), fun hc => absurd hc (by omega), fun hc => absurd hc (by omega)⟩,
        fun k hk => absurd hk (by omega), fun k hk => absurd hk (by omega)⟩
    isplitl [Hs]
    · iexact Hs
    isplitl [Hr]
    · iexact Hr
    iexact Hh
  iexact HP

/-- after the last its contents are forgotten. -/
theorem any_of_carried (c : Dev nD) (n : ℕ) : carried m c n ⊢ Pipeline.ΦA spec0 c := by
  unfold carried scratchAt Pipeline.ΦA
  rw [scopedRest0_eq]
  simp only [own, owns_whole]
  iintro ⟨⟨%s, %r, %h, %hsrh, Hs, Hr, Hh⟩, HP⟩
  isplitr [HP]
  · isplitl [Hs]
    · iexists s; iexact Hs
    isplitl [Hr]
    · iexists r; iexact Hr
    iexists h; iexact Hh
  iexact HP

set_option backward.isDefEq.respectTransparency.types false in
set_option maxHeartbeats 800000 in
/-- Every run of the program ends with every array at contents the relational data allow, the other buffers as the region found
    them, and every counter at zero. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => carried_of_any m c) (hout := fun c => any_of_carried m c _) (hQ' := fun _ h => h)

end Cert.TailIdeal.Hand
-- ==== Proof.Tail.Final.lean ====
module

public import proofs.«01_k».proof.Proof.Tail.Run
public import proofs.«01_k».proof.Proof.Gen.TailIdeal.Launch
public import proofs.«01_k».proof.Proof.Gen.TailIdeal.Points
public import proofs.«01_k».proof.Proof.Gen.TailIdeal.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.TailIdeal.Hand

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final state says of the argument arrays. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)

/-- Off the relational data: on each core one exact data name what every array holds at the end. -/
theorem kept_of_post (r : PUnit × MemSt nD τ sig (Elt F)) (h : Pipeline.RDat.FramePost cfg0 (rdat m) (V m) r) (c : Dev nD) : Kept m r c := by
  obtain ⟨after, -, hA⟩ := h.exists_exact c
  have hin : ∀ w : Fin cfg0.W, (cfg0.win w).isOut = false →
      r.2.mem ((spec0 w).arr.view.loc (c.tc : Thread nD τ)) = V m c (Pipeline.arrRef spec0 w) := fun w hw =>
    (hA w).trans ((((rdat m c).withAfter after).arrAt_in w hw _).trans (A_eq m c w))
  exact ⟨((h c).2 main_arg0 (Pipeline.mem_restRefs_of main_arg0 (by decide) (by decide))).trans (V_main_arg0 m c),
    (hin 1 rfl).trans (V_main_arg1 m c),
    (hin 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (hin 5 rfl).trans (V_main_arg5 m c),
    ((h c).2 main_arg6 (Pipeline.mem_restRefs_of main_arg6 (by decide) (by decide))).trans (V_main_arg6 m c),
    (hin 7 rfl).trans (V_main_arg7 m c),
    ((h c).2 main_arg8 (Pipeline.mem_restRefs_of main_arg8 (by decide) (by decide))).trans (V_main_arg8 m c),
    (hin 9 rfl).trans (V_main_arg9 m c),
    ((h c).2 main_arg10 (Pipeline.mem_restRefs_of main_arg10 (by decide) (by decide))).trans (V_main_arg10 m c)⟩

/-- Every run ends, its arguments as they were and every counter at zero. -/
theorem frame : θ_run defs (onTc (τ := τ) (main (F := F))) ⟨m, fun _ => 0, ρ⟩ (fun r => (∀ c : Dev nD, Kept m r c) ∧ r.2.sem = fun _ => 0) :=
  (θ_run defs _ _).mono (fun r h => ⟨fun c => kept_of_post m r h.1 c, h.2⟩) (run_main_quiescent m ρ)

end Cert.TailIdeal.Hand
-- ==== Proof.Tail.Forms.lean ====
module

public import proofs.«01_k».proof.Proof.Tail.Body
public import proofs.«01_k».proof.Proof.Gen.TailRefIdeal.Skeleton
public import Idealize.ShloMosaic.Lib.ValueIdx
public import Idealize.ShloMosaic.Lib.Pointwise

@[expose] public section

set_option maxRecDepth 16384

noncomputable section

namespace Cert.TailIdeal.Hand

open Cert.TailIdeal Cert.TailIdeal.Gen
open Idealize.ShloMosaic

/-! # The blocks that the kernel computes are the blocks of what the reference computes -/

section Generic
variable {F : FTy → Type} [FloatOps F]

theorem oScale1_eq (o : Vec F S248x3072 .f32) :
    k0_pay2 o = shapeCast S248x1 (Cert.TailRefIdeal.Gen.k0_pay6 o) shapeCasts_S248_S248x1 := rfl
theorem oCodes_eq (o : Vec F S248x3072 .f32) : k0_pay3 o = Cert.TailRefIdeal.Gen.k0_pay7 o := rfl
theorem oCopy_eq (o : Vec F S248x3072 .f32) : k0_pay1 o = Cert.TailRefIdeal.Gen.k0_pay23 o := rfl

/-- The root mean square norm of rows `r` with weights `w`, as the reference computes it. -/
def rms (r : FVec F S248x2048 .f32) (w : Vec F S1x2048 .f32) : FVec F S248x2048 .f32 :=
  mulf (divf r (broadcastTo S248x2048 (sqrt (addf (divf (shapeCast S248x1 (multiReduction .add [1] S248 (mulf r r) 0x00000000#32
    reduces_S248x2048_S248 (.inl rfl) rfl) shapeCasts_S248_S248x1) (broadcast S248x1 (Scalar.ofBits .f32 0x45000000#32)))
    (broadcast S248x1 (Scalar.ofBits .f32 0x3727C5AC#32)))) broadcasts_S248x1_S248x2048))
    (broadcastTo S248x2048 (shapeCast S1x2048 w shapeCasts_S1x2048_S1x2048) broadcasts_S1x2048_S248x2048)

/-- The four residual slabs side by side. -/
def sideBySide (r0 r1 r2 r3 : Vec F S1x248x512 .f32) : FVec F S248x2048 .f32 :=
  concatenate S248x2048 1 [⟨S248x512, shapeCast S248x512 r0 shapeCasts_S1x248x512_S248x512⟩,
    ⟨S248x512, shapeCast S248x512 r1 shapeCasts_S1x248x512_S248x512⟩, ⟨S248x512, shapeCast S248x512 r2 shapeCasts_S1x248x512_S248x512⟩,
    ⟨S248x512, shapeCast S248x512 r3 shapeCasts_S1x248x512_S248x512⟩] concatenates_S248x512_S248x512_S248x512_S248x512_S248x2048_d1

theorem pay22_eq (r0 r1 r2 r3 : Vec F S1x248x512 .f32) (w : Vec F S1x2048 .f32) :
    k0_pay22 r0 r1 r2 r3 w = rms (sideBySide r0 r1 r2 r3) w := rfl
theorem refNorm_eq (x : Vec F S248x2048 .bf16) (o : Vec F S248x3072 .f32) (W : Vec F S3072x2048 .fp8e4m3) (s : Vec F S1x2048 .f32)
    (w : Vec F S1x2048 .f32) :
    rms (Cert.TailRefIdeal.Gen.k0_pay9 x o W s) w = Cert.TailRefIdeal.Gen.k0_pay12 (Cert.TailRefIdeal.Gen.k0_pay9 x o W s)
      (Cert.TailRefIdeal.Gen.k0_pay10 w) (Cert.TailRefIdeal.Gen.k0_pay11 x o W s) := rfl

variable (a : FVec F S248x2048 .f32) (b : FVec F S1x2048 .f32) (d : FVec F S248x1 .f32)

theorem nScale1_of (r0 r1 r2 r3 : Vec F S1x248x512 .f32) (w : Vec F S1x2048 .f32)
    (h : k0_pay22 r0 r1 r2 r3 w = Cert.TailRefIdeal.Gen.k0_pay12 a b d) :
    k0_pay23 r0 r1 r2 r3 w = shapeCast S248x1 (Cert.TailRefIdeal.Gen.k0_pay13 a b d) shapeCasts_S248_S248x1 := by
  unfold k0_pay23
  rw [h]
  rfl
theorem nCodes_of (r0 r1 r2 r3 : Vec F S1x248x512 .f32) (w : Vec F S1x2048 .f32)
    (h : k0_pay22 r0 r1 r2 r3 w = Cert.TailRefIdeal.Gen.k0_pay12 a b d) :
    k0_pay10 (k0_pay24 r0 r1 r2 r3 w) k0_pay25 = Cert.TailRefIdeal.Gen.k0_pay14 a b d := by
  unfold k0_pay24
  rw [nScale1_of a b d _ _ _ _ _ h, h]
  rfl

/-- The largest magnitude in each row of a slab. -/
def slabMax (v : Vec F S1x248x512 .f32) : FVec F S248 .f32 :=
  multiReduction .maximumf [1] S248 (absf (shapeCast S248x512 v shapeCasts_S1x248x512_S248x512)) 0xFF800000#32 reduces_S248x512_S248 (.inl rfl) rfl

theorem hScale1_of (h : ℕ → Vec F S1x248x512 .f32) :
    k0_pay33 (k0_pay32 (h 0) (h 1) (h 2) (h 3) (h 4) (h 5)) (h 6) (h 7) (h 8) (h 9) (h 10)
      = shapeCast S248x1 (Cert.TailRefIdeal.Gen.k0_pay19 (maximumf (maximumf (maximumf (maximumf (maximumf (maximumf (maximumf (maximumf
          (maximumf (maximumf (slabMax (h 0)) (slabMax (h 1))) (slabMax (h 2))) (slabMax (h 3))) (slabMax (h 4))) (slabMax (h 5)))
          (slabMax (h 6))) (slabMax (h 7))) (slabMax (h 8))) (slabMax (h 9))) (slabMax (h 10)))) shapeCasts_S248_S248x1 := rfl

theorem col_emb (x : S248x1.Idx) : (ix2 (n0 := 248) (n1 := 1) ((Rect.unit (s := S248x128) ![0, 0] ![248, 1] inb_S248x128_S248x1_0_0).emb x 0) 0 : S248x1.Idx) = x := by
  funext a
  match a with
  | ⟨0, _⟩ => exact Fin.ext (by show 0 + 1 * (x 0).val = (x 0).val; omega)
  | ⟨1, _⟩ => exact Fin.ext (by have h : (x 1).val < 1 := (x 1).isLt; show 0 = (x 1).val; omega)
theorem col_oScale (o : Vec F S248x3072 .f32) : col (k0_pay5 o) = k0_pay2 o := by
  funext x
  unfold col
  pointwise [k0_pay5, k0_pay4, VecWindow.window]
  exact congrArg _ (col_emb x)
theorem col_nScale (s : Vec F S248x1 .f32) : col (k0_pay12 s) = s := by
  funext x
  unfold col
  pointwise [k0_pay12, k0_pay11, VecWindow.window]
  exact congrArg _ (col_emb x)
theorem col_hScale (s : Vec F S248x1 .f32) : col (k0_pay17 s) = s := by
  funext x
  unfold col
  pointwise [k0_pay17, k0_pay16, VecWindow.window]
  exact congrArg _ (col_emb x)
theorem oScale_row (o : Vec F S248x3072 .f32) : k0_pay6 o = Cert.TailRefIdeal.Gen.k0_pay24 (Cert.TailRefIdeal.Gen.k0_pay6 o) := by
  unfold k0_pay6 k0_pay4
  rw [oScale1_eq]
  funext x
  pointwise [Cert.TailRefIdeal.Gen.k0_pay24]
theorem nScale_row (s : FVec F S248 .f32) : k0_pay13 (shapeCast S248x1 s shapeCasts_S248_S248x1) = Cert.TailRefIdeal.Gen.k0_pay1 (F := F) s := by
  funext x
  pointwise [k0_pay13, k0_pay11, Cert.TailRefIdeal.Gen.k0_pay1]
theorem hScale_row (s : FVec F S248 .f32) : k0_pay18 (shapeCast S248x1 s shapeCasts_S248_S248x1) = Cert.TailRefIdeal.Gen.k0_pay4 (F := F) s := by
  funext x
  pointwise [k0_pay18, k0_pay16, Cert.TailRefIdeal.Gen.k0_pay4]
end Generic

end Cert.TailIdeal.Hand
-- ==== Proof.Tail.Blocks.lean ====
module

public import proofs.«01_k».proof.Proof.Tail.Forms
public import proofs.«01_k».proof.Proof.Gen.TailRefIdeal.Skeleton
public import Idealize.ShloMosaic.Lib.ValueIdx
public import Idealize.ShloMosaic.Lib.Pointwise

@[expose] public section

set_option maxRecDepth 16384

noncomputable section

namespace Cert.TailIdeal.Hand

open Cert.TailIdeal Cert.TailIdeal.Gen
open Idealize.ShloMosaic

/-- Block `j` of 512 columns: `w` holds columns `512 j …` of `W`. -/
def Cols {r n : ℕ} {α : Type} (j : ℕ) (w : (⟨2, ![r, 512]⟩ : Shape).Idx → α) (W : (⟨2, ![r, n]⟩ : Shape).Idx → α) : Prop :=
  ∀ (q : Fin r) (k : Fin 512) (J : Fin n), J.val = 512 * j + k.val → w (ix2 q k) = W (ix2 q J)

section AtIdeal
variable {j : ℕ}

/-! ### The products, block by block -/

theorem op_cols (o : Vec Ideal S248x3072 .f32) (w : Vec Ideal S3072x512 .fp8e4m3) (W : Vec Ideal S3072x2048 .fp8e4m3)
    (s : Vec Ideal S1x512 .f32) (S : Vec Ideal S1x2048 .f32) (hw : Cols j w W) (hs : Cols j s S) :
    Cols j (k0_pay7 (Cert.TailRefIdeal.Gen.k0_pay7 o) w (shapeCast S248x1 (Cert.TailRefIdeal.Gen.k0_pay6 o) shapeCasts_S248_S248x1) s)
      (Cert.TailRefIdeal.Gen.k0_pay8 o W S) := by
  intro i k J hJ
  pointwise [k0_pay7, Cert.TailRefIdeal.Gen.k0_pay8]
  rw [hs 0 k J hJ]
  simp only [fun q => hw q k J hJ]

theorem resid_cols (x : Vec Ideal S248x2048 .bf16) (xb : Vec Ideal S248x512 .bf16)
    (o : Vec Ideal S248x3072 .f32) (w : Vec Ideal S3072x512 .fp8e4m3) (W : Vec Ideal S3072x2048 .fp8e4m3)
    (s : Vec Ideal S1x512 .f32) (S : Vec Ideal S1x2048 .f32) (hw : Cols j w W) (hs : Cols j s S) (hx : Cols j xb x) :
    Cols j (shapeCast S248x512 (k0_pay9 (Cert.TailRefIdeal.Gen.k0_pay7 o) w
        (shapeCast S248x1 (Cert.TailRefIdeal.Gen.k0_pay6 o) shapeCasts_S248_S248x1) s xb) shapeCasts_S1x248x512_S248x512)
      (Cert.TailRefIdeal.Gen.k0_pay9 x o W S) := by
  intro i k J hJ
  have e := op_cols o w W s S hw hs i k J hJ
  have e' := hx i k J hJ
  pointwise [k0_pay9, Cert.TailRefIdeal.Gen.k0_pay9]
  rw [e, e']

variable (a : FVec Ideal S248x2048 .f32) (b : FVec Ideal S1x2048 .f32) (d : FVec Ideal S248x1 .f32)

theorem gate_cols (w : Vec Ideal S2048x512 .fp8e4m3) (W : Vec Ideal S2048x5632 .fp8e4m3)
    (s : Vec Ideal S1x512 .f32) (S : Vec Ideal S1x5632 .f32) (hw : Cols j w W) (hs : Cols j s S) :
    Cols j (k0_pay27 (Cert.TailRefIdeal.Gen.k0_pay14 a b d) w (shapeCast S248x1 (Cert.TailRefIdeal.Gen.k0_pay13 a b d) shapeCasts_S248_S248x1) s)
      (Cert.TailRefIdeal.Gen.k0_pay15 a b d W S) := by
  intro i k J hJ
  pointwise [k0_pay27, k0_pay26, Cert.TailRefIdeal.Gen.k0_pay15]
  rw [hs 0 k J hJ]
  simp only [fun q => hw q k J hJ]

theorem value_cols (w : Vec Ideal S2048x512 .fp8e4m3) (W : Vec Ideal S2048x5632 .fp8e4m3)
    (s : Vec Ideal S1x512 .f32) (S : Vec Ideal S1x5632 .f32) (hw : Cols j w W) (hs : Cols j s S) :
    Cols j (k0_pay28 (Cert.TailRefIdeal.Gen.k0_pay14 a b d) w (shapeCast S248x1 (Cert.TailRefIdeal.Gen.k0_pay13 a b d) shapeCasts_S248_S248x1) s)
      (Cert.TailRefIdeal.Gen.k0_pay16 a b d W S) :=
  gate_cols a b d w W s S hw hs

theorem hidden_cols (w : Vec Ideal S2048x512 .fp8e4m3) (W : Vec Ideal S2048x5632 .fp8e4m3)
    (s : Vec Ideal S1x512 .f32) (S : Vec Ideal S1x5632 .f32) (hw : Cols j w W) (hs : Cols j s S)
    (w' : Vec Ideal S2048x512 .fp8e4m3) (W' : Vec Ideal S2048x5632 .fp8e4m3)
    (s' : Vec Ideal S1x512 .f32) (S' : Vec Ideal S1x5632 .f32) (hw' : Cols j w' W') (hs' : Cols j s' S') :
    Cols j (shapeCast S248x512 (k0_pay14 (k0_pay31 (Cert.TailRefIdeal.Gen.k0_pay14 a b d) w
        (shapeCast S248x1 (Cert.TailRefIdeal.Gen.k0_pay13 a b d) shapeCasts_S248_S248x1) s w'
        (shapeCast S248x1 (Cert.TailRefIdeal.Gen.k0_pay13 a b d) shapeCasts_S248_S248x1) s')) shapeCasts_S1x248x512_S248x512)
      (Cert.TailRefIdeal.Gen.k0_pay17 a b d W S W' S') := by
  intro i k J hJ
  have e := gate_cols a b d w W s S hw hs i k J hJ
  have e' := value_cols a b d w' W' s' S' hw' hs' i k J hJ
  pointwise [k0_pay14, k0_pay31, Cert.TailRefIdeal.Gen.k0_pay17]
  rw [e, e']

/-! ### The hidden rows' scale and codes -/

theorem hCodes_cols (v : Vec Ideal S1x248x512 .f32) (H : FVec Ideal S248x5632 .f32) (M : FVec Ideal S248 .f32)
    (hv : Cols j (shapeCast S248x512 v shapeCasts_S1x248x512_S248x512) H) :
    Cols j (k0_pay15 (shapeCast S248x1 (Cert.TailRefIdeal.Gen.k0_pay19 M) shapeCasts_S248_S248x1) v)
      (Cert.TailRefIdeal.Gen.k0_pay20 H M) := by
  intro i k J hJ
  have e := hv i k J hJ
  pointwise at e
  pointwise [k0_pay15, Cert.TailRefIdeal.Gen.k0_pay20]
  rw [e]

theorem mp_cols (H : FVec Ideal S248x5632 .f32) (M : FVec Ideal S248 .f32) (w : Vec Ideal S5632x512 .fp8e4m3)
    (W : Vec Ideal S5632x2048 .fp8e4m3) (s : Vec Ideal S1x512 .f32) (S : Vec Ideal S1x2048 .f32) (hw : Cols j w W) (hs : Cols j s S) :
    Cols j (k0_pay19 (Cert.TailRefIdeal.Gen.k0_pay20 H M) w (shapeCast S248x1 (Cert.TailRefIdeal.Gen.k0_pay19 M) shapeCasts_S248_S248x1) s)
      (Cert.TailRefIdeal.Gen.k0_pay21 H M W S) := by
  intro i k J hJ
  pointwise [k0_pay19, Cert.TailRefIdeal.Gen.k0_pay21]
  rw [hs 0 k J hJ]
  simp only [fun q => hw q k J hJ]

theorem out_cols (H : FVec Ideal S248x5632 .f32) (M : FVec Ideal S248 .f32) (w : Vec Ideal S5632x512 .fp8e4m3)
    (W : Vec Ideal S5632x2048 .fp8e4m3) (s : Vec Ideal S1x512 .f32) (S : Vec Ideal S1x2048 .f32) (hw : Cols j w W) (hs : Cols j s S)
    (v : Vec Ideal S1x248x512 .f32) (hv : Cols j (shapeCast S248x512 v shapeCasts_S1x248x512_S248x512) a) :
    Cols j (k0_pay21 (Cert.TailRefIdeal.Gen.k0_pay20 H M) w (shapeCast S248x1 (Cert.TailRefIdeal.Gen.k0_pay19 M) shapeCasts_S248_S248x1) s v)
      (Cert.TailRefIdeal.Gen.k0_pay22 a H M W S) := by
  intro i k J hJ
  have e := mp_cols H M w W s S hw hs i k J hJ
  have e' := hv i k J hJ
  pointwise at e'
  pointwise [k0_pay21, Cert.TailRefIdeal.Gen.k0_pay22]
  rw [e, e']

end AtIdeal
end Cert.TailIdeal.Hand
-- ==== Proof.Tail.Reads.lean ====
module

public import proofs.«01_k».proof.Proof.Tail.Blocks
public import proofs.«01_k».proof.Proof.Tail.Values
public import Idealize.ShloMosaic.Lib.Pipeline.ValueKit

@[expose] public section

set_option maxRecDepth 16384

noncomputable section

namespace Cert.TailIdeal.Hand

open Cert.TailIdeal Cert.TailIdeal.Gen
open Idealize.ShloMosaic

open Idealize.ShloMosaic.TcCoe
variable (m : (ℓ : Loc nD τ sig) → Buf (Elt Ideal) ℓ) (c : Dev nD)

/-! # The input blocks, read off the arrays the pipeline finds -/

theorem index0_0 : ∀ t : Fin cfg0.N, win0_0.index t = ![0, min t.val 3] := by decide +kernel
theorem index0_1 : ∀ t : Fin cfg0.N, win0_1.index t = ![0, 0] := by decide +kernel
theorem index0_2 : ∀ t : Fin cfg0.N, win0_2.index t = ![0, min t.val 3] := by decide +kernel
theorem index0_3 : ∀ t : Fin cfg0.N, win0_3.index t = ![0, min t.val 3] := by decide +kernel
theorem index0_4 : ∀ t : Fin cfg0.N, win0_4.index t = ![0, 0] := by decide +kernel
theorem index0_5 : ∀ t : Fin cfg0.N, win0_5.index t = ![0, min (t.val - 4) 10] := by decide +kernel
theorem index0_6 : ∀ t : Fin cfg0.N, win0_6.index t = ![0, min (t.val - 4) 10] := by decide +kernel
theorem index0_7 : ∀ t : Fin cfg0.N, win0_7.index t = ![0, min (t.val - 4) 10] := by decide +kernel
theorem index0_8 : ∀ t : Fin cfg0.N, win0_8.index t = ![0, min (t.val - 4) 10] := by decide +kernel
theorem index0_9 : ∀ t : Fin cfg0.N, win0_9.index t = ![0, min (t.val - 15) 3] := by decide +kernel
theorem index0_10 : ∀ t : Fin cfg0.N, win0_10.index t = ![0, min (t.val - 15) 3] := by decide +kernel

theorem pt_of_lt {n : ℕ} (h : n < 19) : (pt n).val = n := Nat.mod_eq_of_lt h

theorem o_block (t : Fin cfg0.N) : bo m c t = V m c main_arg1 := by
  funext y
  have hi := index0_1 t
  unfold bo
  blk_ext [iblk, hi]
theorem nw_block (t : Fin cfg0.N) : bn m c t = V m c main_v2 := by
  funext y
  have hi := index0_4 t
  unfold bn
  blk_ext [iblk, hi]
theorem x_cols {j : ℕ} (hj : j < 4) : Cols j (bx m c (pt j)) (V m c main_v0) := by
  intro q k J hJ
  have hi := index0_0 (pt j)
  rw [pt_of_lt (by omega)] at hi
  unfold bx
  blk_ext [iblk, hi]
theorem w_cols {j : ℕ} (hj : j < 4) : Cols j (bw m c (pt j)) (V m c main_arg2) := by
  intro q k J hJ
  have hi := index0_2 (pt j)
  rw [pt_of_lt (by omega)] at hi
  unfold bw
  blk_ext [iblk, hi]
theorem ws_cols {j : ℕ} (hj : j < 4) : Cols j (bws m c (pt j)) (V m c main_v1) := by
  intro q k J hJ
  have hi := index0_3 (pt j)
  rw [pt_of_lt (by omega)] at hi
  unfold bws
  blk_ext [iblk, hi]
theorem wg_cols {j : ℕ} (hj : j < 11) : Cols j (bwg m c (pt (j + 4))) (V m c main_arg5) := by
  intro q k J hJ
  have hi := index0_5 (pt (j + 4))
  rw [pt_of_lt (by omega)] at hi
  unfold bwg
  blk_ext [iblk, hi]
theorem gs_cols {j : ℕ} (hj : j < 11) : Cols j (bgs m c (pt (j + 4))) (V m c main_v3) := by
  intro q k J hJ
  have hi := index0_6 (pt (j + 4))
  rw [pt_of_lt (by omega)] at hi
  unfold bgs
  blk_ext [iblk, hi]
theorem wv_cols {j : ℕ} (hj : j < 11) : Cols j (bwv m c (pt (j + 4))) (V m c main_arg7) := by
  intro q k J hJ
  have hi := index0_7 (pt (j + 4))
  rw [pt_of_lt (by omega)] at hi
  unfold bwv
  blk_ext [iblk, hi]
theorem vs_cols {j : ℕ} (hj : j < 11) : Cols j (bvs m c (pt (j + 4))) (V m c main_v4) := by
  intro q k J hJ
  have hi := index0_8 (pt (j + 4))
  rw [pt_of_lt (by omega)] at hi
  unfold bvs
  blk_ext [iblk, hi]
theorem w2_cols {j : ℕ} (hj : j < 4) : Cols j (bw2 m c (pt (j + 15))) (V m c main_arg9) := by
  intro q k J hJ
  have hi := index0_9 (pt (j + 15))
  rw [pt_of_lt (by omega)] at hi
  unfold bw2
  blk_ext [iblk, hi]
theorem w2s_cols {j : ℕ} (hj : j < 4) : Cols j (bw2s m c (pt (j + 15))) (V m c main_v5) := by
  intro q k J hJ
  have hi := index0_10 (pt (j + 15))
  rw [pt_of_lt (by omega)] at hi
  unfold bw2s
  blk_ext [iblk, hi]

end Cert.TailIdeal.Hand
-- ==== Proof.Tail.Slabs.lean ====
module

public import proofs.«01_k».proof.Proof.Tail.Blocks

@[expose] public section

set_option maxRecDepth 16384

noncomputable section

namespace Cert.TailIdeal.Hand

open Cert.TailIdeal Cert.TailIdeal.Gen
open Idealize.ShloMosaic

section AtIdeal
variable {j : ℕ}

theorem slab_at {n : ℕ} (v : Vec Ideal S1x248x512 .f32) (H : FVec Ideal (⟨2, ![248, n]⟩ : Shape) .f32)
    (hv : Cols j (shapeCast S248x512 v shapeCasts_S1x248x512_S248x512) H) (i : Fin 248) (k : Fin 512) (J : Fin n) (h : J.val = 512 * j + k.val) :
    v (ix3 0 i k) = H (ix2 i J) := by
  have e := hv i k J h
  pointwise at e
  exact e

/-- Four slabs that hold the four column blocks of `X`, side by side, are `X`. -/
theorem sideBySide_eq (r : ℕ → Vec Ideal S1x248x512 .f32) (X : FVec Ideal S248x2048 .f32)
    (h : ∀ j < 4, Cols j (shapeCast S248x512 (r j) shapeCasts_S1x248x512_S248x512) X) :
    sideBySide (r 0) (r 1) (r 2) (r 3) = X := by
  funext x
  pointwise [sideBySide]
  have hx : (x 1).val < 2048 := (x 1).isLt
  have ex : X x = X (ix2 (x 0) (x 1)) := congrArg X (ix2_eta x).symm
  rw [ex]
  split
  · exact slab_at _ X (h 0 (by omega)) _ _ _ (by show (x 1).val = 512 * 0 + (x 1).val; omega)
  split
  · exact slab_at _ X (h 1 (by omega)) _ _ _ (by show (x 1).val = 512 * 1 + ((x 1).val - 512); omega)
  split
  · exact slab_at _ X (h 2 (by omega)) _ _ _ (by show (x 1).val = 512 * 2 + ((x 1).val - 512 - 512); omega)
  · exact slab_at _ X (h 3 (by omega)) _ _ _ (by show (x 1).val = 512 * 3 + ((x 1).val - 512 - 512 - 512); omega)

theorem lift_row {n : ℕ} (h : (⟨2, ![248, n]⟩ : Shape).Reduces [1] S248) (i : Fin 248) (k : Fin n) :
    h.lift (a := (1 : Fin 2)) (ix1 i) k = ix2 i k := by
  funext a
  match a with
  | ⟨0, _⟩ => rfl
  | ⟨1, _⟩ => rfl

/-- A bound on the largest entry of a row is a bound on each. -/
theorem rowMax_le {n : ℕ} (v : FVec Ideal (⟨2, ![248, n]⟩ : Shape) .f32) (hr : (⟨2, ![248, n]⟩ : Shape).Reduces [1] S248)
    (i : Fin 248) (c : Ideal .f32) :
    multiReduction .maximumf [1] S248 v 0xFF800000#32 hr (.inl rfl) rfl (ix1 i) ≤ c
      ↔ FloatOps.ofBits (F := Ideal) .f32 0xFF800000#32 ≤ c ∧ ∀ J : Fin n, v (ix2 i J) ≤ c := by
  have e := Ideal.multiReduction_maximumf_single (a := (1 : Fin 2)) v 0xFF800000#32 hr (.inl rfl) rfl (ix1 i)
  refine (iff_of_eq (congrArg (· ≤ c) e)).trans ?_
  rw [Finset.fold_max_le]
  refine and_congr Iff.rfl ⟨fun h J => ?_, fun h J _ => ?_⟩
  · exact (congrArg v (lift_row hr i J)).symm.trans_le (h J (Finset.mem_univ _))
  · exact (congrArg v (lift_row hr i J)).trans_le (h J)

theorem slabMax_le (v : Vec Ideal S1x248x512 .f32) (H : FVec Ideal S248x5632 .f32)
    (hv : Cols j (shapeCast S248x512 v shapeCasts_S1x248x512_S248x512) H) (hj : j < 11) (i : Fin 248) (c : Ideal .f32) :
    slabMax v (ix1 i) ≤ c ↔ FloatOps.ofBits (F := Ideal) .f32 0xFF800000#32 ≤ c ∧ ∀ J : Fin 5632, J.val / 512 = j → absf H (ix2 i J) ≤ c := by
  refine (rowMax_le _ _ i c).trans (and_congr Iff.rfl ⟨fun h J hJ => ?_, fun h k => ?_⟩)
  · have e := hv i ⟨J.val % 512, Nat.mod_lt _ (by decide)⟩ J (by show J.val = 512 * j + J.val % 512; omega)
    exact (congrArg FloatOps.absf e.symm).trans_le (h _)
  · have e := hv i k ⟨512 * j + k.val, by have := k.isLt; omega⟩ rfl
    exact (congrArg FloatOps.absf e).trans_le (h _ (by have := k.isLt; show (512 * j + k.val) / 512 = j; omega))

/-- The largest magnitudes of the eleven slabs make up the largest magnitude of the whole row. -/
theorem slabsMax_eq (h : ℕ → Vec Ideal S1x248x512 .f32) (H : FVec Ideal S248x5632 .f32)
    (hh : ∀ j < 11, Cols j (shapeCast S248x512 (h j) shapeCasts_S1x248x512_S248x512) H) :
    maximumf (maximumf (maximumf (maximumf (maximumf (maximumf (maximumf (maximumf
          (maximumf (maximumf (slabMax (h 0)) (slabMax (h 1))) (slabMax (h 2))) (slabMax (h 3))) (slabMax (h 4))) (slabMax (h 5)))
          (slabMax (h 6))) (slabMax (h 7))) (slabMax (h 8))) (slabMax (h 9))) (slabMax (h 10))
      = multiReduction .maximumf [1] S248 (absf H) 0xFF800000#32 Cert.TailRefIdeal.Facts₀.reduces_S248x5632_S248 (.inl rfl) rfl := by
  funext x
  obtain ⟨i, rfl⟩ : ∃ i : Fin 248, x = ix1 i := ⟨x 0, by funext a; match a with | ⟨0, _⟩ => rfl⟩
  refine eq_of_forall_ge_iff fun c => ?_
  refine Iff.trans ?_ (rowMax_le _ _ i c).symm
  show max (max (max (max (max (max (max (max (max (max (slabMax (h 0) (ix1 i)) (slabMax (h 1) (ix1 i))) (slabMax (h 2) (ix1 i)))
    (slabMax (h 3) (ix1 i))) (slabMax (h 4) (ix1 i))) (slabMax (h 5) (ix1 i))) (slabMax (h 6) (ix1 i))) (slabMax (h 7) (ix1 i)))
    (slabMax (h 8) (ix1 i))) (slabMax (h 9) (ix1 i))) (slabMax (h 10) (ix1 i)) ≤ c ↔ _
  simp only [max_le_iff, slabMax_le (h 0) H (hh 0 (by decide)) (by decide), slabMax_le (h 1) H (hh 1 (by decide)) (by decide),
    slabMax_le (h 2) H (hh 2 (by decide)) (by decide), slabMax_le (h 3) H (hh 3 (by decide)) (by decide), slabMax_le (h 4) H (hh 4 (by decide)) (by decide),
    slabMax_le (h 5) H (hh 5 (by decide)) (by decide), slabMax_le (h 6) H (hh 6 (by decide)) (by decide), slabMax_le (h 7) H (hh 7 (by decide)) (by decide),
    slabMax_le (h 8) H (hh 8 (by decide)) (by decide), slabMax_le (h 9) H (hh 9 (by decide)) (by decide), slabMax_le (h 10) H (hh 10 (by decide)) (by decide)]
  constructor
  · rintro ⟨⟨⟨⟨⟨⟨⟨⟨⟨⟨⟨b, h0⟩, -, h1⟩, -, h2⟩, -, h3⟩, -, h4⟩, -, h5⟩, -, h6⟩, -, h7⟩, -, h8⟩, -, h9⟩, -, h10⟩
    refine ⟨b, fun J => ?_⟩
    have hJ : J.val < 5632 := J.isLt
    have hq : J.val / 512 = 0 ∨ J.val / 512 = 1 ∨ J.val / 512 = 2 ∨ J.val / 512 = 3 ∨ J.val / 512 = 4 ∨ J.val / 512 = 5 ∨ J.val / 512 = 6
      ∨ J.val / 512 = 7 ∨ J.val / 512 = 8 ∨ J.val / 512 = 9 ∨ J.val / 512 = 10 := by omega
    rcases hq with q | q | q | q | q | q | q | q | q | q | q
    exacts [h0 J q, h1 J q, h2 J q, h3 J q, h4 J q, h5 J q, h6 J q, h7 J q, h8 J q, h9 J q, h10 J q]
  · rintro ⟨b, hc⟩
    exact ⟨⟨⟨⟨⟨⟨⟨⟨⟨⟨⟨b, fun J _ => hc J⟩, b, fun J _ => hc J⟩, b, fun J _ => hc J⟩, b, fun J _ => hc J⟩, b, fun J _ => hc J⟩, b, fun J _ => hc J⟩,
      b, fun J _ => hc J⟩, b, fun J _ => hc J⟩, b, fun J _ => hc J⟩, b, fun J _ => hc J⟩, b, fun J _ => hc J⟩

end AtIdeal

end Cert.TailIdeal.Hand
-- ==== Proof.Tail.Equation.lean ====
module

public import proofs.«01_k».proof.Proof.Tail.Reads
public import proofs.«01_k».proof.Proof.Tail.Slabs
public import proofs.«01_k».proof.Proof.Tail.Values
public import Idealize.ShloMosaic.Lib.Pipeline.ValueKit

@[expose] public section

set_option maxRecDepth 16384

noncomputable section

namespace Cert.TailIdeal.Hand

open Cert.TailIdeal Cert.TailIdeal.Gen
open Idealize.ShloMosaic

open Idealize.ShloMosaic.TcCoe
variable (m : (ℓ : Loc nD τ sig) → Buf (Elt Ideal) ℓ) (c : Dev nD)

/-! # What the kernel computes is, block by block, what the reference computes -/

/-- The arrays the pipeline finds: the reshaped arguments, and the arguments themselves. -/
def inX : Vec Ideal S248x2048 .bf16 := V m c main_v0
def inO : Vec Ideal S248x3072 .f32 := V m c main_arg1
def inW : Vec Ideal S3072x2048 .fp8e4m3 := V m c main_arg2
def inWs : Vec Ideal S1x2048 .f32 := V m c main_v1
def inNw : Vec Ideal S1x2048 .f32 := V m c main_v2
def inWg : Vec Ideal S2048x5632 .fp8e4m3 := V m c main_arg5
def inGs : Vec Ideal S1x5632 .f32 := V m c main_v3
def inWv : Vec Ideal S2048x5632 .fp8e4m3 := V m c main_arg7
def inVs : Vec Ideal S1x5632 .f32 := V m c main_v4
def inW2 : Vec Ideal S5632x2048 .fp8e4m3 := V m c main_arg9
def inW2s : Vec Ideal S1x2048 .f32 := V m c main_v5

/-- The reference's residual rows, norm weights, root mean squares, hidden rows and their largest magnitudes, at those arrays. -/
def refR : FVec Ideal S248x2048 .f32 := Cert.TailRefIdeal.Gen.k0_pay9 (inX m c) (inO m c) (inW m c) (inWs m c)
def refN : FVec Ideal S1x2048 .f32 := Cert.TailRefIdeal.Gen.k0_pay10 (inNw m c)
def refD : FVec Ideal S248x1 .f32 := Cert.TailRefIdeal.Gen.k0_pay11 (inX m c) (inO m c) (inW m c) (inWs m c)
def refH : FVec Ideal S248x5632 .f32 := Cert.TailRefIdeal.Gen.k0_pay17 (refR m c) (refN m c) (refD m c) (inWg m c) (inGs m c) (inWv m c) (inVs m c)
def refM : FVec Ideal S248 .f32 := Cert.TailRefIdeal.Gen.k0_pay18 (refR m c) (refN m c) (refD m c) (inWg m c) (inGs m c) (inWv m c) (inVs m c)

/-- `Cols` with a unit axis in the middle. -/
def Cols3 {n : ℕ} {α : Type} (j : ℕ) (w : (⟨3, ![248, 1, 512]⟩ : Shape).Idx → α) (W : (⟨3, ![248, 1, n]⟩ : Shape).Idx → α) : Prop :=
  ∀ (q : Fin 248) (k : Fin 512) (J : Fin n), J.val = 512 * j + k.val → w (ix3 q 0 k) = W (ix3 q 0 J)

theorem oRows_val : oRows m c = inO m c := o_block m c _
theorem oCodes_val : oCodes m c = Cert.TailRefIdeal.Gen.k0_pay7 (inO m c) := by
  unfold oCodes
  rw [oRows_val, oCodes_eq]
theorem oScale_val : col (oScale m c) = shapeCast S248x1 (Cert.TailRefIdeal.Gen.k0_pay6 (inO m c)) shapeCasts_S248_S248x1 := by
  unfold oScale
  rw [col_oScale, oRows_val, oScale1_eq]

variable {j : ℕ}

theorem opAt_cols (hj : j < 4) : Cols3 j (opAt m c j) (Cert.TailRefIdeal.Gen.k0_pay25 (Cert.TailRefIdeal.Gen.k0_pay8 (inO m c) (inW m c) (inWs m c))) := by
  intro i k J hJ
  have e := op_cols (inO m c) _ (inW m c) _ (inWs m c) (w_cols m c hj) (ws_cols m c hj) i k J hJ
  unfold opAt
  rw [oCodes_val, oScale_val]
  pointwise [k0_pay8, Cert.TailRefIdeal.Gen.k0_pay25]
  exact e

theorem rAt_cols (hj : j < 4) : Cols j (shapeCast S248x512 (rAt m c j) shapeCasts_S1x248x512_S248x512) (refR m c) := by
  unfold rAt
  rw [oCodes_val, oScale_val]
  exact resid_cols (inX m c) _ (inO m c) _ (inW m c) _ (inWs m c) (w_cols m c hj) (ws_cols m c hj) (x_cols m c hj)

theorem norm_val : k0_pay22 (rAt m c 0) (rAt m c 1) (rAt m c 2) (rAt m c 3) (bn m c (pt 4)) = Cert.TailRefIdeal.Gen.k0_pay12 (refR m c) (refN m c) (refD m c) := by
  rw [pay22_eq, sideBySide_eq (rAt m c) (refR m c) fun j hj => rAt_cols m c hj, nw_block]
  exact refNorm_eq (inX m c) (inO m c) (inW m c) (inWs m c) (inNw m c)
theorem nScale1_val : nScale1 m c = shapeCast S248x1 (Cert.TailRefIdeal.Gen.k0_pay13 (refR m c) (refN m c) (refD m c)) shapeCasts_S248_S248x1 :=
  nScale1_of _ _ _ _ _ _ _ _ (norm_val m c)
theorem nCodes_val : nCodes m c = Cert.TailRefIdeal.Gen.k0_pay14 (refR m c) (refN m c) (refD m c) :=
  nCodes_of _ _ _ _ _ _ _ _ (norm_val m c)
theorem nScale_val : col (nScale m c) = shapeCast S248x1 (Cert.TailRefIdeal.Gen.k0_pay13 (refR m c) (refN m c) (refD m c)) shapeCasts_S248_S248x1 := by
  unfold nScale
  rw [col_nScale, nScale1_val]

theorem gAt_cols (hj : j < 11) : Cols3 j (gAt m c (j + 4)) (Cert.TailRefIdeal.Gen.k0_pay2 (Cert.TailRefIdeal.Gen.k0_pay15 (refR m c) (refN m c) (refD m c) (inWg m c) (inGs m c))) := by
  intro i k J hJ
  have e := gate_cols (refR m c) (refN m c) (refD m c) _ (inWg m c) _ (inGs m c) (wg_cols m c hj) (gs_cols m c hj) i k J hJ
  unfold gAt
  rw [nCodes_val, nScale_val]
  pointwise [k0_pay29, Cert.TailRefIdeal.Gen.k0_pay2]
  exact e
theorem vAt_cols (hj : j < 11) : Cols3 j (vAt m c (j + 4)) (Cert.TailRefIdeal.Gen.k0_pay3 (Cert.TailRefIdeal.Gen.k0_pay16 (refR m c) (refN m c) (refD m c) (inWv m c) (inVs m c))) := by
  intro i k J hJ
  have e := value_cols (refR m c) (refN m c) (refD m c) _ (inWv m c) _ (inVs m c) (wv_cols m c hj) (vs_cols m c hj) i k J hJ
  unfold vAt
  rw [nCodes_val, nScale_val]
  pointwise [k0_pay30, Cert.TailRefIdeal.Gen.k0_pay3]
  exact e
theorem hAt_cols (hj : j < 11) : Cols j (shapeCast S248x512 (hAt m c (j + 4)) shapeCasts_S1x248x512_S248x512) (refH m c) := by
  unfold hAt
  rw [nCodes_val, nScale_val]
  exact hidden_cols (refR m c) (refN m c) (refD m c) _ (inWg m c) _ (inGs m c) (wg_cols m c hj) (gs_cols m c hj) _ (inWv m c) _ (inVs m c)
    (wv_cols m c hj) (vs_cols m c hj)

theorem hScale1_val : hScale1 m c = shapeCast S248x1 (Cert.TailRefIdeal.Gen.k0_pay19 (refM m c)) shapeCasts_S248_S248x1 := by
  refine (hScale1_of (fun n => hAt m c (n + 4))).trans ?_
  rw [slabsMax_eq (fun n => hAt m c (n + 4)) (refH m c) fun j hj => hAt_cols m c hj]
  rfl
theorem hCodes_val : hCodes m c = Cert.TailRefIdeal.Gen.k0_pay20 (refH m c) (refM m c) := by
  funext y
  have hy : (y 1).val < 5632 := (y 1).isLt
  have hj : (tileOf y).val < 11 := (tileOf y).isLt
  have e := hCodes_cols _ (refH m c) (refM m c) (hAt_cols m c hj) (y 0) ⟨(y 1).val % 512, Nat.mod_lt _ (by decide)⟩ (y 1)
    (by show (y 1).val = 512 * ((y 1).val / 512) + (y 1).val % 512; omega)
  unfold hCodes
  rw [hScale1_val]
  have ey : (ix2 (n0 := 248) (n1 := 5632) (y 0) (y 1) : S248x5632.Idx) = y := ix2_eta y
  rw [ey] at e
  refine Eq.trans (congrArg _ ?_) e
  funext a
  match a with
  | ⟨0, _⟩ => rfl
  | ⟨1, _⟩ => rfl
theorem hScale_val : col (hScale m c) = shapeCast S248x1 (Cert.TailRefIdeal.Gen.k0_pay19 (refM m c)) shapeCasts_S248_S248x1 := by
  unfold hScale
  rw [col_hScale, hScale1_val]

theorem mpAt_cols (hj : j < 4) : Cols3 j (mpAt m c (j + 15)) (Cert.TailRefIdeal.Gen.k0_pay5 (Cert.TailRefIdeal.Gen.k0_pay21 (refH m c) (refM m c) (inW2 m c) (inW2s m c))) := by
  intro i k J hJ
  have e := mp_cols (refH m c) (refM m c) _ (inW2 m c) _ (inW2s m c) (w2_cols m c hj) (w2s_cols m c hj) i k J hJ
  unfold mpAt
  rw [hCodes_val, hScale_val]
  pointwise [k0_pay20, Cert.TailRefIdeal.Gen.k0_pay5]
  exact e
theorem outAt_cols (hj : j < 4) : Cols j (outAt m c (j + 15)) (Cert.TailRefIdeal.Gen.k0_pay22 (refR m c) (refH m c) (refM m c) (inW2 m c) (inW2s m c)) := by
  unfold outAt
  rw [hCodes_val, hScale_val, Nat.add_sub_cancel]
  exact out_cols (refR m c) (refH m c) (refM m c) _ (inW2 m c) _ (inW2s m c) (w2_cols m c hj) (w2s_cols m c hj) _ (rAt_cols m c hj)

end Cert.TailIdeal.Hand
-- ==== Proof.Ref.Arrays.lean ====
module

public import proofs.«01_k».proof.Proof.Gen.TailRefIdeal.Frame
public import Idealize.ShloMosaic.Lib.Pipeline.ValueKit

@[expose] public section

set_option maxRecDepth 16384

noncomputable section

namespace Cert.TailRefIdeal.Hand

open Cert.TailRefIdeal Cert.TailRefIdeal.Gen
open Idealize.ShloMosaic
open Idealize.ShloMosaic.TcCoe

/-! # The arrays that the reference leaves -/

variable {F : FTy → Type} [FloatOps F]

/-- The eleven arrays that the computation reads, in the shapes in which it reads them. -/
structure Ins (F : FTy → Type) where
  x : Vec F S248x2048 .bf16
  o : Vec F S248x3072 .f32
  w : Vec F S3072x2048 .fp8e4m3
  ws : Vec F S1x2048 .f32
  nw : Vec F S1x2048 .f32
  wg : Vec F S2048x5632 .fp8e4m3
  gs : Vec F S1x5632 .f32
  wv : Vec F S2048x5632 .fp8e4m3
  vs : Vec F S1x5632 .f32
  w2 : Vec F S5632x2048 .fp8e4m3
  w2s : Vec F S1x2048 .f32

/-- The residual rows, the norm's weights, the rows' root mean squares, the hidden rows, and their largest magnitudes. -/
def rows (I : Ins F) : FVec F S248x2048 .f32 := k0_pay9 I.x I.o I.w I.ws
def weight (I : Ins F) : FVec F S1x2048 .f32 := k0_pay10 I.nw
def rms (I : Ins F) : FVec F S248x1 .f32 := k0_pay11 I.x I.o I.w I.ws
def hid (I : Ins F) : FVec F S248x5632 .f32 := k0_pay17 (rows I) (weight I) (rms I) I.wg I.gs I.wv I.vs
def top (I : Ins F) : FVec F S248 .f32 := k0_pay18 (rows I) (weight I) (rms I) I.wg I.gs I.wv I.vs

/-- The twelve results. -/
def res11 (I : Ins F) : Vec F S248x2048 .bf16 := k0_pay22 (rows I) (hid I) (top I) I.w2 I.w2s
def res12 (I : Ins F) : Vec F S248x1x3072 .f32 := k0_pay23 I.o
def res13 (I : Ins F) : Vec F S248x3072 .fp8e4m3 := k0_pay7 I.o
def res14 (I : Ins F) : Vec F S1x248 .f32 := k0_pay24 (k0_pay6 I.o)
def res15 (I : Ins F) : Vec F S248x1x2048 .f32 := k0_pay25 (k0_pay8 I.o I.w I.ws)
def res16 (I : Ins F) : Vec F S248x2048 .fp8e4m3 := k0_pay14 (rows I) (weight I) (rms I)
def res17 (I : Ins F) : Vec F S1x248 .f32 := k0_pay1 (k0_pay13 (rows I) (weight I) (rms I))
def res18 (I : Ins F) : Vec F S248x1x5632 .f32 := k0_pay2 (k0_pay15 (rows I) (weight I) (rms I) I.wg I.gs)
def res19 (I : Ins F) : Vec F S248x1x5632 .f32 := k0_pay3 (k0_pay16 (rows I) (weight I) (rms I) I.wv I.vs)
def res20 (I : Ins F) : Vec F S248x5632 .fp8e4m3 := k0_pay20 (hid I) (top I)
def res21 (I : Ins F) : Vec F S1x248 .f32 := k0_pay4 (k0_pay19 (top I))
def res22 (I : Ins F) : Vec F S248x1x2048 .f32 := k0_pay5 (k0_pay21 (hid I) (top I) I.w2 I.w2s)

theorem zero2 : (![0, 0] : Fin 2 → ℕ) = fun _ => 0 := by decide
theorem zero3 : (![0, 0, 0] : Fin 3 → ℕ) = fun _ => 0 := by decide

theorem rows_eq (I : Ins F) : k0_pay26 I.x I.o I.w I.ws I.nw I.wg I.gs I.wv I.vs I.w2 I.w2s = rows I := by
  unfold k0_pay26 rows
  simp only [View.ld_unit_zero (S := S248x2048) zero2, View.ld_unit_zero (S := S248x3072) zero2, View.ld_unit_zero (S := S3072x2048) zero2, View.ld_unit_zero (S := S1x2048) zero2]
theorem weight_eq (I : Ins F) : k0_pay27 I.x I.o I.w I.ws I.nw I.wg I.gs I.wv I.vs I.w2 I.w2s = weight I := by
  unfold k0_pay27 weight
  simp only [View.ld_unit_zero (S := S1x2048) zero2]
theorem rms_eq (I : Ins F) : k0_pay28 I.x I.o I.w I.ws I.nw I.wg I.gs I.wv I.vs I.w2 I.w2s = rms I := by
  unfold k0_pay28 rms
  simp only [View.ld_unit_zero (S := S248x2048) zero2, View.ld_unit_zero (S := S248x3072) zero2, View.ld_unit_zero (S := S3072x2048) zero2, View.ld_unit_zero (S := S1x2048) zero2]
theorem hid_eq (I : Ins F) : k0_pay29 I.x I.o I.w I.ws I.nw I.wg I.gs I.wv I.vs I.w2 I.w2s = hid I := by
  unfold k0_pay29 hid
  simp only [View.ld_unit_zero (S := S2048x5632) zero2, View.ld_unit_zero (S := S1x5632) zero2, rows_eq, weight_eq, rms_eq]
theorem top_eq (I : Ins F) : k0_pay30 I.x I.o I.w I.ws I.nw I.wg I.gs I.wv I.vs I.w2 I.w2s = top I := by
  unfold k0_pay30 top
  simp only [View.ld_unit_zero (S := S2048x5632) zero2, View.ld_unit_zero (S := S1x5632) zero2, rows_eq, weight_eq, rms_eq]
theorem out11_eq (I : Ins F) : out0_11 I.x I.o I.w I.ws I.nw I.wg I.gs I.wv I.vs I.w2 I.w2s = res11 I := by
  unfold out0_11 res11
  rw [View.canon_unit_zero (S := S248x2048) zero2]
  simp only [View.ld_unit_zero (S := S5632x2048) zero2, View.ld_unit_zero (S := S1x2048) zero2, rows_eq, hid_eq, top_eq]
theorem out12_eq (I : Ins F) : out0_12 I.x I.o I.w I.ws I.nw I.wg I.gs I.wv I.vs I.w2 I.w2s = res12 I := by
  unfold out0_12 res12
  rw [View.canon_unit_zero (S := S248x1x3072) zero3]
  simp only [View.ld_unit_zero (S := S248x3072) zero2]
theorem out13_eq (I : Ins F) : out0_13 I.x I.o I.w I.ws I.nw I.wg I.gs I.wv I.vs I.w2 I.w2s = res13 I := by
  unfold out0_13 res13
  rw [View.canon_unit_zero (S := S248x3072) zero2]
  simp only [View.ld_unit_zero (S := S248x3072) zero2]
theorem out14_eq (I : Ins F) : out0_14 I.x I.o I.w I.ws I.nw I.wg I.gs I.wv I.vs I.w2 I.w2s = res14 I := by
  unfold out0_14 res14
  rw [View.canon_unit_zero (S := S1x248) zero2]
  simp only [View.ld_unit_zero (S := S248x3072) zero2]
theorem out15_eq (I : Ins F) : out0_15 I.x I.o I.w I.ws I.nw I.wg I.gs I.wv I.vs I.w2 I.w2s = res15 I := by
  unfold out0_15 res15
  rw [View.canon_unit_zero (S := S248x1x2048) zero3]
  simp only [View.ld_unit_zero (S := S248x3072) zero2, View.ld_unit_zero (S := S3072x2048) zero2, View.ld_unit_zero (S := S1x2048) zero2]
theorem out16_eq (I : Ins F) : out0_16 I.x I.o I.w I.ws I.nw I.wg I.gs I.wv I.vs I.w2 I.w2s = res16 I := by
  unfold out0_16 res16
  rw [View.canon_unit_zero (S := S248x2048) zero2]
  simp only [rows_eq, weight_eq, rms_eq]
theorem out17_eq (I : Ins F) : out0_17 I.x I.o I.w I.ws I.nw I.wg I.gs I.wv I.vs I.w2 I.w2s = res17 I := by
  unfold out0_17 res17
  rw [View.canon_unit_zero (S := S1x248) zero2]
  simp only [rows_eq, weight_eq, rms_eq]
theorem out18_eq (I : Ins F) : out0_18 I.x I.o I.w I.ws I.nw I.wg I.gs I.wv I.vs I.w2 I.w2s = res18 I := by
  unfold out0_18 res18
  rw [View.canon_unit_zero (S := S248x1x5632) zero3]
  simp only [View.ld_unit_zero (S := S2048x5632) zero2, View.ld_unit_zero (S := S1x5632) zero2, rows_eq, weight_eq, rms_eq]
theorem out19_eq (I : Ins F) : out0_19 I.x I.o I.w I.ws I.nw I.wg I.gs I.wv I.vs I.w2 I.w2s = res19 I := by
  unfold out0_19 res19
  rw [View.canon_unit_zero (S := S248x1x5632) zero3]
  simp only [View.ld_unit_zero (S := S2048x5632) zero2, View.ld_unit_zero (S := S1x5632) zero2, rows_eq, weight_eq, rms_eq]
theorem out20_eq (I : Ins F) : out0_20 I.x I.o I.w I.ws I.nw I.wg I.gs I.wv I.vs I.w2 I.w2s = res20 I := by
  unfold out0_20 res20
  rw [View.canon_unit_zero (S := S248x5632) zero2]
  simp only [hid_eq, top_eq]
theorem out21_eq (I : Ins F) : out0_21 I.x I.o I.w I.ws I.nw I.wg I.gs I.wv I.vs I.w2 I.w2s = res21 I := by
  unfold out0_21 res21
  rw [View.canon_unit_zero (S := S1x248) zero2]
  simp only [top_eq]
theorem out22_eq (I : Ins F) : out0_22 I.x I.o I.w I.ws I.nw I.wg I.gs I.wv I.vs I.w2 I.w2s = res22 I := by
  unfold out0_22 res22
  rw [View.canon_unit_zero (S := S248x1x2048) zero3]
  simp only [View.ld_unit_zero (S := S5632x2048) zero2, View.ld_unit_zero (S := S1x2048) zero2, hid_eq, top_eq]

variable (m : (ℓ : Loc nD τ sig) → Buf (Elt F) ℓ) (c : Dev nD)

/-- The arrays as the computation finds them: the reshaped arguments, and the arguments themselves. -/
def ins : Ins F where
  x := V m c main_v0
  o := V m c main_arg1
  w := V m c main_arg2
  ws := V m c main_v1
  nw := V m c main_v2
  wg := V m c main_arg5
  gs := V m c main_v3
  wv := V m c main_arg7
  vs := V m c main_v4
  w2 := V m c main_arg9
  w2s := V m c main_v5

theorem index0_0 : ∀ t : Fin cfg0.N, win0_0.index t = ![0, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![0, 0] := by decide +kernel
theorem index0_4 : ∀ t : Fin cfg0.N, win0_4.index t = ![0, 0] := by decide +kernel
theorem index0_5 : ∀ t : Fin cfg0.N, win0_5.index t = ![0, 0] := by decide +kernel
theorem index0_6 : ∀ t : Fin cfg0.N, win0_6.index t = ![0, 0] := by decide +kernel
theorem index0_7 : ∀ t : Fin cfg0.N, win0_7.index t = ![0, 0] := by decide +kernel
theorem index0_8 : ∀ t : Fin cfg0.N, win0_8.index t = ![0, 0] := by decide +kernel
theorem index0_9 : ∀ t : Fin cfg0.N, win0_9.index t = ![0, 0] := by decide +kernel
theorem index0_10 : ∀ t : Fin cfg0.N, win0_10.index t = ![0, 0] := by decide +kernel
/-- The one block of window 0. -/
def bx : Vec F S248x2048 .bf16 := iblk m c 0 t0_0
theorem bx_eq : bx m c = (ins m c).x := by
  funext y
  have hi := index0_0 t0_0
  unfold bx ins
  blk_ext [iblk, hi]
/-- The one block of window 1. -/
def bo : Vec F S248x3072 .f32 := iblk m c 1 t0_0
theorem bo_eq : bo m c = (ins m c).o := by
  funext y
  have hi := index0_1 t0_0
  unfold bo ins
  blk_ext [iblk, hi]
/-- The one block of window 2. -/
def bw : Vec F S3072x2048 .fp8e4m3 := iblk m c 2 t0_0
theorem bw_eq : bw m c = (ins m c).w := by
  funext y
  have hi := index0_2 t0_0
  unfold bw ins
  blk_ext [iblk, hi]
/-- The one block of window 3. -/
def bws : Vec F S1x2048 .f32 := iblk m c 3 t0_0
theorem bws_eq : bws m c = (ins m c).ws := by
  funext y
  have hi := index0_3 t0_0
  unfold bws ins
  blk_ext [iblk, hi]
/-- The one block of window 4. -/
def bnw : Vec F S1x2048 .f32 := iblk m c 4 t0_0
theorem bnw_eq : bnw m c = (ins m c).nw := by
  funext y
  have hi := index0_4 t0_0
  unfold bnw ins
  blk_ext [iblk, hi]
/-- The one block of window 5. -/
def bwg : Vec F S2048x5632 .fp8e4m3 := iblk m c 5 t0_0
theorem bwg_eq : bwg m c = (ins m c).wg := by
  funext y
  have hi := index0_5 t0_0
  unfold bwg ins
  blk_ext [iblk, hi]
/-- The one block of window 6. -/
def bgs : Vec F S1x5632 .f32 := iblk m c 6 t0_0
theorem bgs_eq : bgs m c = (ins m c).gs := by
  funext y
  have hi := index0_6 t0_0
  unfold bgs ins
  blk_ext [iblk, hi]
/-- The one block of window 7. -/
def bwv : Vec F S2048x5632 .fp8e4m3 := iblk m c 7 t0_0
theorem bwv_eq : bwv m c = (ins m c).wv := by
  funext y
  have hi := index0_7 t0_0
  unfold bwv ins
  blk_ext [iblk, hi]
/-- The one block of window 8. -/
def bvs : Vec F S1x5632 .f32 := iblk m c 8 t0_0
theorem bvs_eq : bvs m c = (ins m c).vs := by
  funext y
  have hi := index0_8 t0_0
  unfold bvs ins
  blk_ext [iblk, hi]
/-- The one block of window 9. -/
def bw2 : Vec F S5632x2048 .fp8e4m3 := iblk m c 9 t0_0
theorem bw2_eq : bw2 m c = (ins m c).w2 := by
  funext y
  have hi := index0_9 t0_0
  unfold bw2 ins
  blk_ext [iblk, hi]
/-- The one block of window 10. -/
def bw2s : Vec F S1x2048 .f32 := iblk m c 10 t0_0
theorem bw2s_eq : bw2s m c = (ins m c).w2s := by
  funext y
  have hi := index0_10 t0_0
  unfold bw2s ins
  blk_ext [iblk, hi]
/-- The blocks together. -/
def blks : Ins F := ⟨iblk m c 0 t0_0, iblk m c 1 t0_0, iblk m c 2 t0_0, iblk m c 3 t0_0, iblk m c 4 t0_0, iblk m c 5 t0_0, iblk m c 6 t0_0, iblk m c 7 t0_0, iblk m c 8 t0_0, iblk m c 9 t0_0, iblk m c 10 t0_0⟩
theorem blocks : blks m c = ins m c := by
  show (⟨bx m c, bo m c, bw m c, bws m c, bnw m c, bwg m c, bgs m c, bwv m c, bvs m c, bw2 m c, bw2s m c⟩ : Ins F) = ins m c
  rw [bx_eq, bo_eq, bw_eq, bws_eq, bnw_eq, bwg_eq, bgs_eq, bwv_eq, bvs_eq, bw2_eq, bw2s_eq]

theorem left11 : (dats m 0 c).after 11 t0_0 = res11 (ins m c) :=
  (after0_11 m c t0_0).trans ((out11_eq (blks m c)).trans (congrArg res11 (blocks m c)))
theorem arr11 : (dats m 0 c).arrAt 11 cfg0.N = res11 (ins m c) := by
  refine Pipeline.Dat.arrAt_eq_of_after_last _ 11 t0_0 (by decide +kernel) _ fun j => ?_
  rw [left11]
  generalize res11 (ins m c) = G
  refine (cast_eq _ _).trans (congrArg G (funext fun a => ?_))
  match a with
  | ⟨0, _⟩ => rfl
  | ⟨1, _⟩ => rfl
theorem left12 : (dats m 0 c).after 12 t0_0 = res12 (ins m c) :=
  (after0_12 m c t0_0).trans ((out12_eq (blks m c)).trans (congrArg res12 (blocks m c)))
theorem arr12 : (dats m 0 c).arrAt 12 cfg0.N = res12 (ins m c) := by
  refine Pipeline.Dat.arrAt_eq_of_after_last _ 12 t0_0 (by decide +kernel) _ fun j => ?_
  rw [left12]
  generalize res12 (ins m c) = G
  refine (cast_eq _ _).trans (congrArg G (funext fun a => ?_))
  match a with
  | ⟨0, _⟩ => rfl
  | ⟨1, _⟩ => rfl
  | ⟨2, _⟩ => rfl
theorem left13 : (dats m 0 c).after 13 t0_0 = res13 (ins m c) :=
  (after0_13 m c t0_0).trans ((out13_eq (blks m c)).trans (congrArg res13 (blocks m c)))
theorem arr13 : (dats m 0 c).arrAt 13 cfg0.N = res13 (ins m c) := by
  refine Pipeline.Dat.arrAt_eq_of_after_last _ 13 t0_0 (by decide +kernel) _ fun j => ?_
  rw [left13]
  generalize res13 (ins m c) = G
  refine (cast_eq _ _).trans (congrArg G (funext fun a => ?_))
  match a with
  | ⟨0, _⟩ => rfl
  | ⟨1, _⟩ => rfl
theorem left14 : (dats m 0 c).after 14 t0_0 = res14 (ins m c) :=
  (after0_14 m c t0_0).trans ((out14_eq (blks m c)).trans (congrArg res14 (blocks m c)))
theorem arr14 : (dats m 0 c).arrAt 14 cfg0.N = res14 (ins m c) := by
  refine Pipeline.Dat.arrAt_eq_of_after_last _ 14 t0_0 (by decide +kernel) _ fun j => ?_
  rw [left14]
  generalize res14 (ins m c) = G
  refine (cast_eq _ _).trans (congrArg G (funext fun a => ?_))
  match a with
  | ⟨0, _⟩ => rfl
  | ⟨1, _⟩ => rfl
theorem left15 : (dats m 0 c).after 15 t0_0 = res15 (ins m c) :=
  (after0_15 m c t0_0).trans ((out15_eq (blks m c)).trans (congrArg res15 (blocks m c)))
theorem arr15 : (dats m 0 c).arrAt 15 cfg0.N = res15 (ins m c) := by
  refine Pipeline.Dat.arrAt_eq_of_after_last _ 15 t0_0 (by decide +kernel) _ fun j => ?_
  rw [left15]
  generalize res15 (ins m c) = G
  refine (cast_eq _ _).trans (congrArg G (funext fun a => ?_))
  match a with
  | ⟨0, _⟩ => rfl
  | ⟨1, _⟩ => rfl
  | ⟨2, _⟩ => rfl
theorem left16 : (dats m 0 c).after 16 t0_0 = res16 (ins m c) :=
  (after0_16 m c t0_0).trans ((out16_eq (blks m c)).trans (congrArg res16 (blocks m c)))
theorem arr16 : (dats m 0 c).arrAt 16 cfg0.N = res16 (ins m c) := by
  refine Pipeline.Dat.arrAt_eq_of_after_last _ 16 t0_0 (by decide +kernel) _ fun j => ?_
  rw [left16]
  generalize res16 (ins m c) = G
  refine (cast_eq _ _).trans (congrArg G (funext fun a => ?_))
  match a with
  | ⟨0, _⟩ => rfl
  | ⟨1, _⟩ => rfl
theorem left17 : (dats m 0 c).after 17 t0_0 = res17 (ins m c) :=
  (after0_17 m c t0_0).trans ((out17_eq (blks m c)).trans (congrArg res17 (blocks m c)))
theorem arr17 : (dats m 0 c).arrAt 17 cfg0.N = res17 (ins m c) := by
  refine Pipeline.Dat.arrAt_eq_of_after_last _ 17 t0_0 (by decide +kernel) _ fun j => ?_
  rw [left17]
  generalize res17 (ins m c) = G
  refine (cast_eq _ _).trans (congrArg G (funext fun a => ?_))
  match a with
  | ⟨0, _⟩ => rfl
  | ⟨1, _⟩ => rfl
theorem left18 : (dats m 0 c).after 18 t0_0 = res18 (ins m c) :=
  (after0_18 m c t0_0).trans ((out18_eq (blks m c)).trans (congrArg res18 (blocks m c)))
theorem arr18 : (dats m 0 c).arrAt 18 cfg0.N = res18 (ins m c) := by
  refine Pipeline.Dat.arrAt_eq_of_after_last _ 18 t0_0 (by decide +kernel) _ fun j => ?_
  rw [left18]
  generalize res18 (ins m c) = G
  refine (cast_eq _ _).trans (congrArg G (funext fun a => ?_))
  match a with
  | ⟨0, _⟩ => rfl
  | ⟨1, _⟩ => rfl
  | ⟨2, _⟩ => rfl
theorem left19 : (dats m 0 c).after 19 t0_0 = res19 (ins m c) :=
  (after0_19 m c t0_0).trans ((out19_eq (blks m c)).trans (congrArg res19 (blocks m c)))
theorem arr19 : (dats m 0 c).arrAt 19 cfg0.N = res19 (ins m c) := by
  refine Pipeline.Dat.arrAt_eq_of_after_last _ 19 t0_0 (by decide +kernel) _ fun j => ?_
  rw [left19]
  generalize res19 (ins m c) = G
  refine (cast_eq _ _).trans (congrArg G (funext fun a => ?_))
  match a with
  | ⟨0, _⟩ => rfl
  | ⟨1, _⟩ => rfl
  | ⟨2, _⟩ => rfl
theorem left20 : (dats m 0 c).after 20 t0_0 = res20 (ins m c) :=
  (after0_20 m c t0_0).trans ((out20_eq (blks m c)).trans (congrArg res20 (blocks m c)))
theorem arr20 : (dats m 0 c).arrAt 20 cfg0.N = res20 (ins m c) := by
  refine Pipeline.Dat.arrAt_eq_of_after_last _ 20 t0_0 (by decide +kernel) _ fun j => ?_
  rw [left20]
  generalize res20 (ins m c) = G
  refine (cast_eq _ _).trans (congrArg G (funext fun a => ?_))
  match a with
  | ⟨0, _⟩ => rfl
  | ⟨1, _⟩ => rfl
theorem left21 : (dats m 0 c).after 21 t0_0 = res21 (ins m c) :=
  (after0_21 m c t0_0).trans ((out21_eq (blks m c)).trans (congrArg res21 (blocks m c)))
theorem arr21 : (dats m 0 c).arrAt 21 cfg0.N = res21 (ins m c) := by
  refine Pipeline.Dat.arrAt_eq_of_after_last _ 21 t0_0 (by decide +kernel) _ fun j => ?_
  rw [left21]
  generalize res21 (ins m c) = G
  refine (cast_eq _ _).trans (congrArg G (funext fun a => ?_))
  match a with
  | ⟨0, _⟩ => rfl
  | ⟨1, _⟩ => rfl
theorem left22 : (dats m 0 c).after 22 t0_0 = res22 (ins m c) :=
  (after0_22 m c t0_0).trans ((out22_eq (blks m c)).trans (congrArg res22 (blocks m c)))
theorem arr22 : (dats m 0 c).arrAt 22 cfg0.N = res22 (ins m c) := by
  refine Pipeline.Dat.arrAt_eq_of_after_last _ 22 t0_0 (by decide +kernel) _ fun j => ?_
  rw [left22]
  generalize res22 (ins m c) = G
  refine (cast_eq _ _).trans (congrArg G (funext fun a => ?_))
  match a with
  | ⟨0, _⟩ => rfl
  | ⟨1, _⟩ => rfl
  | ⟨2, _⟩ => rfl

end Cert.TailRefIdeal.Hand
-- ==== Proof.Tail.Agree.lean ====
module

public import proofs.«01_k».proof.Proof.Tail.Equation
public import proofs.«01_k».proof.Proof.Ref.Arrays
public import Idealize.ShloMosaic.Lib.Claim
public import Idealize.ShloMosaic.Lib.Pipeline.ValueKit

@[expose] public section

set_option maxRecDepth 16384

noncomputable section

namespace Cert.TailIdeal.Hand

open Cert.TailIdeal Cert.TailIdeal.Gen
open Idealize.ShloMosaic Idealize.ShloMosaic.TcCoe

/-! # Equal arguments give the two programs the same arrays to read -/

variable (m : (ℓ : Loc nD τ sig) → Buf (Elt Ideal) ℓ) (m' : (ℓ : Loc Cert.TailRefIdeal.nD Cert.TailRefIdeal.τ Cert.TailRefIdeal.sig) → Buf (Elt Ideal) ℓ) (c : Dev nD)

theorem same_x (h : m' ((c.tc : Thread Cert.TailRefIdeal.nD Cert.TailRefIdeal.τ).loc Cert.TailRefIdeal.main_arg0) = m ((c.tc : Thread nD τ).loc main_arg0)) :
    Cert.TailRefIdeal.Gen.V m' c Cert.TailRefIdeal.main_v0 = inX m c := by
  unfold inX
  entry_read
  rw [h]
  rfl
theorem same_o (h : m' ((c.tc : Thread Cert.TailRefIdeal.nD Cert.TailRefIdeal.τ).loc Cert.TailRefIdeal.main_arg1) = m ((c.tc : Thread nD τ).loc main_arg1)) :
    Cert.TailRefIdeal.Gen.V m' c Cert.TailRefIdeal.main_arg1 = inO m c := by
  unfold inO
  exact (Cert.TailRefIdeal.Gen.V_main_arg1 m' c).trans (h.trans (V_main_arg1 m c).symm)
theorem same_w (h : m' ((c.tc : Thread Cert.TailRefIdeal.nD Cert.TailRefIdeal.τ).loc Cert.TailRefIdeal.main_arg2) = m ((c.tc : Thread nD τ).loc main_arg2)) :
    Cert.TailRefIdeal.Gen.V m' c Cert.TailRefIdeal.main_arg2 = inW m c := by
  unfold inW
  exact (Cert.TailRefIdeal.Gen.V_main_arg2 m' c).trans (h.trans (V_main_arg2 m c).symm)
theorem same_ws (h : m' ((c.tc : Thread Cert.TailRefIdeal.nD Cert.TailRefIdeal.τ).loc Cert.TailRefIdeal.main_arg3) = m ((c.tc : Thread nD τ).loc main_arg3)) :
    Cert.TailRefIdeal.Gen.V m' c Cert.TailRefIdeal.main_v1 = inWs m c := by
  unfold inWs
  entry_read
  rw [h]
  rfl
theorem same_nw (h : m' ((c.tc : Thread Cert.TailRefIdeal.nD Cert.TailRefIdeal.τ).loc Cert.TailRefIdeal.main_arg4) = m ((c.tc : Thread nD τ).loc main_arg4)) :
    Cert.TailRefIdeal.Gen.V m' c Cert.TailRefIdeal.main_v2 = inNw m c := by
  unfold inNw
  entry_read
  rw [h]
  rfl
theorem same_wg (h : m' ((c.tc : Thread Cert.TailRefIdeal.nD Cert.TailRefIdeal.τ).loc Cert.TailRefIdeal.main_arg5) = m ((c.tc : Thread nD τ).loc main_arg5)) :
    Cert.TailRefIdeal.Gen.V m' c Cert.TailRefIdeal.main_arg5 = inWg m c := by
  unfold inWg
  exact (Cert.TailRefIdeal.Gen.V_main_arg5 m' c).trans (h.trans (V_main_arg5 m c).symm)
theorem same_gs (h : m' ((c.tc : Thread Cert.TailRefIdeal.nD Cert.TailRefIdeal.τ).loc Cert.TailRefIdeal.main_arg6) = m ((c.tc : Thread nD τ).loc main_arg6)) :
    Cert.TailRefIdeal.Gen.V m' c Cert.TailRefIdeal.main_v3 = inGs m c := by
  unfold inGs
  entry_read
  rw [h]
  rfl
theorem same_wv (h : m' ((c.tc : Thread Cert.TailRefIdeal.nD Cert.TailRefIdeal.τ).loc Cert.TailRefIdeal.main_arg7) = m ((c.tc : Thread nD τ).loc main_arg7)) :
    Cert.TailRefIdeal.Gen.V m' c Cert.TailRefIdeal.main_arg7 = inWv m c := by
  unfold inWv
  exact (Cert.TailRefIdeal.Gen.V_main_arg7 m' c).trans (h.trans (V_main_arg7 m c).symm)
theorem same_vs (h : m' ((c.tc : Thread Cert.TailRefIdeal.nD Cert.TailRefIdeal.τ).loc Cert.TailRefIdeal.main_arg8) = m ((c.tc : Thread nD τ).loc main_arg8)) :
    Cert.TailRefIdeal.Gen.V m' c Cert.TailRefIdeal.main_v4 = inVs m c := by
  unfold inVs
  entry_read
  rw [h]
  rfl
theorem same_w2 (h : m' ((c.tc : Thread Cert.TailRefIdeal.nD Cert.TailRefIdeal.τ).loc Cert.TailRefIdeal.main_arg9) = m ((c.tc : Thread nD τ).loc main_arg9)) :
    Cert.TailRefIdeal.Gen.V m' c Cert.TailRefIdeal.main_arg9 = inW2 m c := by
  unfold inW2
  exact (Cert.TailRefIdeal.Gen.V_main_arg9 m' c).trans (h.trans (V_main_arg9 m c).symm)
theorem same_w2s (h : m' ((c.tc : Thread Cert.TailRefIdeal.nD Cert.TailRefIdeal.τ).loc Cert.TailRefIdeal.main_arg10) = m ((c.tc : Thread nD τ).loc main_arg10)) :
    Cert.TailRefIdeal.Gen.V m' c Cert.TailRefIdeal.main_v5 = inW2s m c := by
  unfold inW2s
  entry_read
  rw [h]
  rfl

end Cert.TailIdeal.Hand
-- ==== Proof.Tail.Arrays.lean ====
module

public import proofs.«01_k».proof.Proof.Tail.Equation
public import proofs.«01_k».proof.Proof.Tail.Run
public import proofs.«01_k».proof.Proof.Tail.Values
public import Idealize.ShloMosaic.Lib.Pipeline.ValueKit

@[expose] public section

set_option maxRecDepth 16384

noncomputable section

namespace Cert.TailIdeal.Hand

open Cert.TailIdeal Cert.TailIdeal.Gen
open Idealize.ShloMosaic

open Idealize.ShloMosaic.TcCoe
variable (m : (ℓ : Loc nD τ sig) → Buf (Elt Ideal) ℓ) (c : Dev nD)

/-! # The arrays that the kernel leaves -/

theorem oindex0_11 : ∀ t : Fin cfg0.N, win0_11.index t = ![0, min (t.val - 15) 3] := by decide +kernel
theorem oindex0_15 : ∀ t : Fin cfg0.N, win0_15.index t = ![0, 0, min t.val 3] := by decide +kernel
theorem oindex0_18 : ∀ t : Fin cfg0.N, win0_18.index t = ![0, 0, min (t.val - 4) 10] := by decide +kernel
theorem oindex0_19 : ∀ t : Fin cfg0.N, win0_19.index t = ![0, 0, min (t.val - 4) 10] := by decide +kernel
theorem oindex0_22 : ∀ t : Fin cfg0.N, win0_22.index t = ![0, 0, min (t.val - 15) 3] := by decide +kernel
theorem oflush0_11 : ∀ t : Fin cfg0.N, win0_11.flush t = true → 15 ≤ t.val := by decide +kernel
theorem oflush0_15 : ∀ t : Fin cfg0.N, win0_15.flush t = true → t.val < 3 ∨ t.val = 18 := by decide +kernel
theorem oflush0_18 : ∀ t : Fin cfg0.N, win0_18.flush t = true → 4 ≤ t.val ∧ t.val ≤ 13 ∨ t.val = 18 := by decide +kernel
theorem oflush0_19 : ∀ t : Fin cfg0.N, win0_19.flush t = true → 4 ≤ t.val ∧ t.val ≤ 13 ∨ t.val = 18 := by decide +kernel
theorem oflush0_22 : ∀ t : Fin cfg0.N, win0_22.flush t = true → 15 ≤ t.val := by decide +kernel

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))

include hL

theorem arr11 : ((rdat m c).withAfter after).arrAt 11 cfg0.N = Cert.TailRefIdeal.Gen.k0_pay22 (refR m c) (refH m c) (refM m c) (inW2 m c) (inW2s m c) := by
  refine Pipeline.Dat.arrAt_eq_of_covers _ 11 _ (by decide +kernel) fun t hf y => ?_
  have ht := oflush0_11 t hf
  have ht' : t.val < 19 := lt_of_lt_of_eq t.isLt N_0
  have hy : (y 1).val < 512 := (y 1).isLt
  have hX : Ok11 m c (t.val + 1) (after 11 t) := (dats m 0 c).toRRel_leaves rfl (hL 11 t hf)
  have e : after 11 t = outAt m c (t.val - 15 + 15) := (hX (by omega)).trans (congrArg (outAt m c) (by omega))
  have hi := oindex0_11 t
  have hlt : 512 * (t.val - 15) + (y 1).val < 2048 := by omega
  have key := outAt_cols m c (j := t.val - 15) (by omega) (y 0) (y 1) ⟨512 * (t.val - 15) + (y 1).val, hlt⟩ rfl
  rw [Pipeline.RDat.withAfter_after]
  refine (congrFun e _).trans ?_
  revert key
  generalize outAt m c (t.val - 15 + 15) = A
  generalize Cert.TailRefIdeal.Gen.k0_pay22 (refR m c) (refH m c) (refM m c) (inW2 m c) (inW2s m c) = G
  intro key
  refine Eq.trans ?_ (key.trans ?_)
  · blk_ext [hi]
  · blk_ext [hi]
theorem arr12 : ((rdat m c).withAfter after).arrAt 12 cfg0.N = Cert.TailRefIdeal.Gen.k0_pay23 (inO m c) := by
  refine Pipeline.Dat.arrAt_eq_of_after_last _ 12 (pt 18) (by decide +kernel) _ fun j => ?_
  rw [Pipeline.RDat.withAfter_after]
  have hX : Ok12 m c ((pt 18).val + 1) (after 12 (pt 18)) := (dats m 0 c).toRRel_leaves rfl (hL 12 (pt 18) (by decide +kernel))
  rw [hX (by decide), oRows_val, oCopy_eq]
  generalize Cert.TailRefIdeal.Gen.k0_pay23 (inO m c) = G
  refine (cast_eq _ _).trans (congrArg G (funext fun a => ?_))
  match a with
  | ⟨0, _⟩ => rfl
  | ⟨1, _⟩ => rfl
  | ⟨2, _⟩ => rfl
theorem arr13 : ((rdat m c).withAfter after).arrAt 13 cfg0.N = Cert.TailRefIdeal.Gen.k0_pay7 (inO m c) := by
  refine Pipeline.Dat.arrAt_eq_of_after_last _ 13 (pt 18) (by decide +kernel) _ fun j => ?_
  rw [Pipeline.RDat.withAfter_after]
  have hX : Ok13 m c ((pt 18).val + 1) (after 13 (pt 18)) := (dats m 0 c).toRRel_leaves rfl (hL 13 (pt 18) (by decide +kernel))
  rw [hX (by decide), oCodes_val]
  generalize Cert.TailRefIdeal.Gen.k0_pay7 (inO m c) = G
  refine (cast_eq _ _).trans (congrArg G (funext fun a => ?_))
  match a with
  | ⟨0, _⟩ => rfl
  | ⟨1, _⟩ => rfl
theorem arr14 : ((rdat m c).withAfter after).arrAt 14 cfg0.N = Cert.TailRefIdeal.Gen.k0_pay24 (Cert.TailRefIdeal.Gen.k0_pay6 (inO m c)) := by
  refine Pipeline.Dat.arrAt_eq_of_after_last _ 14 (pt 18) (by decide +kernel) _ fun j => ?_
  rw [Pipeline.RDat.withAfter_after]
  have hX : Ok14 m c ((pt 18).val + 1) (after 14 (pt 18)) := (dats m 0 c).toRRel_leaves rfl (hL 14 (pt 18) (by decide +kernel))
  rw [hX (by decide), oRows_val, oScale_row]
  generalize Cert.TailRefIdeal.Gen.k0_pay24 (Cert.TailRefIdeal.Gen.k0_pay6 (inO m c)) = G
  refine (cast_eq _ _).trans (congrArg G (funext fun a => ?_))
  match a with
  | ⟨0, _⟩ => rfl
  | ⟨1, _⟩ => rfl
theorem arr15 : ((rdat m c).withAfter after).arrAt 15 cfg0.N = Cert.TailRefIdeal.Gen.k0_pay25 (Cert.TailRefIdeal.Gen.k0_pay8 (inO m c) (inW m c) (inWs m c)) := by
  refine Pipeline.Dat.arrAt_eq_of_covers _ 15 _ (by decide +kernel) fun t hf y => ?_
  have ht := oflush0_15 t hf
  have ht' : t.val < 19 := lt_of_lt_of_eq t.isLt N_0
  have hy : (y 2).val < 512 := (y 2).isLt
  have hX : Ok15 m c (t.val + 1) (after 15 t) := (dats m 0 c).toRRel_leaves rfl (hL 15 t hf)
  have e : after 15 t = opAt m c (min t.val 3) := (hX (by omega)).trans (congrArg (opAt m c) (by omega))
  have hi := oindex0_15 t
  have hlt : 512 * (min t.val 3) + (y 2).val < 2048 := by omega
  have key := opAt_cols m c (j := min t.val 3) (by omega) (y 0) (y 2) ⟨512 * (min t.val 3) + (y 2).val, hlt⟩ rfl
  rw [Pipeline.RDat.withAfter_after]
  refine (congrFun e _).trans ?_
  revert key
  generalize opAt m c (min t.val 3) = A
  generalize Cert.TailRefIdeal.Gen.k0_pay25 (Cert.TailRefIdeal.Gen.k0_pay8 (inO m c) (inW m c) (inWs m c)) = G
  intro key
  refine Eq.trans ?_ (key.trans ?_)
  · blk_ext [hi]
  · blk_ext [hi]
theorem arr16 : ((rdat m c).withAfter after).arrAt 16 cfg0.N = Cert.TailRefIdeal.Gen.k0_pay14 (refR m c) (refN m c) (refD m c) := by
  refine Pipeline.Dat.arrAt_eq_of_after_last _ 16 (pt 18) (by decide +kernel) _ fun j => ?_
  rw [Pipeline.RDat.withAfter_after]
  have hX : Ok16 m c ((pt 18).val + 1) (after 16 (pt 18)) := (dats m 0 c).toRRel_leaves rfl (hL 16 (pt 18) (by decide +kernel))
  rw [hX (by decide), nCodes_val]
  generalize Cert.TailRefIdeal.Gen.k0_pay14 (refR m c) (refN m c) (refD m c) = G
  refine (cast_eq _ _).trans (congrArg G (funext fun a => ?_))
  match a with
  | ⟨0, _⟩ => rfl
  | ⟨1, _⟩ => rfl
theorem arr17 : ((rdat m c).withAfter after).arrAt 17 cfg0.N = Cert.TailRefIdeal.Gen.k0_pay1 (Cert.TailRefIdeal.Gen.k0_pay13 (refR m c) (refN m c) (refD m c)) := by
  refine Pipeline.Dat.arrAt_eq_of_after_last _ 17 (pt 18) (by decide +kernel) _ fun j => ?_
  rw [Pipeline.RDat.withAfter_after]
  have hX : Ok17 m c ((pt 18).val + 1) (after 17 (pt 18)) := (dats m 0 c).toRRel_leaves rfl (hL 17 (pt 18) (by decide +kernel))
  rw [hX (by decide), nScale1_val, nScale_row]
  generalize Cert.TailRefIdeal.Gen.k0_pay1 (Cert.TailRefIdeal.Gen.k0_pay13 (refR m c) (refN m c) (refD m c)) = G
  refine (cast_eq _ _).trans (congrArg G (funext fun a => ?_))
  match a with
  | ⟨0, _⟩ => rfl
  | ⟨1, _⟩ => rfl
theorem arr18 : ((rdat m c).withAfter after).arrAt 18 cfg0.N = Cert.TailRefIdeal.Gen.k0_pay2 (Cert.TailRefIdeal.Gen.k0_pay15 (refR m c) (refN m c) (refD m c) (inWg m c) (inGs m c)) := by
  refine Pipeline.Dat.arrAt_eq_of_covers _ 18 _ (by decide +kernel) fun t hf y => ?_
  have ht := oflush0_18 t hf
  have ht' : t.val < 19 := lt_of_lt_of_eq t.isLt N_0
  have hy : (y 2).val < 512 := (y 2).isLt
  have hX : Ok18 m c (t.val + 1) (after 18 t) := (dats m 0 c).toRRel_leaves rfl (hL 18 t hf)
  have e : after 18 t = gAt m c (min (t.val - 4) 10 + 4) := (hX (by omega)).trans (congrArg (gAt m c) (by omega))
  have hi := oindex0_18 t
  have hlt : 512 * (min (t.val - 4) 10) + (y 2).val < 5632 := by omega
  have key := gAt_cols m c (j := min (t.val - 4) 10) (by omega) (y 0) (y 2) ⟨512 * (min (t.val - 4) 10) + (y 2).val, hlt⟩ rfl
  rw [Pipeline.RDat.withAfter_after]
  refine (congrFun e _).trans ?_
  revert key
  generalize gAt m c (min (t.val - 4) 10 + 4) = A
  generalize Cert.TailRefIdeal.Gen.k0_pay2 (Cert.TailRefIdeal.Gen.k0_pay15 (refR m c) (refN m c) (refD m c) (inWg m c) (inGs m c)) = G
  intro key
  refine Eq.trans ?_ (key.trans ?_)
  · blk_ext [hi]
  · blk_ext [hi]
theorem arr19 : ((rdat m c).withAfter after).arrAt 19 cfg0.N = Cert.TailRefIdeal.Gen.k0_pay3 (Cert.TailRefIdeal.Gen.k0_pay16 (refR m c) (refN m c) (refD m c) (inWv m c) (inVs m c)) := by
  refine Pipeline.Dat.arrAt_eq_of_covers _ 19 _ (by decide +kernel) fun t hf y => ?_
  have ht := oflush0_19 t hf
  have ht' : t.val < 19 := lt_of_lt_of_eq t.isLt N_0
  have hy : (y 2).val < 512 := (y 2).isLt
  have hX : Ok19 m c (t.val + 1) (after 19 t) := (dats m 0 c).toRRel_leaves rfl (hL 19 t hf)
  have e : after 19 t = vAt m c (min (t.val - 4) 10 + 4) := (hX (by omega)).trans (congrArg (vAt m c) (by omega))
  have hi := oindex0_19 t
  have hlt : 512 * (min (t.val - 4) 10) + (y 2).val < 5632 := by omega
  have key := vAt_cols m c (j := min (t.val - 4) 10) (by omega) (y 0) (y 2) ⟨512 * (min (t.val - 4) 10) + (y 2).val, hlt⟩ rfl
  rw [Pipeline.RDat.withAfter_after]
  refine (congrFun e _).trans ?_
  revert key
  generalize vAt m c (min (t.val - 4) 10 + 4) = A
  generalize Cert.TailRefIdeal.Gen.k0_pay3 (Cert.TailRefIdeal.Gen.k0_pay16 (refR m c) (refN m c) (refD m c) (inWv m c) (inVs m c)) = G
  intro key
  refine Eq.trans ?_ (key.trans ?_)
  · blk_ext [hi]
  · blk_ext [hi]
theorem arr20 : ((rdat m c).withAfter after).arrAt 20 cfg0.N = Cert.TailRefIdeal.Gen.k0_pay20 (refH m c) (refM m c) := by
  refine Pipeline.Dat.arrAt_eq_of_after_last _ 20 (pt 18) (by decide +kernel) _ fun j => ?_
  rw [Pipeline.RDat.withAfter_after]
  have hX : Ok20 m c ((pt 18).val + 1) (after 20 (pt 18)) := (dats m 0 c).toRRel_leaves rfl (hL 20 (pt 18) (by decide +kernel))
  rw [hX (by decide), hCodes_val]
  generalize Cert.TailRefIdeal.Gen.k0_pay20 (refH m c) (refM m c) = G
  refine (cast_eq _ _).trans (congrArg G (funext fun a => ?_))
  match a with
  | ⟨0, _⟩ => rfl
  | ⟨1, _⟩ => rfl
theorem arr21 : ((rdat m c).withAfter after).arrAt 21 cfg0.N = Cert.TailRefIdeal.Gen.k0_pay4 (Cert.TailRefIdeal.Gen.k0_pay19 (refM m c)) := by
  refine Pipeline.Dat.arrAt_eq_of_after_last _ 21 (pt 18) (by decide +kernel) _ fun j => ?_
  rw [Pipeline.RDat.withAfter_after]
  have hX : Ok21 m c ((pt 18).val + 1) (after 21 (pt 18)) := (dats m 0 c).toRRel_leaves rfl (hL 21 (pt 18) (by decide +kernel))
  rw [hX (by decide), hScale1_val, hScale_row]
  generalize Cert.TailRefIdeal.Gen.k0_pay4 (Cert.TailRefIdeal.Gen.k0_pay19 (refM m c)) = G
  refine (cast_eq _ _).trans (congrArg G (funext fun a => ?_))
  match a with
  | ⟨0, _⟩ => rfl
  | ⟨1, _⟩ => rfl
theorem arr22 : ((rdat m c).withAfter after).arrAt 22 cfg0.N = Cert.TailRefIdeal.Gen.k0_pay5 (Cert.TailRefIdeal.Gen.k0_pay21 (refH m c) (refM m c) (inW2 m c) (inW2s m c)) := by
  refine Pipeline.Dat.arrAt_eq_of_covers _ 22 _ (by decide +kernel) fun t hf y => ?_
  have ht := oflush0_22 t hf
  have ht' : t.val < 19 := lt_of_lt_of_eq t.isLt N_0
  have hy : (y 2).val < 512 := (y 2).isLt
  have hX : Ok22 m c (t.val + 1) (after 22 t) := (dats m 0 c).toRRel_leaves rfl (hL 22 t hf)
  have e : after 22 t = mpAt m c (t.val - 15 + 15) := (hX (by omega)).trans (congrArg (mpAt m c) (by omega))
  have hi := oindex0_22 t
  have hlt : 512 * (t.val - 15) + (y 2).val < 2048 := by omega
  have key := mpAt_cols m c (j := t.val - 15) (by omega) (y 0) (y 2) ⟨512 * (t.val - 15) + (y 2).val, hlt⟩ rfl
  rw [Pipeline.RDat.withAfter_after]
  refine (congrFun e _).trans ?_
  revert key
  generalize mpAt m c (t.val - 15 + 15) = A
  generalize Cert.TailRefIdeal.Gen.k0_pay5 (Cert.TailRefIdeal.Gen.k0_pay21 (refH m c) (refM m c) (inW2 m c) (inW2s m c)) = G
  intro key
  refine Eq.trans ?_ (key.trans ?_)
  · blk_ext [hi]
  · blk_ext [hi]

end Cert.TailIdeal.Hand
-- ==== Proof.Tail.Results.lean ====
module

public import proofs.«01_k».proof.Proof.Tail.Arrays
public import proofs.«01_k».proof.Proof.Tail.Final
public import proofs.«01_k».proof.Proof.Ref.Arrays

@[expose] public section

set_option maxRecDepth 16384

noncomputable section

namespace Cert.TailIdeal.Hand

open Cert.TailIdeal Cert.TailIdeal.Gen
open Idealize.ShloMosaic Idealize.ShloMosaic.TcCoe
open Idealize.SL.Sem

/-! # What a run of the kernel leaves, as the reference's function of the arguments -/

variable (m : (ℓ : Loc nD τ sig) → Buf (Elt Ideal) ℓ) (c : Dev nD) (ρ : Dev nD → PrngReg)

/-- The arrays that the kernel finds, gathered. -/
def ins : Cert.TailRefIdeal.Hand.Ins Ideal :=
  ⟨inX m c, inO m c, inW m c, inWs m c, inNw m c, inWg m c, inGs m c, inWv m c, inVs m c, inW2 m c, inW2s m c⟩

theorem spec11 : Cert.TailRefIdeal.Gen.k0_pay22 (refR m c) (refH m c) (refM m c) (inW2 m c) (inW2s m c) = Cert.TailRefIdeal.Hand.res11 (ins m c) := rfl
theorem spec12 : Cert.TailRefIdeal.Gen.k0_pay23 (inO m c) = Cert.TailRefIdeal.Hand.res12 (ins m c) := rfl
theorem spec13 : Cert.TailRefIdeal.Gen.k0_pay7 (inO m c) = Cert.TailRefIdeal.Hand.res13 (ins m c) := rfl
theorem spec14 : Cert.TailRefIdeal.Gen.k0_pay24 (Cert.TailRefIdeal.Gen.k0_pay6 (inO m c)) = Cert.TailRefIdeal.Hand.res14 (ins m c) := rfl
theorem spec15 : Cert.TailRefIdeal.Gen.k0_pay25 (Cert.TailRefIdeal.Gen.k0_pay8 (inO m c) (inW m c) (inWs m c)) = Cert.TailRefIdeal.Hand.res15 (ins m c) := rfl
theorem spec16 : Cert.TailRefIdeal.Gen.k0_pay14 (refR m c) (refN m c) (refD m c) = Cert.TailRefIdeal.Hand.res16 (ins m c) := rfl
theorem spec17 : Cert.TailRefIdeal.Gen.k0_pay1 (Cert.TailRefIdeal.Gen.k0_pay13 (refR m c) (refN m c) (refD m c)) = Cert.TailRefIdeal.Hand.res17 (ins m c) := rfl
theorem spec18 : Cert.TailRefIdeal.Gen.k0_pay2 (Cert.TailRefIdeal.Gen.k0_pay15 (refR m c) (refN m c) (refD m c) (inWg m c) (inGs m c)) = Cert.TailRefIdeal.Hand.res18 (ins m c) := rfl
theorem spec19 : Cert.TailRefIdeal.Gen.k0_pay3 (Cert.TailRefIdeal.Gen.k0_pay16 (refR m c) (refN m c) (refD m c) (inWv m c) (inVs m c)) = Cert.TailRefIdeal.Hand.res19 (ins m c) := rfl
theorem spec20 : Cert.TailRefIdeal.Gen.k0_pay20 (refH m c) (refM m c) = Cert.TailRefIdeal.Hand.res20 (ins m c) := rfl
theorem spec21 : Cert.TailRefIdeal.Gen.k0_pay4 (Cert.TailRefIdeal.Gen.k0_pay19 (refM m c)) = Cert.TailRefIdeal.Hand.res21 (ins m c) := rfl
theorem spec22 : Cert.TailRefIdeal.Gen.k0_pay5 (Cert.TailRefIdeal.Gen.k0_pay21 (refH m c) (refM m c) (inW2 m c) (inW2s m c)) = Cert.TailRefIdeal.Hand.res22 (ins m c) := rfl

/-- What a final state says of the result arrays, when the arrays read are `I`. -/
def Results (I : Cert.TailRefIdeal.Hand.Ins Ideal) (r : PUnit × MemSt nD τ sig (Elt Ideal)) (c : Dev nD) : Prop :=
  r.2.mem ((c.tc : Thread nD τ).loc main_v6_0) = Cert.TailRefIdeal.Hand.res11 I
  ∧ r.2.mem ((c.tc : Thread nD τ).loc main_v6_1) = Cert.TailRefIdeal.Hand.res12 I
  ∧ r.2.mem ((c.tc : Thread nD τ).loc main_v6_2) = Cert.TailRefIdeal.Hand.res13 I
  ∧ r.2.mem ((c.tc : Thread nD τ).loc main_v6_3) = Cert.TailRefIdeal.Hand.res14 I
  ∧ r.2.mem ((c.tc : Thread nD τ).loc main_v6_4) = Cert.TailRefIdeal.Hand.res15 I
  ∧ r.2.mem ((c.tc : Thread nD τ).loc main_v6_5) = Cert.TailRefIdeal.Hand.res16 I
  ∧ r.2.mem ((c.tc : Thread nD τ).loc main_v6_6) = Cert.TailRefIdeal.Hand.res17 I
  ∧ r.2.mem ((c.tc : Thread nD τ).loc main_v6_7) = Cert.TailRefIdeal.Hand.res18 I
  ∧ r.2.mem ((c.tc : Thread nD τ).loc main_v6_8) = Cert.TailRefIdeal.Hand.res19 I
  ∧ r.2.mem ((c.tc : Thread nD τ).loc main_v6_9) = Cert.TailRefIdeal.Hand.res20 I
  ∧ r.2.mem ((c.tc : Thread nD τ).loc main_v6_10) = Cert.TailRefIdeal.Hand.res21 I
  ∧ r.2.mem ((c.tc : Thread nD τ).loc main_v6_11) = Cert.TailRefIdeal.Hand.res22 I

theorem result11 (r : PUnit × MemSt nD τ sig (Elt Ideal)) (h : Pipeline.RDat.FramePost cfg0 (rdat m) (V m) r) (c : Dev nD) :
    r.2.mem ((c.tc : Thread nD τ).loc main_v6_0) = Cert.TailRefIdeal.Hand.res11 (ins m c) := by
  obtain ⟨after, hL, hA⟩ := h.exists_exact c
  exact (hA 11).trans ((arr11 m c after hL).trans (spec11 m c))
theorem result12 (r : PUnit × MemSt nD τ sig (Elt Ideal)) (h : Pipeline.RDat.FramePost cfg0 (rdat m) (V m) r) (c : Dev nD) :
    r.2.mem ((c.tc : Thread nD τ).loc main_v6_1) = Cert.TailRefIdeal.Hand.res12 (ins m c) := by
  obtain ⟨after, hL, hA⟩ := h.exists_exact c
  exact (hA 12).trans ((arr12 m c after hL).trans (spec12 m c))
theorem result13 (r : PUnit × MemSt nD τ sig (Elt Ideal)) (h : Pipeline.RDat.FramePost cfg0 (rdat m) (V m) r) (c : Dev nD) :
    r.2.mem ((c.tc : Thread nD τ).loc main_v6_2) = Cert.TailRefIdeal.Hand.res13 (ins m c) := by
  obtain ⟨after, hL, hA⟩ := h.exists_exact c
  exact (hA 13).trans ((arr13 m c after hL).trans (spec13 m c))
theorem result14 (r : PUnit × MemSt nD τ sig (Elt Ideal)) (h : Pipeline.RDat.FramePost cfg0 (rdat m) (V m) r) (c : Dev nD) :
    r.2.mem ((c.tc : Thread nD τ).loc main_v6_3) = Cert.TailRefIdeal.Hand.res14 (ins m c) := by
  obtain ⟨after, hL, hA⟩ := h.exists_exact c
  exact (hA 14).trans ((arr14 m c after hL).trans (spec14 m c))
theorem result15 (r : PUnit × MemSt nD τ sig (Elt Ideal)) (h : Pipeline.RDat.FramePost cfg0 (rdat m) (V m) r) (c : Dev nD) :
    r.2.mem ((c.tc : Thread nD τ).loc main_v6_4) = Cert.TailRefIdeal.Hand.res15 (ins m c) := by
  obtain ⟨after, hL, hA⟩ := h.exists_exact c
  exact (hA 15).trans ((arr15 m c after hL).trans (spec15 m c))
theorem result16 (r : PUnit × MemSt nD τ sig (Elt Ideal)) (h : Pipeline.RDat.FramePost cfg0 (rdat m) (V m) r) (c : Dev nD) :
    r.2.mem ((c.tc : Thread nD τ).loc main_v6_5) = Cert.TailRefIdeal.Hand.res16 (ins m c) := by
  obtain ⟨after, hL, hA⟩ := h.exists_exact c
  exact (hA 16).trans ((arr16 m c after hL).trans (spec16 m c))
theorem result17 (r : PUnit × MemSt nD τ sig (Elt Ideal)) (h : Pipeline.RDat.FramePost cfg0 (rdat m) (V m) r) (c : Dev nD) :
    r.2.mem ((c.tc : Thread nD τ).loc main_v6_6) = Cert.TailRefIdeal.Hand.res17 (ins m c) := by
  obtain ⟨after, hL, hA⟩ := h.exists_exact c
  exact (hA 17).trans ((arr17 m c after hL).trans (spec17 m c))
theorem result18 (r : PUnit × MemSt nD τ sig (Elt Ideal)) (h : Pipeline.RDat.FramePost cfg0 (rdat m) (V m) r) (c : Dev nD) :
    r.2.mem ((c.tc : Thread nD τ).loc main_v6_7) = Cert.TailRefIdeal.Hand.res18 (ins m c) := by
  obtain ⟨after, hL, hA⟩ := h.exists_exact c
  exact (hA 18).trans ((arr18 m c after hL).trans (spec18 m c))
theorem result19 (r : PUnit × MemSt nD τ sig (Elt Ideal)) (h : Pipeline.RDat.FramePost cfg0 (rdat m) (V m) r) (c : Dev nD) :
    r.2.mem ((c.tc : Thread nD τ).loc main_v6_8) = Cert.TailRefIdeal.Hand.res19 (ins m c) := by
  obtain ⟨after, hL, hA⟩ := h.exists_exact c
  exact (hA 19).trans ((arr19 m c after hL).trans (spec19 m c))
theorem result20 (r : PUnit × MemSt nD τ sig (Elt Ideal)) (h : Pipeline.RDat.FramePost cfg0 (rdat m) (V m) r) (c : Dev nD) :
    r.2.mem ((c.tc : Thread nD τ).loc main_v6_9) = Cert.TailRefIdeal.Hand.res20 (ins m c) := by
  obtain ⟨after, hL, hA⟩ := h.exists_exact c
  exact (hA 20).trans ((arr20 m c after hL).trans (spec20 m c))
theorem result21 (r : PUnit × MemSt nD τ sig (Elt Ideal)) (h : Pipeline.RDat.FramePost cfg0 (rdat m) (V m) r) (c : Dev nD) :
    r.2.mem ((c.tc : Thread nD τ).loc main_v6_10) = Cert.TailRefIdeal.Hand.res21 (ins m c) := by
  obtain ⟨after, hL, hA⟩ := h.exists_exact c
  exact (hA 21).trans ((arr21 m c after hL).trans (spec21 m c))
theorem result22 (r : PUnit × MemSt nD τ sig (Elt Ideal)) (h : Pipeline.RDat.FramePost cfg0 (rdat m) (V m) r) (c : Dev nD) :
    r.2.mem ((c.tc : Thread nD τ).loc main_v6_11) = Cert.TailRefIdeal.Hand.res22 (ins m c) := by
  obtain ⟨after, hL, hA⟩ := h.exists_exact c
  exact (hA 22).trans ((arr22 m c after hL).trans (spec22 m c))

theorem results_of_post (r : PUnit × MemSt nD τ sig (Elt Ideal)) (h : Pipeline.RDat.FramePost cfg0 (rdat m) (V m) r) (c : Dev nD) :
    Results (ins m c) r c :=
  ⟨result11 m r h c, result12 m r h c, result13 m r h c, result14 m r h c, result15 m r h c, result16 m r h c, result17 m r h c, result18 m r h c, result19 m r h c, result20 m r h c, result21 m r h c, result22 m r h c⟩

/-- Every run ends with the reference's values in the result arrays, its arguments as they were. -/
theorem values : θ_run defs (onTc (τ := τ) (main (F := Ideal))) ⟨m, fun _ => 0, ρ⟩ (fun r => ∀ c : Dev nD, Results (ins m c) r c ∧ Kept m r c) :=
  (θ_run defs _ _).mono (fun r h c => ⟨results_of_post m r h.1 c, kept_of_post m r h.1 c⟩) (run_main_quiescent m ρ)

end Cert.TailIdeal.Hand
-- ==== Proof.Ref.Results.lean ====
module

public import proofs.«01_k».proof.Proof.Ref.Arrays

@[expose] public section

set_option maxRecDepth 16384

noncomputable section

namespace Cert.TailRefIdeal.Hand

open Cert.TailRefIdeal Cert.TailRefIdeal.Gen
open Idealize.ShloMosaic Idealize.ShloMosaic.TcCoe
open Idealize.SL.Sem

/-! # What a run of the reference leaves -/

variable (m : (ℓ : Loc nD τ sig) → Buf (Elt Ideal) ℓ) (c : Dev nD) (ρ : Dev nD → PrngReg)

/-- What a final state says of the result arrays, when the arrays read are `I`. -/
def Results (I : Ins Ideal) (r : PUnit × MemSt nD τ sig (Elt Ideal)) (c : Dev nD) : Prop :=
  r.2.mem ((c.tc : Thread nD τ).loc main_v6_0) = res11 I
  ∧ r.2.mem ((c.tc : Thread nD τ).loc main_v6_1) = res12 I
  ∧ r.2.mem ((c.tc : Thread nD τ).loc main_v6_2) = res13 I
  ∧ r.2.mem ((c.tc : Thread nD τ).loc main_v6_3) = res14 I
  ∧ r.2.mem ((c.tc : Thread nD τ).loc main_v6_4) = res15 I
  ∧ r.2.mem ((c.tc : Thread nD τ).loc main_v6_5) = res16 I
  ∧ r.2.mem ((c.tc : Thread nD τ).loc main_v6_6) = res17 I
  ∧ r.2.mem ((c.tc : Thread nD τ).loc main_v6_7) = res18 I
  ∧ r.2.mem ((c.tc : Thread nD τ).loc main_v6_8) = res19 I
  ∧ r.2.mem ((c.tc : Thread nD τ).loc main_v6_9) = res20 I
  ∧ r.2.mem ((c.tc : Thread nD τ).loc main_v6_10) = res21 I
  ∧ r.2.mem ((c.tc : Thread nD τ).loc main_v6_11) = res22 I

/-- What a final state says of the argument arrays. -/
def Kept (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)

theorem results_of_post (r : PUnit × MemSt nD τ sig (Elt Ideal)) (h : Pipeline.FramePost cfgs (dats m) 0 (V m) r) (c : Dev nD) :
    Results (ins m c) r c :=
  ⟨(h.out_eq c 11).trans (arr11 m c),
    (h.out_eq c 12).trans (arr12 m c),
    (h.out_eq c 13).trans (arr13 m c),
    (h.out_eq c 14).trans (arr14 m c),
    (h.out_eq c 15).trans (arr15 m c),
    (h.out_eq c 16).trans (arr16 m c),
    (h.out_eq c 17).trans (arr17 m c),
    (h.out_eq c 18).trans (arr18 m c),
    (h.out_eq c 19).trans (arr19 m c),
    (h.out_eq c 20).trans (arr20 m c),
    (h.out_eq c 21).trans (arr21 m c),
    (h.out_eq c 22).trans (arr22 m c)⟩

/-- Every run ends with its values in the result arrays, its arguments as they were. -/
theorem values : θ_run defs (onTc (τ := τ) (main (F := Ideal))) ⟨m, fun _ => 0, ρ⟩ (fun r => ∀ c : Dev nD, Results (ins m c) r c ∧ Kept m r c) :=
  (θ_run defs _ _).mono (fun r h c => ⟨results_of_post m r h.1 c, h.2 c⟩) (θ_run_and (run_main m ρ) (unchanged m ρ))

end Cert.TailRefIdeal.Hand
-- ==== Proof.Tail.Algebraic.lean ====
module

public import proofs.«01_k».proof.Defs
public import proofs.«01_k».proof.Proof.Tail.Agree
public import proofs.«01_k».proof.Proof.Tail.Results
public import proofs.«01_k».proof.Proof.Ref.Results

@[expose] public section

set_option maxRecDepth 16384

noncomputable section

namespace Cert.TailIdeal.Hand

open Cert.TailIdeal Cert.TailIdeal.Gen
open Idealize.ShloMosaic Idealize.ShloMosaic.TcCoe
open Idealize.SL.Sem

/-! # The kernel and the reference compute the same over the reals -/

/-- One function of the arguments gives both programs' twelve results. -/
theorem algebraic : Cert.algebraic_TailIdeal_TailRefIdeal (hTailIdeal := Cert.TailIdeal.Gen.facts) (hTailRefIdeal := Cert.TailRefIdeal.Gen.facts) := by
  intro m g m' g' _ hag
  have hins : ∀ c : Dev nD, Cert.TailRefIdeal.Hand.ins m' c = ins m c := fun c => by
    obtain ⟨h0, h1, h2, h3, h4, h5, h6, h7, h8, h9, h10⟩ := hag c
    unfold Cert.TailRefIdeal.Hand.ins ins
    rw [same_x m m' c h0, same_o m m' c h1, same_w m m' c h2, same_ws m m' c h3, same_nw m m' c h4, same_wg m m' c h5, same_gs m m' c h6, same_wv m m' c h7, same_vs m m' c h8, same_w2 m m' c h9, same_w2s m m' c h10]
  refine ⟨fun c => Cert.TailRefIdeal.Hand.res11 (ins m c), fun c => Cert.TailRefIdeal.Hand.res12 (ins m c), fun c => Cert.TailRefIdeal.Hand.res13 (ins m c), fun c => Cert.TailRefIdeal.Hand.res14 (ins m c), fun c => Cert.TailRefIdeal.Hand.res15 (ins m c), fun c => Cert.TailRefIdeal.Hand.res16 (ins m c), fun c => Cert.TailRefIdeal.Hand.res17 (ins m c), fun c => Cert.TailRefIdeal.Hand.res18 (ins m c), fun c => Cert.TailRefIdeal.Hand.res19 (ins m c), fun c => Cert.TailRefIdeal.Hand.res20 (ins m c), fun c => Cert.TailRefIdeal.Hand.res21 (ins m c), fun c => Cert.TailRefIdeal.Hand.res22 (ins m c),
    (θ_run _ _ _).mono (fun r h c => ?_) (values m g), (θ_run _ _ _).mono (fun r h c => ?_) (Cert.TailRefIdeal.Hand.values m' g')⟩
  · obtain ⟨⟨a0, a1, a2, a3, a4, a5, a6, a7, a8, a9, a10, a11⟩, k0, k1, k2, k3, k4, k5, k6, k7, k8, k9, k10⟩ := h c
    exact ⟨a0, a1, a2, a3, a4, a5, a6, a7, a8, a9, a10, a11, k0, k1, k2, k3, k4, k5, k6, k7, k8, k9, k10⟩
  · obtain ⟨⟨a0, a1, a2, a3, a4, a5, a6, a7, a8, a9, a10, a11⟩, k0, k1, k2, k3, k4, k5, k6, k7, k8, k9, k10⟩ := h c
    exact ⟨a0.trans (congrArg Cert.TailRefIdeal.Hand.res11 (hins c)), a1.trans (congrArg Cert.TailRefIdeal.Hand.res12 (hins c)), a2.trans (congrArg Cert.TailRefIdeal.Hand.res13 (hins c)), a3.trans (congrArg Cert.TailRefIdeal.Hand.res14 (hins c)), a4.trans (congrArg Cert.TailRefIdeal.Hand.res15 (hins c)), a5.trans (congrArg Cert.TailRefIdeal.Hand.res16 (hins c)), a6.trans (congrArg Cert.TailRefIdeal.Hand.res17 (hins c)), a7.trans (congrArg Cert.TailRefIdeal.Hand.res18 (hins c)), a8.trans (congrArg Cert.TailRefIdeal.Hand.res19 (hins c)), a9.trans (congrArg Cert.TailRefIdeal.Hand.res20 (hins c)), a10.trans (congrArg Cert.TailRefIdeal.Hand.res21 (hins c)), a11.trans (congrArg Cert.TailRefIdeal.Hand.res22 (hins c)), k0, k1, k2, k3, k4, k5, k6, k7, k8, k9, k10⟩

end Cert.TailIdeal.Hand
-- ==== Proof.InProjFloat.Body.lean ====
/-
  The body of `_in_proj`, one grid step at a time. A step takes one of six forms, by which of the printed `scf.if`s it
  enters; each theorem below runs one form over staging and scratch memrefs held at named contents. The codes, the
  scale and the projected tile are named by the printed payloads; what the steps leave in the other outputs is not named.
-/
module

public import proofs.«01_k».proof.Proof.Gen.InProj.Launch
public import proofs.«01_k».proof.Proof.Gen.InProj.Points
public import proofs.«01_k».proof.Proof.Gen.InProj.Skeleton
public import Idealize.ShloMosaic.Lib.Pipeline.FrameBody
public import Idealize.ShloMosaic.Lib.VecWindow
public import Idealize.ShloMosaic.Lib.Pipeline.TableIdle
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A staging or scratch memref held whole at the contents `X`. -/
abbrev own {s : Shape} {e : EltTy} (c : Dev nD) (m : Memref sig .tc .vmem s e) (X : Vec F s e) : sProp 𝕄 :=
  owns (c : Thread nD τ) m fullShare X

/-- The first column of the scale scratch. -/
def col (s : Vec F S248x128 .f32) : Vec F S248x1 .f32 := VecWindow.window s ![0, 0] ![248, 1] inb_S248x128_S248x1_0_0

/-- The first column read after the scale scratch was written whole. -/
theorem readCov_col (m : Memref sig .tc .vmem S248x128 .f32) (w : Vec F S248x128 .f32) :
    m.view.readCov (Val := Elt F) [⟨Rect.unit ![0, 0] ![248, 128] inb_S248x128_S248x128_0_0, w⟩]
      (Rect.unit ![0, 0] ![248, 1] inb_S248x128_S248x1_0_0).toLoadRect = col w :=
  (View.readAt_unit m.view _ _ rfl _).trans (congrArg col (View.read_writes_full m.view _ _ _ _))

variable (c : Dev nD) (i : grid0.Coords) (arg1 : Memref sig .tc .vmem S248x2048 .bf16) (harg1 : arg1.IsWhole) (arg2 : Memref sig .tc .vmem S1x2048 .f32) (harg2 : arg2.IsWhole) (arg3 : Memref sig .tc .vmem S512x2048 .fp8e4m3) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S48x1 .f32) (harg7 : arg7.IsWhole) (arg8 : Memref sig .tc .vmem S48x1 .f32) (harg8 : arg8.IsWhole) (arg9 : Memref sig .tc .vmem S248x2048 .fp8e4m3) (harg9 : arg9.IsWhole) (arg10 : Memref sig .tc .vmem S1x248 .f32) (harg10 : arg10.IsWhole) (arg11 : Memref sig .tc .vmem S248x1x512 .f32) (harg11 : arg11.IsWhole) (arg12 : Memref sig .tc .vmem S248x512 .f32) (harg12 : arg12.IsWhole) (arg13 : Memref sig .tc .vmem S512x248 .f32) (harg13 : arg13.IsWhole) (arg14 : Memref sig .tc .vmem S248x512 .f32) (harg14 : arg14.IsWhole) (arg15 : Memref sig .tc .vmem S248x512 .f32) (harg15 : arg15.IsWhole) (arg16 : Memref sig .tc .vmem S128x248 .f32) (harg16 : arg16.IsWhole) (arg17 : Memref sig .tc .vmem S48x248 .f32) (harg17 : arg17.IsWhole) (arg18 : Memref sig .tc .vmem S48x248 .f32) (harg18 : arg18.IsWhole) (arg19 : Memref sig .tc .vmem S48x248 .f32) (harg19 : arg19.IsWhole) (arg20 : Memref sig .tc .vmem S48x248 .f32) (harg20 : arg20.IsWhole) (arg21 : Memref sig .tc .vmem S248x2048 .fp8e4m3) (harg21 : arg21.IsWhole) (arg22 : Memref sig .tc .vmem S248x128 .f32) (harg22 : arg22.IsWhole)

set_option maxHeartbeats 4000000 in
/-- Step 0: normalise and quantise the rows, then the first tile. -/
theorem run_first
    (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (x : Vec F S248x2048 .bf16) (n : Vec F S1x2048 .f32) (w : Vec F S512x2048 .fp8e4m3) (ws : Vec F S1x512 .f32) (d9 : Vec F S248x2048 .fp8e4m3) (d10 : Vec F S1x248 .f32) (d11 : Vec F S248x1x512 .f32) (d12 : Vec F S248x512 .f32) (d21 : Vec F S248x2048 .fp8e4m3) (d22 : Vec F S248x128 .f32)
    (K : PUnit → sProp 𝕄) :
    iprop(own c arg1 x
      ∗ own c arg2 n
      ∗ own c arg3 w
      ∗ own c arg4 ws
      ∗ own c arg9 d9
      ∗ own c arg10 d10
      ∗ own c arg11 d11
      ∗ own c arg12 d12
      ∗ own c arg21 d21
      ∗ own c arg22 d22
      ∗ (iprop(own c arg1 x
          ∗ own c arg2 n
          ∗ own c arg3 w
          ∗ own c arg4 ws
          ∗ own c arg9 (k0_pay11 x n)
          ∗ own c arg10 (k0_pay23 (k0_pay10 x n))
          ∗ own c arg11 (k0_pay25 (k0_pay12 x n) w (col (k0_pay22 (k0_pay13 x n))) ws)
          ∗ (∃ X, own c arg12 X)
          ∗ own c arg21 (k0_pay12 x n)
          ∗ own c arg22 (k0_pay22 (k0_pay13 x n))) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H1, H2, H3, H4, H9, H10, H11, H12, H21, H22, Hk⟩
  sl_exec
  sl_step
  have e1 : View.readAt (Elt F) arg1.view (Rect.unit ![0, 0] ![248, 2048] inb_S248x2048_S248x2048_0_0).toLoadRect (arg1.view.rep x) = x :=
    View.readAt_rep_full _ _ _
  have e2 : View.readAt (Elt F) arg2.view (Rect.unit ![0, 0] ![1, 2048] inb_S1x2048_S1x2048_0_0).toLoadRect (arg2.view.rep n) = n :=
    View.readAt_rep_full _ _ _
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have r10 : run_first.sl.r arg1 arg2 x n = k0_pay10 x n := congrArg₂ k0_pay10 e1 e2
  have r13 : run_first.sl.r_1 arg1 arg2 x n = k0_pay13 x n := congrArg₂ k0_pay13 e1 e2
  have v21 : run_first.sl.v3 arg1 arg2 arg21 x n = k0_pay12 x n :=
    (View.readCov_full _ _ _ _ _).trans (by rw [e1, e2])
  have v22 : run_first.sl.v7 arg1 arg2 arg22 x n = col (k0_pay22 (k0_pay13 x n)) :=
    (readCov_col _ _).trans (by rw [r13])
  iapply Hk
  isplitl [H1]
  · iexact H1
  isplitl [H2]
  · iexact H2
  isplitl [H3]
  · iexact H3
  isplitl [H4]
  · iexact H4
  isplitl [H9]
  · refine pointsTo_rep_of_read _ _ _ _ _ ?_
    refine (View.read_writes_full _ _ _ _ _).trans ?_
    rw [e1, e2]
  isplitl [H10]
  · refine pointsTo_rep_of_read _ _ _ _ _ ?_
    refine (View.read_writes_full _ _ _ _ _).trans ?_
    rw [r10]
  isplitl [H11]
  · refine pointsTo_rep_of_read _ _ _ _ _ ?_
    refine (View.read_writes_full _ _ _ _ _).trans ?_
    rw [v21, v22, e3, e4]
  isplitl [H12]
  · iexists _
    refine pointsTo_rep_of_read _ _ _ _ _ rfl
  isplitl [H21]
  · refine pointsTo_rep_of_read _ _ _ _ _ ?_
    refine (View.read_writes_full _ _ _ _ _).trans ?_
    rw [e1, e2]
  refine pointsTo_rep_of_read _ _ _ _ _ ?_
  refine (View.read_writes_full _ _ _ _ _).trans ?_
  rw [r13]

set_option maxHeartbeats 4000000 in
/-- Steps 1 to 5: one tile. -/
theorem run_z
    (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (w : Vec F S512x2048 .fp8e4m3) (ws : Vec F S1x512 .f32) (d11 : Vec F S248x1x512 .f32) (d12 : Vec F S248x512 .f32) (a : Vec F S248x2048 .fp8e4m3) (s : Vec F S248x128 .f32)
    (K : PUnit → sProp 𝕄) :
    iprop(own c arg3 w
      ∗ own c arg4 ws
      ∗ own c arg11 d11
      ∗ own c arg12 d12
      ∗ own c arg21 a
      ∗ own c arg22 s
      ∗ (iprop(own c arg3 w
          ∗ own c arg4 ws
          ∗ own c arg11 (k0_pay25 a w (col s) ws)
          ∗ (∃ X, own c arg12 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H11, H12, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H11]
  · refine pointsTo_rep_of_read _ _ _ _ _ ?_
    refine (View.read_writes_full _ _ _ _ _).trans ?_
    rw [e21, e22, e3, e4]
  isplitl [H12]
  · iexists _
    refine pointsTo_rep_of_read _ _ _ _ _ rfl
  isplitl [H21]
  · iexact H21
  iexact H22

set_option maxHeartbeats 4000000 in
/-- Steps 6 to 11: one tile, which is also kept transposed. -/
theorem run_x
    (h1 : ¬ k0_cond1 i = 1#1) (h2 : k0_cond2 i = 1#1) (h3 : k0_cond3 i = 1#1) (h4 : ¬ k0_cond4 i = 1#1) (h5 : ¬ k0_cond5 i = 1#1) (h6 : ¬ k0_cond6 i = 1#1)
    (w : Vec F S512x2048 .fp8e4m3) (ws : Vec F S1x512 .f32) (d11 : Vec F S248x1x512 .f32) (d12 : Vec F S248x512 .f32) (d13 : Vec F S512x248 .f32) (a : Vec F S248x2048 .fp8e4m3) (s : Vec F S248x128 .f32)
    (K : PUnit → sProp 𝕄) :
    iprop(own c arg3 w
      ∗ own c arg4 ws
      ∗ own c arg11 d11
      ∗ own c arg12 d12
      ∗ own c arg13 d13
      ∗ own c arg21 a
      ∗ own c arg22 s
      ∗ (iprop(own c arg3 w
          ∗ own c arg4 ws
          ∗ own c arg11 (k0_pay25 a w (col s) ws)
          ∗ (∃ X, own c arg12 X)
          ∗ (∃ X, own c arg13 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H11, H12, H13, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H11]
  · refine pointsTo_rep_of_read _ _ _ _ _ ?_
    refine (View.read_writes_full _ _ _ _ _).trans ?_
    rw [e21, e22, e3, e4]
  isplitl [H12]
  · iexists _
    refine pointsTo_rep_of_read _ _ _ _ _ rfl
  isplitl [H13]
  · iexists _
    refine pointsTo_rep_of_read _ _ _ _ _ rfl
  isplitl [H21]
  · iexact H21
  iexact H22

set_option maxHeartbeats 4000000 in
/-- Steps 12 and 13: one tile, whose groups are normalised. -/
theorem run_b
    (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1)
    (w : Vec F S512x2048 .fp8e4m3) (ws : Vec F S1x512 .f32) (bw : Vec F S1x128 .f32) (d11 : Vec F S248x1x512 .f32) (d14 : Vec F S248x512 .f32) (a : Vec F S248x2048 .fp8e4m3) (s : Vec F S248x128 .f32)
    (K : PUnit → sProp 𝕄) :
    iprop(own c arg3 w
      ∗ own c arg4 ws
      ∗ own c arg5 bw
      ∗ own c arg11 d11
      ∗ own c arg14 d14
      ∗ own c arg21 a
      ∗ own c arg22 s
      ∗ (iprop(own c arg3 w
          ∗ own c arg4 ws
          ∗ own c arg5 bw
          ∗ own c arg11 (k0_pay25 a w (col s) ws)
          ∗ (∃ X, own c arg14 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H5, H11, H14, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H5]
  · iexact H5
  isplitl [H11]
  · refine pointsTo_rep_of_read _ _ _ _ _ ?_
    refine (View.read_writes_full _ _ _ _ _).trans ?_
    rw [e21, e22, e3, e4]
  isplitl [H14]
  · iexists _
    refine pointsTo_rep_of_read _ _ _ _ _ rfl
  isplitl [H21]
  · iexact H21
  iexact H22

set_option maxHeartbeats 4000000 in
/-- Steps 14 and 15: one tile, whose groups are normalised. -/
theorem run_c
    (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1)
    (w : Vec F S512x2048 .fp8e4m3) (ws : Vec F S1x512 .f32) (cw : Vec F S1x128 .f32) (d11 : Vec F S248x1x512 .f32) (d15 : Vec F S248x512 .f32) (a : Vec F S248x2048 .fp8e4m3) (s : Vec F S248x128 .f32)
    (K : PUnit → sProp 𝕄) :
    iprop(own c arg3 w
      ∗ own c arg4 ws
      ∗ own c arg6 cw
      ∗ own c arg11 d11
      ∗ own c arg15 d15
      ∗ own c arg21 a
      ∗ own c arg22 s
      ∗ (iprop(own c arg3 w
          ∗ own c arg4 ws
          ∗ own c arg6 cw
          ∗ own c arg11 (k0_pay25 a w (col s) ws)
          ∗ (∃ X, own c arg15 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H6, H11, H15, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H6]
  · iexact H6
  isplitl [H11]
  · refine pointsTo_rep_of_read _ _ _ _ _ ?_
    refine (View.read_writes_full _ _ _ _ _).trans ?_
    rw [e21, e22, e3, e4]
  isplitl [H15]
  · iexists _
    refine pointsTo_rep_of_read _ _ _ _ _ rfl
  isplitl [H21]
  · iexact H21
  iexact H22

set_option maxHeartbeats 4000000 in
/-- Step 16: the last tile, which gives the step sizes and angles. -/
theorem run_rest
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1)
    (w : Vec F S512x2048 .fp8e4m3) (ws : Vec F S1x512 .f32) (db : Vec F S48x1 .f32) (al : Vec F S48x1 .f32) (d11 : Vec F S248x1x512 .f32) (d16 : Vec F S128x248 .f32) (d17 : Vec F S48x248 .f32) (d18 : Vec F S48x248 .f32) (d19 : Vec F S48x248 .f32) (d20 : Vec F S48x248 .f32) (a : Vec F S248x2048 .fp8e4m3) (s : Vec F S248x128 .f32)
    (K : PUnit → sProp 𝕄) :
    iprop(own c arg3 w
      ∗ own c arg4 ws
      ∗ own c arg7 db
      ∗ own c arg8 al
      ∗ own c arg11 d11
      ∗ own c arg16 d16
      ∗ own c arg17 d17
      ∗ own c arg18 d18
      ∗ own c arg19 d19
      ∗ own c arg20 d20
      ∗ own c arg21 a
      ∗ own c arg22 s
      ∗ (iprop(own c arg3 w
          ∗ own c arg4 ws
          ∗ own c arg7 db
          ∗ own c arg8 al
          ∗ own c arg11 (k0_pay25 a w (col s) ws)
          ∗ (∃ X, own c arg16 X)
          ∗ (∃ X, own c arg17 X)
          ∗ (∃ X, own c arg18 X)
          ∗ (∃ X, own c arg19 X)
          ∗ (∃ X, own c arg20 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H7, H8, H11, H16, H17, H18, H19, H20, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H7]
  · iexact H7
  isplitl [H8]
  · iexact H8
  isplitl [H11]
  · refine pointsTo_rep_of_read _ _ _ _ _ ?_
    refine (View.read_writes_full _ _ _ _ _).trans ?_
    rw [e21, e22, e3, e4]
  isplitl [H16]
  · iexists _
    refine pointsTo_rep_of_read _ _ _ _ _ rfl
  isplitl [H17]
  · iexists _
    refine pointsTo_rep_of_read _ _ _ _ _ rfl
  isplitl [H18]
  · iexists _
    refine pointsTo_rep_of_read _ _ _ _ _ rfl
  isplitl [H19]
  · iexists _
    refine pointsTo_rep_of_read _ _ _ _ _ rfl
  isplitl [H20]
  · iexists _
    refine pointsTo_rep_of_read _ _ _ _ _ rfl
  isplitl [H21]
  · iexact H21
  iexact H22

end Cert.InProj.Hand
-- ==== Proof.InProjFloat.Values.lean ====
module

public import proofs.«01_k».proof.Proof.InProjFloat.Body
public import proofs.«01_k».proof.Proof.Gen.InProj.Frame
public import proofs.«01_k».proof.Proof.Gen.InProj.Launch
public import proofs.«01_k».proof.Proof.Gen.InProj.Points
public import proofs.«01_k».proof.Proof.Gen.InProj.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule of the body, by the number of the grid point -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 12 := by decide +kernel
theorem cond3_iff : ∀ t : Fin grid0.N, k0_cond3 (grid0.coords t) = 1#1 ↔ (6 ≤ t.val ∧ t.val < 12) := by decide +kernel
theorem cond4_iff : ∀ t : Fin grid0.N, k0_cond4 (grid0.coords t) = 1#1 ↔ (12 ≤ t.val ∧ t.val < 14) := by decide +kernel
theorem cond5_iff : ∀ t : Fin grid0.N, k0_cond5 (grid0.coords t) = 1#1 ↔ (14 ≤ t.val ∧ t.val < 16) := by decide +kernel
theorem cond6_iff : ∀ t : Fin grid0.N, k0_cond6 (grid0.coords t) = 1#1 ↔ t.val = 16 := by decide +kernel

/-! ## The values the body computes, from the blocks of its inputs -/

/-- Grid point number `n`. -/
def pt (n : ℕ) : Fin cfg0.N := ⟨n % 17, Nat.mod_lt _ (by decide)⟩
theorem pt_val (t : Fin cfg0.N) : pt t.val = t := Fin.ext (Nat.mod_eq_of_lt (lt_of_lt_of_eq t.isLt N_0))

variable (m : (ℓ : Loc nD τ sig) → Buf (Elt F) ℓ) (c : Dev nD)

def bx (t : Fin cfg0.N) : Vec F S248x2048 .bf16 := iblk m c 0 t
def bn (t : Fin cfg0.N) : Vec F S1x2048 .f32 := iblk m c 1 t
/-- The weight's rows and scales at a point, in buffers that held `d`: the last block overhangs the array, and past its
    end the buffers keep `d`. -/
def bw (t : Fin cfg0.N) (d : Vec F S512x2048 .fp8e4m3) : Vec F S512x2048 .fp8e4m3 := win0_2.fill (grid0.coords t) d (iblk m c 2 t)
def bws (t : Fin cfg0.N) (d : Vec F S1x512 .f32) : Vec F S1x512 .f32 := win0_3.fill (grid0.coords t) d (iblk m c 3 t)
def bb (t : Fin cfg0.N) : Vec F S1x128 .f32 := iblk m c 4 t
def bc (t : Fin cfg0.N) : Vec F S1x128 .f32 := iblk m c 5 t
def bd (t : Fin cfg0.N) : Vec F S48x1 .f32 := iblk m c 6 t
def ba (t : Fin cfg0.N) : Vec F S48x1 .f32 := iblk m c 7 t

/-- The codes of the normalised rows as the scratch holds them and as the result does, their scale, and the row of scales. -/
def aCodes : Vec F S248x2048 .fp8e4m3 := k0_pay12 (bx m c (pt 0)) (bn m c (pt 0))
def aOut : Vec F S248x2048 .fp8e4m3 := k0_pay11 (bx m c (pt 0)) (bn m c (pt 0))
def aScale : Vec F S248x128 .f32 := k0_pay22 (k0_pay13 (bx m c (pt 0)) (bn m c (pt 0)))
def aRow : Vec F S1x248 .f32 := k0_pay23 (k0_pay10 (bx m c (pt 0)) (bn m c (pt 0)))
/-- The projected columns at a point. -/
def pAt (t : Fin cfg0.N) (d : Vec F S512x2048 .fp8e4m3) (e : Vec F S1x512 .f32) : Vec F S248x1x512 .f32 :=
  k0_pay25 (aCodes m c) (bw m c t d) (col (aScale m c)) (bws m c t e)

/-- What the two quantised outputs' buffers hold after `n` points. -/
def Ok8 (n : ℕ) (X : Vec F S248x2048 .fp8e4m3) : Prop := 1 ≤ n → X = aOut m c
def Ok9 (n : ℕ) (X : Vec F S1x248 .f32) : Prop := 1 ≤ n → X = aRow m c
/-- What the projection's buffer holds after point `t`. -/
def Ok10 (t : Fin cfg0.N) (X : Vec F S248x1x512 .f32) : Prop := ∃ d e, X = pAt m c t d e

end Cert.InProj.Hand
-- ==== Proof.InProjFloat.Steps.lean ====
module

public import proofs.«01_k».proof.Proof.InProjFloat.Values
public import proofs.«01_k».proof.Proof.Gen.InProj.Launch
public import proofs.«01_k».proof.Proof.Gen.InProj.Points
public import proofs.«01_k».proof.Proof.Gen.InProj.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (t : Fin cfg0.N)
variable (arg1 : Memref sig .tc .vmem S248x2048 .bf16) (harg1 : arg1.IsWhole) (arg2 : Memref sig .tc .vmem S1x2048 .f32) (harg2 : arg2.IsWhole) (arg3 : Memref sig .tc .vmem S512x2048 .fp8e4m3) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S48x1 .f32) (harg7 : arg7.IsWhole) (arg8 : Memref sig .tc .vmem S48x1 .f32) (harg8 : arg8.IsWhole) (arg9 : Memref sig .tc .vmem S248x2048 .fp8e4m3) (harg9 : arg9.IsWhole) (arg10 : Memref sig .tc .vmem S1x248 .f32) (harg10 : arg10.IsWhole) (arg11 : Memref sig .tc .vmem S248x1x512 .f32) (harg11 : arg11.IsWhole) (arg12 : Memref sig .tc .vmem S248x512 .f32) (harg12 : arg12.IsWhole) (arg13 : Memref sig .tc .vmem S512x248 .f32) (harg13 : arg13.IsWhole) (arg14 : Memref sig .tc .vmem S248x512 .f32) (harg14 : arg14.IsWhole) (arg15 : Memref sig .tc .vmem S248x512 .f32) (harg15 : arg15.IsWhole) (arg16 : Memref sig .tc .vmem S128x248 .f32) (harg16 : arg16.IsWhole) (arg17 : Memref sig .tc .vmem S48x248 .f32) (harg17 : arg17.IsWhole) (arg18 : Memref sig .tc .vmem S48x248 .f32) (harg18 : arg18.IsWhole) (arg19 : Memref sig .tc .vmem S48x248 .f32) (harg19 : arg19.IsWhole) (arg20 : Memref sig .tc .vmem S48x248 .f32) (harg20 : arg20.IsWhole) (arg21 : Memref sig .tc .vmem S248x2048 .fp8e4m3) (harg21 : arg21.IsWhole) (arg22 : Memref sig .tc .vmem S248x128 .f32) (harg22 : arg22.IsWhole)

/-- The two scratch buffers after `n` points. -/
def scratchAt (n : ℕ) : sProp 𝕄 :=
  iprop(∃ a s, ⌜1 ≤ n → a = aCodes m c ∧ s = aScale m c⌝ ∗ own c arg21 a ∗ own c arg22 s)

/-- What the body finds at point `t`. -/
def found (R : sProp 𝕄) : sProp 𝕄 :=
  iprop(R ∗ scratchAt m c arg21 arg22 t.val
    ∗ own c arg1 (bx m c t)
    ∗ own c arg2 (bn m c t)
    ∗ (∃ d, own c arg3 (bw m c t d))
    ∗ (∃ d, own c arg4 (bws m c t d))
    ∗ own c arg5 (bb m c t)
    ∗ own c arg6 (bc m c t)
    ∗ own c arg7 (bd m c t)
    ∗ own c arg8 (ba m c t)
    ∗ (∃ X, ⌜Ok8 m c t.val X⌝ ∗ own c arg9 X)
    ∗ (∃ X, ⌜Ok9 m c t.val X⌝ ∗ own c arg10 X)
    ∗ (∃ X, own c arg11 X)
    ∗ (∃ X, own c arg12 X)
    ∗ (∃ X, own c arg13 X)
    ∗ (∃ X, own c arg14 X)
    ∗ (∃ X, own c arg15 X)
    ∗ (∃ X, own c arg16 X)
    ∗ (∃ X, own c arg17 X)
    ∗ (∃ X, own c arg18 X)
    ∗ (∃ X, own c arg19 X)
    ∗ (∃ X, own c arg20 X))

/-- What the body leaves at point `t`. -/
def left (R : sProp 𝕄) : sProp 𝕄 :=
  iprop(R ∗ scratchAt m c arg21 arg22 (t.val + 1)
    ∗ own c arg1 (bx m c t)
    ∗ own c arg2 (bn m c t)
    ∗ (∃ d, own c arg3 (bw m c t d))
    ∗ (∃ d, own c arg4 (bws m c t d))
    ∗ own c arg5 (bb m c t)
    ∗ own c arg6 (bc m c t)
    ∗ own c arg7 (bd m c t)
    ∗ own c arg8 (ba m c t)
    ∗ (∃ X, ⌜Ok8 m c (t.val + 1) X⌝ ∗ own c arg9 X)
    ∗ (∃ X, ⌜Ok9 m c (t.val + 1) X⌝ ∗ own c arg10 X)
    ∗ (∃ X, ⌜Ok10 m c t X⌝ ∗ own c arg11 X)
    ∗ (∃ X, own c arg12 X)
    ∗ (∃ X, own c arg13 X)
    ∗ (∃ X, own c arg14 X)
    ∗ (∃ X, own c arg15 X)
    ∗ (∃ X, own c arg16 X)
    ∗ (∃ X, own c arg17 X)
    ∗ (∃ X, own c arg18 X)
    ∗ (∃ X, own c arg19 X)
    ∗ (∃ X, own c arg20 X))

/-- The first point. -/
theorem step_first (R : sProp 𝕄) (h0 : t.val = 0) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  obtain rfl : t = pt 0 := by rw [← pt_val t, h0]
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  iapply (run_first (F := F) c (grid0.coords (pt 0)) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; decide) (by rw [cond2_iff]; decide) (by rw [cond3_iff]; decide) (by rw [cond4_iff]; decide) (by rw [cond5_iff]; decide) (by rw [cond6_iff]; decide) (bx m c (pt 0)) (bn m c (pt 0)) (bw m c (pt 0) d2) (bws m c (pt 0) d3) X9 X10 X11 X12 a s _)
  isplitl [H1]
  · iexact H1
  isplitl [H2]
  · iexact H2
  isplitl [H3]
  · iexact H3
  isplitl [H4]
  · iexact H4
  isplitl [H9]
  · iexact H9
  isplitl [H10]
  · iexact H10
  isplitl [H11]
  · iexact H11
  isplitl [H12]
  · iexact H12
  isplitl [H21]
  · iexact H21
  isplitl [H22]
  · iexact H22
  iintro ⟨H1, H2, H3, H4, H9, H10, H11, ⟨%Z12, H12⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => rfl
    iexact H9
  isplitl [H10]
  · iexists _
    isplitr
    · ipureintro; exact fun _ => rfl
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Points 1 to 5. -/
theorem step_z (R : sProp 𝕄) (h0 : 1 ≤ t.val) (h1 : t.val < 6) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_z (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) X11 X12 (aCodes m c) (aScale m c) _)
  isplitl [H3]
  · iexact H3
  isplitl [H4]
  · iexact H4
  isplitl [H11]
  · iexact H11
  isplitl [H12]
  · iexact H12
  isplitl [H21]
  · iexact H21
  isplitl [H22]
  · iexact H22
  iintro ⟨H3, H4, H11, ⟨%Z12, H12⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Points 6 to 11. -/
theorem step_x (R : sProp 𝕄) (h0 : 6 ≤ t.val) (h1 : t.val < 12) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_x (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) X11 X12 X13 (aCodes m c) (aScale m c) _)
  isplitl [H3]
  · iexact H3
  isplitl [H4]
  · iexact H4
  isplitl [H11]
  · iexact H11
  isplitl [H12]
  · iexact H12
  isplitl [H13]
  · iexact H13
  isplitl [H21]
  · iexact H21
  isplitl [H22]
  · iexact H22
  iintro ⟨H3, H4, H11, ⟨%Z12, H12⟩, ⟨%Z13, H13⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Points 12 and 13. -/
theorem step_b (R : sProp 𝕄) (h0 : 12 ≤ t.val) (h1 : t.val < 14) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_b (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) (bb m c t) X11 X14 (aCodes m c) (aScale m c) _)
  isplitl [H3]
  · iexact H3
  isplitl [H4]
  · iexact H4
  isplitl [H5]
  · iexact H5
  isplitl [H11]
  · iexact H11
  isplitl [H14]
  · iexact H14
  isplitl [H21]
  · iexact H21
  isplitl [H22]
  · iexact H22
  iintro ⟨H3, H4, H5, H11, ⟨%Z14, H14⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Points 14 and 15. -/
theorem step_c (R : sProp 𝕄) (h0 : 14 ≤ t.val) (h1 : t.val < 16) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_c (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) (bc m c t) X11 X15 (aCodes m c) (aScale m c) _)
  isplitl [H3]
  · iexact H3
  isplitl [H4]
  · iexact H4
  isplitl [H6]
  · iexact H6
  isplitl [H11]
  · iexact H11
  isplitl [H15]
  · iexact H15
  isplitl [H21]
  · iexact H21
  isplitl [H22]
  · iexact H22
  iintro ⟨H3, H4, H6, H11, ⟨%Z15, H15⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Point 16. -/
theorem step_rest (R : sProp 𝕄) (h0 : t.val = 16) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_rest (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) (bd m c t) (ba m c t) X11 X16 X17 X18 X19 X20 (aCodes m c) (aScale m c) _)
  isplitl [H3]
  · iexact H3
  isplitl [H4]
  · iexact H4
  isplitl [H7]
  · iexact H7
  isplitl [H8]
  · iexact H8
  isplitl [H11]
  · iexact H11
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  iintro ⟨H3, H4, H7, H8, H11, ⟨%Z16, H16⟩, ⟨%Z17, H17⟩, ⟨%Z18, H18⟩, ⟨%Z19, H19⟩, ⟨%Z20, H20⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

end Cert.InProj.Hand
-- ==== Proof.InProjFloat.Run.lean ====
module

public import proofs.«01_k».proof.Proof.InProjFloat.Steps
public import proofs.«01_k».proof.Proof.Gen.InProj.Launch
public import Idealize.ShloMosaic.Lib.Pipeline.DatRel
public import Idealize.ShloMosaic.Lib.Pipeline.ArrRel
public import proofs.«01_k».proof.Proof.Gen.InProj.Points
public import proofs.«01_k».proof.Proof.Gen.InProj.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch after `n` points, and the core's random-number register. -/
def carried (c : Dev nD) (n : ℕ) : sProp 𝕄 :=
  iprop(scratchAt m c (Memref.whole cc0_scratch0) (Memref.whole cc0_scratch1) n ∗ ∃ r, prngReg c r)

/-- Inputs are left as their blocks; the outputs are held to `leaves` below, and what stands for them here is not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => bw m c t (fun _ => Scalar.ofBits .fp8e4m3 0#8)
    | ⟨3, _⟩ => bws m c t (fun _ => Scalar.ofBits .f32 0#32)
    | ⟨4, _⟩ => iblk m c 4 t
    | ⟨5, _⟩ => iblk m c 5 t
    | ⟨6, _⟩ => iblk m c 6 t
    | ⟨7, _⟩ => iblk m c 7 t
    | ⟨8, _⟩ => aOut m c
    | ⟨9, _⟩ => aRow m c
    | ⟨10, _⟩ => pAt m c t (fun _ => Scalar.ofBits .fp8e4m3 0#8) (fun _ => Scalar.ofBits .f32 0#32)
    | ⟨11, _⟩ => fun _ => Scalar.ofBits .f32 0#32
    | ⟨12, _⟩ => fun _ => Scalar.ofBits .f32 0#32
    | ⟨13, _⟩ => fun _ => Scalar.ofBits .f32 0#32
    | ⟨14, _⟩ => fun _ => Scalar.ofBits .f32 0#32
    | ⟨15, _⟩ => fun _ => Scalar.ofBits .f32 0#32
    | ⟨16, _⟩ => fun _ => Scalar.ofBits .f32 0#32
    | ⟨17, _⟩ => fun _ => Scalar.ofBits .f32 0#32
    | ⟨18, _⟩ => fun _ => Scalar.ofBits .f32 0#32
    | ⟨19, _⟩ => fun _ => Scalar.ofBits .f32 0#32
    | ⟨_ + 20, h⟩ => absurd h (Nat.not_lt.2 (Nat.le_add_left _ _))
  Φ n := carried m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_2 (c : Dev nD) (t : Fin cfg0.N) : (dats m 0 c).after 2 t = bw m c t (fun _ => Scalar.ofBits .fp8e4m3 0#8) := by dsimp only [dats]
theorem after0_3 (c : Dev nD) (t : Fin cfg0.N) : (dats m 0 c).after 3 t = bws m c t (fun _ => Scalar.ofBits .f32 0#32) := by dsimp only [dats]
theorem before0_0 (c : Dev nD) (t : Fin cfg0.N) (d) : (dats m 0 c).before 0 t d = bx m c t :=
  before0_0_of m (dats m 0 c) (A_eq m c 0) (after0_0 m c) t d
theorem before0_1 (c : Dev nD) (t : Fin cfg0.N) (d) : (dats m 0 c).before 1 t d = bn m c t :=
  before0_1_of m (dats m 0 c) (A_eq m c 1) (after0_1 m c) t d
theorem before0_4 (c : Dev nD) (t : Fin cfg0.N) (d) : (dats m 0 c).before 4 t d = bb m c t :=
  before0_4_of m (dats m 0 c) (A_eq m c 4) (after0_4 m c) t d
theorem before0_5 (c : Dev nD) (t : Fin cfg0.N) (d) : (dats m 0 c).before 5 t d = bc m c t :=
  before0_5_of m (dats m 0 c) (A_eq m c 5) (after0_5 m c) t d
theorem before0_6 (c : Dev nD) (t : Fin cfg0.N) (d) : (dats m 0 c).before 6 t d = bd m c t :=
  before0_6_of m (dats m 0 c) (A_eq m c 6) (after0_6 m c) t d
theorem before0_7 (c : Dev nD) (t : Fin cfg0.N) (d) : (dats m 0 c).before 7 t d = ba m c t :=
  before0_7_of m (dats m 0 c) (A_eq m c 7) (after0_7 m c) t d
/-- The weight's buffers are fetched at every point. -/
theorem before0_2 (c : Dev nD) (t : Fin cfg0.N) (d) : (dats m 0 c).before 2 t d = bw m c t d := by
  unfold Dat.before; rw [if_pos (fetch0_2 t)]; rfl
theorem before0_3 (c : Dev nD) (t : Fin cfg0.N) (d) : (dats m 0 c).before 3 t d = bws m c t d := by
  unfold Dat.before; rw [if_pos (fetch0_3 t)]; rfl
theorem refill0_2 (c : Dev nD) (t : Fin cfg0.N) (d) :
    (cfg0.win 2).fill (cfg0.grid.coords t) d ((cfg0.win 2).cut (cfg0.grid.coords t) ((dats m 0 c).after 2 t)) = bw m c t d := by
  rw [after0_2]
  exact congrArg (win0_2.fill (grid0.coords t) d) (win0_2.cut_fill _ _ _)
theorem refill0_3 (c : Dev nD) (t : Fin cfg0.N) (d) :
    (cfg0.win 3).fill (cfg0.grid.coords t) d ((cfg0.win 3).cut (cfg0.grid.coords t) ((dats m 0 c).after 3 t)) = bws m c t d := by
  rw [after0_3]
  exact congrArg (win0_3.fill (grid0.coords t) d) (win0_3.cut_fill _ _ _)

/-- The outputs, whose buffers the body need not leave at one value. -/
def isOut (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => true

/-- What the body leaves in an output's buffer at a point; of the outputs past the projection nothing is said. -/
def leaves (c : Dev nD) (w : Fin cfg0.W) (t : Fin cfg0.N) : ((cfg0.win w).block.Idx → Elt F (cfg0.win w).elt) → Prop := match w with
  | ⟨8, _⟩ => fun X => Ok8 m c (t.val + 1) X
  | ⟨9, _⟩ => fun X => Ok9 m c (t.val + 1) X
  | ⟨10, _⟩ => fun X => Ok10 m c t X
  | _ => fun _ => True

abbrev rdat (c : Dev nD) : Pipeline.RDat τ (Elt F) Unit ℕ (UR sig nD τ) ℕ cfg0 c := (dats m 0 c).toRRel isOut (leaves m c)

/-! ## What the body may find in an output's buffer -/

theorem prev_lt (t : Fin cfg0.N) : t.val - 1 < cfg0.N := Nat.lt_of_le_of_lt (Nat.sub_le _ _) t.isLt

/-- Found after the first point, in a buffer not just written back: what the point before left. -/
theorem leaves_of_finds (c : Dev nD) (w : Fin cfg0.W) (hw : isOut w = true) (t : Fin cfg0.N) (hf : (cfg0.win w).fetch t = false)
    (h0 : t.val ≠ 0) (hfl : ¬ (cfg0.win w).flush ⟨t.val - 1, prev_lt t⟩ = true)
    (X : (cfg0.win w).block.Idx → Elt F (cfg0.win w).elt) (h : (rdat m c).Finds w t X) :
    leaves m c w ⟨t.val - 1, prev_lt t⟩ X :=
  (dats m 0 c).toRRel_leaves hw ((((rdat m c).finds_of_pos hf h0 X).mp h).resolve_left hfl)

theorem find8 (c : Dev nD) (t : Fin cfg0.N) (X : Vec F S248x2048 .fp8e4m3) (h : (rdat m c).Finds 8 t X) : Ok8 m c t.val X := by
  by_cases h0 : t.val = 0
  · exact fun hc => absurd hc (by omega)
  have hlt := lt_of_lt_of_eq t.isLt N_0
  have h' : Ok8 m c (t.val - 1 + 1) X := leaves_of_finds m c 8 rfl t rfl h0 (fun hc => by
    have hd : (t.val - 1) % 17 = 16 := (flush0_8 ⟨t.val - 1, prev_lt t⟩).mp hc
    omega) X h
  rwa [Nat.sub_add_cancel (by omega)] at h'
theorem find9 (c : Dev nD) (t : Fin cfg0.N) (X : Vec F S1x248 .f32) (h : (rdat m c).Finds 9 t X) : Ok9 m c t.val X := by
  by_cases h0 : t.val = 0
  · exact fun hc => absurd hc (by omega)
  have hlt := lt_of_lt_of_eq t.isLt N_0
  have h' : Ok9 m c (t.val - 1 + 1) X := leaves_of_finds m c 9 rfl t rfl h0 (fun hc => by
    have hd : (t.val - 1) % 17 = 16 := (flush0_9 ⟨t.val - 1, prev_lt t⟩).mp hc
    omega) X h
  rwa [Nat.sub_add_cancel (by omega)] at h'

/-! ## The body at any point -/

/-- What the pipeline hands the body at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y)
    ∗ (∃ Y, ⌜(rdat m c).Finds 13 t Y⌝ ∗ owns (c : Thread nD τ) (st0_13 t) fullShare Y)
    ∗ (∃ Y, ⌜(rdat m c).Finds 14 t Y⌝ ∗ owns (c : Thread nD τ) (st0_14 t) fullShare Y)
    ∗ (∃ Y, ⌜(rdat m c).Finds 15 t Y⌝ ∗ owns (c : Thread nD τ) (st0_15 t) fullShare Y)
    ∗ (∃ Y, ⌜(rdat m c).Finds 16 t Y⌝ ∗ owns (c : Thread nD τ) (st0_16 t) fullShare Y)
    ∗ (∃ Y, ⌜(rdat m c).Finds 17 t Y⌝ ∗ owns (c : Thread nD τ) (st0_17 t) fullShare Y)
    ∗ (∃ Y, ⌜(rdat m c).Finds 18 t Y⌝ ∗ owns (c : Thread nD τ) (st0_18 t) fullShare Y)
    ∗ (∃ Y, ⌜(rdat m c).Finds 19 t Y⌝ ∗ owns (c : Thread nD τ) (st0_19 t) fullShare Y))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, ⌜leaves m c 8 t X⌝ ∗ owns (c : Thread nD τ) (st0_8 t) fullShare X)
    ∗ (∃ X, ⌜leaves m c 9 t X⌝ ∗ owns (c : Thread nD τ) (st0_9 t) fullShare X)
    ∗ (∃ X, ⌜leaves m c 10 t X⌝ ∗ owns (c : Thread nD τ) (st0_10 t) fullShare X)
    ∗ (∃ X, ⌜leaves m c 11 t X⌝ ∗ owns (c : Thread nD τ) (st0_11 t) fullShare X)
    ∗ (∃ X, ⌜leaves m c 12 t X⌝ ∗ owns (c : Thread nD τ) (st0_12 t) fullShare X)
    ∗ (∃ X, ⌜leaves m c 13 t X⌝ ∗ owns (c : Thread nD τ) (st0_13 t) fullShare X)
    ∗ (∃ X, ⌜leaves m c 14 t X⌝ ∗ owns (c : Thread nD τ) (st0_14 t) fullShare X)
    ∗ (∃ X, ⌜leaves m c 15 t X⌝ ∗ owns (c : Thread nD τ) (st0_15 t) fullShare X)
    ∗ (∃ X, ⌜leaves m c 16 t X⌝ ∗ owns (c : Thread nD τ) (st0_16 t) fullShare X)
    ∗ (∃ X, ⌜leaves m c 17 t X⌝ ∗ owns (c : Thread nD τ) (st0_17 t) fullShare X)
    ∗ (∃ X, ⌜leaves m c 18 t X⌝ ∗ owns (c : Thread nD τ) (st0_18 t) fullShare X)
    ∗ (∃ X, ⌜leaves m c 19 t X⌝ ∗ owns (c : Thread nD τ) (st0_19 t) fullShare X))

/-- The register and the core's debts, which the body does not touch. -/
def aside (c : Dev nD) (t : Fin cfg0.N) : sProp 𝕄 := iprop((∃ r, prngReg c r) ∗ (dats m 0 c).owesAt () t.castSucc)

theorem found_of_pre (c : Dev nD) (t : Fin cfg0.N) : bodyPre m c t ⊢ found m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (Memref.whole cc0_scratch0) (Memref.whole cc0_scratch1) (aside m c t) := by
  unfold bodyPre found aside
  rw [show (dats m 0 c).Φ t.castSucc = carried m c t.val from rfl]
  unfold carried
  simp only [before0_0, before0_1, before0_2, before0_3, before0_4, before0_5, before0_6, before0_7]
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %E8, H8⟩, ⟨%Y9, %E9, H9⟩, ⟨%Y10, %E10, H10⟩, ⟨%Y11, %E11, H11⟩, ⟨%Y12, %E12, H12⟩, ⟨%Y13, %E13, H13⟩, ⟨%Y14, %E14, H14⟩, ⟨%Y15, %E15, H15⟩, ⟨%Y16, %E16, H16⟩, ⟨%Y17, %E17, H17⟩, ⟨%Y18, %E18, H18⟩, ⟨%Y19, %E19, H19⟩⟩
  isplitl [HP Ho]
  · isplitl [HP]
    · iexact HP
    iexact Ho
  isplitl [HS]
  · iexact HS
  isplitl [H0]
  · iexact H0
  isplitl [H1]
  · iexact H1
  isplitl [H2]
  · iexists d2; iexact H2
  isplitl [H3]
  · iexists d3; iexact H3
  isplitl [H4]
  · iexact H4
  isplitl [H5]
  · iexact H5
  isplitl [H6]
  · iexact H6
  isplitl [H7]
  · iexact H7
  isplitl [H8]
  · iexists Y8
    isplitr
    · ipureintro; exact find8 m c t Y8 E8
    iexact H8
  isplitl [H9]
  · iexists Y9
    isplitr
    · ipureintro; exact find9 m c t Y9 E9
    iexact H9
  isplitl [H10]
  · iexists Y10; iexact H10
  isplitl [H11]
  · iexists Y11; iexact H11
  isplitl [H12]
  · iexists Y12; iexact H12
  isplitl [H13]
  · iexists Y13; iexact H13
  isplitl [H14]
  · iexists Y14; iexact H14
  isplitl [H15]
  · iexists Y15; iexact H15
  isplitl [H16]
  · iexists Y16; iexact H16
  isplitl [H17]
  · iexists Y17; iexact H17
  isplitl [H18]
  · iexists Y18; iexact H18
  iexists Y19; iexact H19

theorem post_of_left (c : Dev nD) (t : Fin cfg0.N) : left m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (Memref.whole cc0_scratch0) (Memref.whole cc0_scratch1) (aside m c t) ⊢ bodyPost m c t := by
  unfold bodyPost left aside
  rw [show (dats m 0 c).Φ t.succ = carried m c (t.val + 1) from rfl,
    show (dats m 0 c).owesAt () t.succ = (dats m 0 c).owesAt () t.castSucc from rfl,
    after0_0, after0_1, after0_4, after0_5, after0_6, after0_7]
  unfold carried
  iintro ⟨⟨HP, Ho⟩, HS, H0, H1, ⟨%d2, H2⟩, ⟨%d3, H3⟩, H4, H5, H6, H7, ⟨%Y8, %E8, H8⟩, ⟨%Y9, %E9, H9⟩, ⟨%Y10, %E10, H10⟩, ⟨%Y11, H11⟩, ⟨%Y12, H12⟩, ⟨%Y13, H13⟩, ⟨%Y14, H14⟩, ⟨%Y15, H15⟩, ⟨%Y16, H16⟩, ⟨%Y17, H17⟩, ⟨%Y18, H18⟩, ⟨%Y19, H19⟩⟩
  isplitl [HP HS]
  · isplitl [HS]
    · iexact HS
    iexact HP
  isplitl [Ho]
  · iexact Ho
  isplitl [H0]
  · iexact H0
  isplitl [H1]
  · iexact H1
  isplitl [H2]
  · iexists d2
    rw [refill0_2]
    iexact H2
  isplitl [H3]
  · iexists d3
    rw [refill0_3]
    iexact H3
  isplitl [H4]
  · iexact H4
  isplitl [H5]
  · iexact H5
  isplitl [H6]
  · iexact H6
  isplitl [H7]
  · iexact H7
  isplitl [H8]
  · iexists Y8
    isplitr
    · ipureintro; exact E8
    iexact H8
  isplitl [H9]
  · iexists Y9
    isplitr
    · ipureintro; exact E9
    iexact H9
  isplitl [H10]
  · iexists Y10
    isplitr
    · ipureintro; exact E10
    iexact H10
  isplitl [H11]
  · iexists Y11
    isplitr
    · ipureintro; exact trivial
    iexact H11
  isplitl [H12]
  · iexists Y12
    isplitr
    · ipureintro; exact trivial
    iexact H12
  isplitl [H13]
  · iexists Y13
    isplitr
    · ipureintro; exact trivial
    iexact H13
  isplitl [H14]
  · iexists Y14
    isplitr
    · ipureintro; exact trivial
    iexact H14
  isplitl [H15]
  · iexists Y15
    isplitr
    · ipureintro; exact trivial
    iexact H15
  isplitl [H16]
  · iexists Y16
    isplitr
    · ipureintro; exact trivial
    iexact H16
  isplitl [H17]
  · iexists Y17
    isplitr
    · ipureintro; exact trivial
    iexact H17
  isplitl [H18]
  · iexists Y18
    isplitr
    · ipureintro; exact trivial
    iexact H18
  iexists Y19
  isplitr
  · ipureintro; exact trivial
  iexact H19

theorem sound_body (c : Dev nD) (t : Fin cfg0.N) :
    bodyPre m c t ⊢ wp frame (wpE (defs₀ (F := F)) Variants.none c none) Set.univ (bodyAt0 t) (fun _ => bodyPost m c t) := by
  have hlt := lt_of_lt_of_eq t.isLt N_0
  refine triple_restated (Q := fun _ => left m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (Memref.whole cc0_scratch0) (Memref.whole cc0_scratch1) (aside m c t)) ?_ rfl (found_of_pre m c t) fun _ => post_of_left m c t
  unfold bodyAt0
  by_cases h0 : t.val = 0
  · exact step_first m c t _ _ _ _ _ _ _ _ _ _ _ _ _ _ _ _ _ _ _ _ _ _ _ _ _ _ _ _ _ _ _ _ _ _ _ _ _ _ _ _ _ _ _ _ (aside m c t) h0
  by_cases h1 : t.val < 6
  · exact step_z m c t _ _ _ _ _ _ _ _ _ _ _ _ _ _ _ _ _ _ _ _ _ _ _ _ _ _ _ _ _ _ _ _ _ _ _ _ _ _ _ _ _ _ _ _ (aside m c t) (by omega) h1
  by_cases h2 : t.val < 12
  · exact step_x m c t _ _ _ _ _ _ _ _ _ _ _ _ _ _ _ _ _ _ _ _ _ _ _ _ _ _ _ _ _ _ _ _ _ _ _ _ _ _ _ _ _ _ _ _ (aside m c t) (by omega) h2
  by_cases h3 : t.val < 14
  · exact step_b m c t _ _ _ _ _ _ _ _ _ _ _ _ _ _ _ _ _ _ _ _ _ _ _ _ _ _ _ _ _ _ _ _ _ _ _ _ _ _ _ _ _ _ _ _ (aside m c t) (by omega) h3
  by_cases h4 : t.val < 16
  · exact step_c m c t _ _ _ _ _ _ _ _ _ _ _ _ _ _ _ _ _ _ _ _ _ _ _ _ _ _ _ _ _ _ _ _ _ _ _ _ _ _ _ _ _ _ _ _ (aside m c t) (by omega) h4
  · exact step_rest m c t _ _ _ _ _ _ _ _ _ _ _ _ _ _ _ _ _ _ _ _ _ _ _ _ _ _ _ _ _ _ _ _ _ _ _ _ _ _ _ _ _ _ _ _ (aside m c t) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ isOut (leaves m c) := fun t => by
  rw [bigSep_W0, bigSep_W0, defs₀_row]
  exact triple_restated (sound_body m c t) rfl .rfl fun _ => .rfl

/-! ## The run -/

/-- Before the first point the scratch holds anything; -/
theorem carried_of_any (c : Dev nD) : Pipeline.ΦA spec0 c ⊢ carried m c 0 := by
  unfold carried scratchAt Pipeline.ΦA
  rw [scopedRest0_eq]
  simp only [own, owns_whole]
  iintro ⟨⟨⟨%a, Ha⟩, ⟨%s, Hs⟩⟩, HP⟩
  isplitr [HP]
  · iexists a, s
    isplitr
    · ipureintro
      exact fun hc => absurd hc (by omega)
    isplitl [Ha]
    · iexact Ha
    iexact Hs
  iexact HP

/-- after the last its contents are forgotten. -/
theorem any_of_carried (c : Dev nD) (n : ℕ) : carried m c n ⊢ Pipeline.ΦA spec0 c := by
  unfold carried scratchAt Pipeline.ΦA
  rw [scopedRest0_eq]
  simp only [own, owns_whole]
  iintro ⟨⟨%a, %s, %has, Ha, Hs⟩, HP⟩
  isplitr [HP]
  · isplitl [Ha]
    · iexists a; iexact Ha
    iexists s; iexact Hs
  iexact HP

set_option backward.isDefEq.respectTransparency.types false in
set_option maxHeartbeats 800000 in
/-- Every run of the program ends with every array at contents the relational data allow, the other buffers as the region found
    them, and every counter at zero. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => carried_of_any m c) (hout := fun c => any_of_carried m c _) (hQ' := fun _ h => h)

end Cert.InProj.Hand
-- ==== Proof.InProjFloat.Final.lean ====
module

public import proofs.«01_k».proof.Proof.InProjFloat.Run
public import proofs.«01_k».proof.Proof.Gen.InProj.Launch
public import proofs.«01_k».proof.Proof.Gen.InProj.Points
public import proofs.«01_k».proof.Proof.Gen.InProj.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final state says of the argument arrays. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

/-- None of them is a window's array. -/
theorem kept_of_post (r : PUnit × MemSt nD τ sig (Elt F)) (h : Pipeline.RDat.FramePost cfg0 (rdat m) (V m) r) (c : Dev nD) : Kept m r c := by
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- Every run ends, its arguments as they were and every counter at zero. -/
theorem frame : θ_run defs (onTc (τ := τ) (main (F := F))) ⟨m, fun _ => 0, ρ⟩ (fun r => (∀ c : Dev nD, Kept m r c) ∧ r.2.sem = fun _ => 0) :=
  (θ_run defs _ _).mono (fun r h => ⟨fun c => kept_of_post m r h.1 c, h.2⟩) (run_main_quiescent m ρ)

end Cert.InProj.Hand
-- ==== Proof.InProj.Body.lean ====
/-
  The body of `_in_proj`, one grid step at a time. A step takes one of six forms, by which of the printed `scf.if`s it
  enters; each theorem below runs one form over staging and scratch memrefs held at named contents. The codes, the
  scale and the projected tile are named by the printed payloads; what the steps leave in the other outputs is not named.
-/
module

public import proofs.«01_k».proof.Proof.Gen.InProjIdeal.Launch
public import proofs.«01_k».proof.Proof.Gen.InProjIdeal.Points
public import proofs.«01_k».proof.Proof.Gen.InProjIdeal.Skeleton
public import Idealize.ShloMosaic.Lib.Pipeline.FrameBody
public import Idealize.ShloMosaic.Lib.VecWindow
public import Idealize.ShloMosaic.Lib.Pipeline.TableIdle
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A staging or scratch memref held whole at the contents `X`. -/
abbrev own {s : Shape} {e : EltTy} (c : Dev nD) (m : Memref sig .tc .vmem s e) (X : Vec F s e) : sProp 𝕄 :=
  owns (c : Thread nD τ) m fullShare X

/-- The first column of the scale scratch. -/
def col (s : Vec F S248x128 .f32) : Vec F S248x1 .f32 := VecWindow.window s ![0, 0] ![248, 1] inb_S248x128_S248x1_0_0

/-- The first column read after the scale scratch was written whole. -/
theorem readCov_col (m : Memref sig .tc .vmem S248x128 .f32) (w : Vec F S248x128 .f32) :
    m.view.readCov (Val := Elt F) [⟨Rect.unit ![0, 0] ![248, 128] inb_S248x128_S248x128_0_0, w⟩]
      (Rect.unit ![0, 0] ![248, 1] inb_S248x128_S248x1_0_0).toLoadRect = col w :=
  (View.readAt_unit m.view _ _ rfl _).trans (congrArg col (View.read_writes_full m.view _ _ _ _))

variable (c : Dev nD) (i : grid0.Coords) (arg1 : Memref sig .tc .vmem S248x2048 .bf16) (harg1 : arg1.IsWhole) (arg2 : Memref sig .tc .vmem S1x2048 .f32) (harg2 : arg2.IsWhole) (arg3 : Memref sig .tc .vmem S512x2048 .fp8e4m3) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S48x1 .f32) (harg7 : arg7.IsWhole) (arg8 : Memref sig .tc .vmem S48x1 .f32) (harg8 : arg8.IsWhole) (arg9 : Memref sig .tc .vmem S248x2048 .fp8e4m3) (harg9 : arg9.IsWhole) (arg10 : Memref sig .tc .vmem S1x248 .f32) (harg10 : arg10.IsWhole) (arg11 : Memref sig .tc .vmem S248x1x512 .f32) (harg11 : arg11.IsWhole) (arg12 : Memref sig .tc .vmem S248x512 .f32) (harg12 : arg12.IsWhole) (arg13 : Memref sig .tc .vmem S512x248 .f32) (harg13 : arg13.IsWhole) (arg14 : Memref sig .tc .vmem S248x512 .f32) (harg14 : arg14.IsWhole) (arg15 : Memref sig .tc .vmem S248x512 .f32) (harg15 : arg15.IsWhole) (arg16 : Memref sig .tc .vmem S128x248 .f32) (harg16 : arg16.IsWhole) (arg17 : Memref sig .tc .vmem S48x248 .f32) (harg17 : arg17.IsWhole) (arg18 : Memref sig .tc .vmem S48x248 .f32) (harg18 : arg18.IsWhole) (arg19 : Memref sig .tc .vmem S48x248 .f32) (harg19 : arg19.IsWhole) (arg20 : Memref sig .tc .vmem S48x248 .f32) (harg20 : arg20.IsWhole) (arg21 : Memref sig .tc .vmem S248x2048 .fp8e4m3) (harg21 : arg21.IsWhole) (arg22 : Memref sig .tc .vmem S248x128 .f32) (harg22 : arg22.IsWhole)

set_option maxHeartbeats 4000000 in
/-- Step 0: normalise and quantise the rows, then the first tile. -/
theorem run_first
    (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (x : Vec F S248x2048 .bf16) (n : Vec F S1x2048 .f32) (w : Vec F S512x2048 .fp8e4m3) (ws : Vec F S1x512 .f32) (d9 : Vec F S248x2048 .fp8e4m3) (d10 : Vec F S1x248 .f32) (d11 : Vec F S248x1x512 .f32) (d12 : Vec F S248x512 .f32) (d21 : Vec F S248x2048 .fp8e4m3) (d22 : Vec F S248x128 .f32)
    (K : PUnit → sProp 𝕄) :
    iprop(own c arg1 x
      ∗ own c arg2 n
      ∗ own c arg3 w
      ∗ own c arg4 ws
      ∗ own c arg9 d9
      ∗ own c arg10 d10
      ∗ own c arg11 d11
      ∗ own c arg12 d12
      ∗ own c arg21 d21
      ∗ own c arg22 d22
      ∗ (iprop(own c arg1 x
          ∗ own c arg2 n
          ∗ own c arg3 w
          ∗ own c arg4 ws
          ∗ own c arg9 (k0_pay11 x n)
          ∗ own c arg10 (k0_pay23 (k0_pay10 x n))
          ∗ own c arg11 (k0_pay25 (k0_pay12 x n) w (col (k0_pay22 (k0_pay13 x n))) ws)
          ∗ (∃ X, own c arg12 X)
          ∗ own c arg21 (k0_pay12 x n)
          ∗ own c arg22 (k0_pay22 (k0_pay13 x n))) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H1, H2, H3, H4, H9, H10, H11, H12, H21, H22, Hk⟩
  sl_exec
  sl_step
  have e1 : View.readAt (Elt F) arg1.view (Rect.unit ![0, 0] ![248, 2048] inb_S248x2048_S248x2048_0_0).toLoadRect (arg1.view.rep x) = x :=
    View.readAt_rep_full _ _ _
  have e2 : View.readAt (Elt F) arg2.view (Rect.unit ![0, 0] ![1, 2048] inb_S1x2048_S1x2048_0_0).toLoadRect (arg2.view.rep n) = n :=
    View.readAt_rep_full _ _ _
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have r10 : run_first.sl.r arg1 arg2 x n = k0_pay10 x n := congrArg₂ k0_pay10 e1 e2
  have r13 : run_first.sl.r_1 arg1 arg2 x n = k0_pay13 x n := congrArg₂ k0_pay13 e1 e2
  have v21 : run_first.sl.v3 arg1 arg2 arg21 x n = k0_pay12 x n :=
    (View.readCov_full _ _ _ _ _).trans (by rw [e1, e2])
  have v22 : run_first.sl.v7 arg1 arg2 arg22 x n = col (k0_pay22 (k0_pay13 x n)) :=
    (readCov_col _ _).trans (by rw [r13])
  iapply Hk
  isplitl [H1]
  · iexact H1
  isplitl [H2]
  · iexact H2
  isplitl [H3]
  · iexact H3
  isplitl [H4]
  · iexact H4
  isplitl [H9]
  · refine pointsTo_rep_of_read _ _ _ _ _ ?_
    refine (View.read_writes_full _ _ _ _ _).trans ?_
    rw [e1, e2]
  isplitl [H10]
  · refine pointsTo_rep_of_read _ _ _ _ _ ?_
    refine (View.read_writes_full _ _ _ _ _).trans ?_
    rw [r10]
  isplitl [H11]
  · refine pointsTo_rep_of_read _ _ _ _ _ ?_
    refine (View.read_writes_full _ _ _ _ _).trans ?_
    rw [v21, v22, e3, e4]
  isplitl [H12]
  · iexists _
    refine pointsTo_rep_of_read _ _ _ _ _ rfl
  isplitl [H21]
  · refine pointsTo_rep_of_read _ _ _ _ _ ?_
    refine (View.read_writes_full _ _ _ _ _).trans ?_
    rw [e1, e2]
  refine pointsTo_rep_of_read _ _ _ _ _ ?_
  refine (View.read_writes_full _ _ _ _ _).trans ?_
  rw [r13]

set_option maxHeartbeats 4000000 in
/-- Steps 1 to 5: one tile. -/
theorem run_z
    (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (w : Vec F S512x2048 .fp8e4m3) (ws : Vec F S1x512 .f32) (d11 : Vec F S248x1x512 .f32) (d12 : Vec F S248x512 .f32) (a : Vec F S248x2048 .fp8e4m3) (s : Vec F S248x128 .f32)
    (K : PUnit → sProp 𝕄) :
    iprop(own c arg3 w
      ∗ own c arg4 ws
      ∗ own c arg11 d11
      ∗ own c arg12 d12
      ∗ own c arg21 a
      ∗ own c arg22 s
      ∗ (iprop(own c arg3 w
          ∗ own c arg4 ws
          ∗ own c arg11 (k0_pay25 a w (col s) ws)
          ∗ (∃ X, own c arg12 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H11, H12, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H11]
  · refine pointsTo_rep_of_read _ _ _ _ _ ?_
    refine (View.read_writes_full _ _ _ _ _).trans ?_
    rw [e21, e22, e3, e4]
  isplitl [H12]
  · iexists _
    refine pointsTo_rep_of_read _ _ _ _ _ rfl
  isplitl [H21]
  · iexact H21
  iexact H22

set_option maxHeartbeats 4000000 in
/-- Steps 6 to 11: one tile, which is also kept transposed. -/
theorem run_x
    (h1 : ¬ k0_cond1 i = 1#1) (h2 : k0_cond2 i = 1#1) (h3 : k0_cond3 i = 1#1) (h4 : ¬ k0_cond4 i = 1#1) (h5 : ¬ k0_cond5 i = 1#1) (h6 : ¬ k0_cond6 i = 1#1)
    (w : Vec F S512x2048 .fp8e4m3) (ws : Vec F S1x512 .f32) (d11 : Vec F S248x1x512 .f32) (d12 : Vec F S248x512 .f32) (d13 : Vec F S512x248 .f32) (a : Vec F S248x2048 .fp8e4m3) (s : Vec F S248x128 .f32)
    (K : PUnit → sProp 𝕄) :
    iprop(own c arg3 w
      ∗ own c arg4 ws
      ∗ own c arg11 d11
      ∗ own c arg12 d12
      ∗ own c arg13 d13
      ∗ own c arg21 a
      ∗ own c arg22 s
      ∗ (iprop(own c arg3 w
          ∗ own c arg4 ws
          ∗ own c arg11 (k0_pay25 a w (col s) ws)
          ∗ (∃ X, own c arg12 X)
          ∗ (∃ X, own c arg13 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H11, H12, H13, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H11]
  · refine pointsTo_rep_of_read _ _ _ _ _ ?_
    refine (View.read_writes_full _ _ _ _ _).trans ?_
    rw [e21, e22, e3, e4]
  isplitl [H12]
  · iexists _
    refine pointsTo_rep_of_read _ _ _ _ _ rfl
  isplitl [H13]
  · iexists _
    refine pointsTo_rep_of_read _ _ _ _ _ rfl
  isplitl [H21]
  · iexact H21
  iexact H22

set_option maxHeartbeats 4000000 in
/-- Steps 12 and 13: one tile, whose groups are normalised. -/
theorem run_b
    (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1)
    (w : Vec F S512x2048 .fp8e4m3) (ws : Vec F S1x512 .f32) (bw : Vec F S1x128 .f32) (d11 : Vec F S248x1x512 .f32) (d14 : Vec F S248x512 .f32) (a : Vec F S248x2048 .fp8e4m3) (s : Vec F S248x128 .f32)
    (K : PUnit → sProp 𝕄) :
    iprop(own c arg3 w
      ∗ own c arg4 ws
      ∗ own c arg5 bw
      ∗ own c arg11 d11
      ∗ own c arg14 d14
      ∗ own c arg21 a
      ∗ own c arg22 s
      ∗ (iprop(own c arg3 w
          ∗ own c arg4 ws
          ∗ own c arg5 bw
          ∗ own c arg11 (k0_pay25 a w (col s) ws)
          ∗ (∃ X, own c arg14 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H5, H11, H14, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H5]
  · iexact H5
  isplitl [H11]
  · refine pointsTo_rep_of_read _ _ _ _ _ ?_
    refine (View.read_writes_full _ _ _ _ _).trans ?_
    rw [e21, e22, e3, e4]
  isplitl [H14]
  · iexists _
    refine pointsTo_rep_of_read _ _ _ _ _ rfl
  isplitl [H21]
  · iexact H21
  iexact H22

set_option maxHeartbeats 4000000 in
/-- Steps 14 and 15: one tile, whose groups are normalised. -/
theorem run_c
    (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1)
    (w : Vec F S512x2048 .fp8e4m3) (ws : Vec F S1x512 .f32) (cw : Vec F S1x128 .f32) (d11 : Vec F S248x1x512 .f32) (d15 : Vec F S248x512 .f32) (a : Vec F S248x2048 .fp8e4m3) (s : Vec F S248x128 .f32)
    (K : PUnit → sProp 𝕄) :
    iprop(own c arg3 w
      ∗ own c arg4 ws
      ∗ own c arg6 cw
      ∗ own c arg11 d11
      ∗ own c arg15 d15
      ∗ own c arg21 a
      ∗ own c arg22 s
      ∗ (iprop(own c arg3 w
          ∗ own c arg4 ws
          ∗ own c arg6 cw
          ∗ own c arg11 (k0_pay25 a w (col s) ws)
          ∗ (∃ X, own c arg15 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H6, H11, H15, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H6]
  · iexact H6
  isplitl [H11]
  · refine pointsTo_rep_of_read _ _ _ _ _ ?_
    refine (View.read_writes_full _ _ _ _ _).trans ?_
    rw [e21, e22, e3, e4]
  isplitl [H15]
  · iexists _
    refine pointsTo_rep_of_read _ _ _ _ _ rfl
  isplitl [H21]
  · iexact H21
  iexact H22

set_option maxHeartbeats 4000000 in
/-- Step 16: the last tile, which gives the step sizes and angles. -/
theorem run_rest
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1)
    (w : Vec F S512x2048 .fp8e4m3) (ws : Vec F S1x512 .f32) (db : Vec F S48x1 .f32) (al : Vec F S48x1 .f32) (d11 : Vec F S248x1x512 .f32) (d16 : Vec F S128x248 .f32) (d17 : Vec F S48x248 .f32) (d18 : Vec F S48x248 .f32) (d19 : Vec F S48x248 .f32) (d20 : Vec F S48x248 .f32) (a : Vec F S248x2048 .fp8e4m3) (s : Vec F S248x128 .f32)
    (K : PUnit → sProp 𝕄) :
    iprop(own c arg3 w
      ∗ own c arg4 ws
      ∗ own c arg7 db
      ∗ own c arg8 al
      ∗ own c arg11 d11
      ∗ own c arg16 d16
      ∗ own c arg17 d17
      ∗ own c arg18 d18
      ∗ own c arg19 d19
      ∗ own c arg20 d20
      ∗ own c arg21 a
      ∗ own c arg22 s
      ∗ (iprop(own c arg3 w
          ∗ own c arg4 ws
          ∗ own c arg7 db
          ∗ own c arg8 al
          ∗ own c arg11 (k0_pay25 a w (col s) ws)
          ∗ (∃ X, own c arg16 X)
          ∗ (∃ X, own c arg17 X)
          ∗ (∃ X, own c arg18 X)
          ∗ (∃ X, own c arg19 X)
          ∗ (∃ X, own c arg20 X)
          ∗ own c arg21 a
          ∗ own c arg22 s) -∗ K ⟨⟩))
    ⊢ wp frame (wpE (defs₀ (F := F)) Variants.none c none) Set.univ
        (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton]
  simp only [owns_eq_rep]
  iintro ⟨H3, H4, H7, H8, H11, H16, H17, H18, H19, H20, H21, H22, Hk⟩
  sl_exec
  sl_step
  have e3 : View.readAt (Elt F) arg3.view (Rect.unit ![0, 0] ![512, 2048] inb_S512x2048_S512x2048_0_0).toLoadRect (arg3.view.rep w) = w :=
    View.readAt_rep_full _ _ _
  have e4 : View.readAt (Elt F) arg4.view (Rect.unit ![0, 0] ![1, 512] inb_S1x512_S1x512_0_0).toLoadRect (arg4.view.rep ws) = ws :=
    View.readAt_rep_full _ _ _
  have e21 : View.readAt (Elt F) arg21.view (Rect.unit ![0, 0] ![248, 2048] inb_S248x2048_S248x2048_0_0).toLoadRect (arg21.view.rep a) = a :=
    View.readAt_rep_full _ _ _
  have e22 : View.readAt (Elt F) arg22.view (Rect.unit ![0, 0] ![248, 1] inb_S248x128_S248x1_0_0).toLoadRect (arg22.view.rep s) = col s :=
    View.readAt_rep_unit _ _ _ rfl _
  iapply Hk
  isplitl [H3]
  · iexact H3
  isplitl [H4]
  · iexact H4
  isplitl [H7]
  · iexact H7
  isplitl [H8]
  · iexact H8
  isplitl [H11]
  · refine pointsTo_rep_of_read _ _ _ _ _ ?_
    refine (View.read_writes_full _ _ _ _ _).trans ?_
    rw [e21, e22, e3, e4]
  isplitl [H16]
  · iexists _
    refine pointsTo_rep_of_read _ _ _ _ _ rfl
  isplitl [H17]
  · iexists _
    refine pointsTo_rep_of_read _ _ _ _ _ rfl
  isplitl [H18]
  · iexists _
    refine pointsTo_rep_of_read _ _ _ _ _ rfl
  isplitl [H19]
  · iexists _
    refine pointsTo_rep_of_read _ _ _ _ _ rfl
  isplitl [H20]
  · iexists _
    refine pointsTo_rep_of_read _ _ _ _ _ rfl
  isplitl [H21]
  · iexact H21
  iexact H22

end Cert.InProjIdeal.Hand
-- ==== Proof.InProj.Values.lean ====
module

public import proofs.«01_k».proof.Proof.InProj.Body
public import proofs.«01_k».proof.Proof.Gen.InProjIdeal.Frame
public import proofs.«01_k».proof.Proof.Gen.InProjIdeal.Launch
public import proofs.«01_k».proof.Proof.Gen.InProjIdeal.Points
public import proofs.«01_k».proof.Proof.Gen.InProjIdeal.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule of the body, by the number of the grid point -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 12 := by decide +kernel
theorem cond3_iff : ∀ t : Fin grid0.N, k0_cond3 (grid0.coords t) = 1#1 ↔ (6 ≤ t.val ∧ t.val < 12) := by decide +kernel
theorem cond4_iff : ∀ t : Fin grid0.N, k0_cond4 (grid0.coords t) = 1#1 ↔ (12 ≤ t.val ∧ t.val < 14) := by decide +kernel
theorem cond5_iff : ∀ t : Fin grid0.N, k0_cond5 (grid0.coords t) = 1#1 ↔ (14 ≤ t.val ∧ t.val < 16) := by decide +kernel
theorem cond6_iff : ∀ t : Fin grid0.N, k0_cond6 (grid0.coords t) = 1#1 ↔ t.val = 16 := by decide +kernel

/-! ## The values the body computes, from the blocks of its inputs -/

/-- Grid point number `n`. -/
def pt (n : ℕ) : Fin cfg0.N := ⟨n % 17, Nat.mod_lt _ (by decide)⟩
theorem pt_val (t : Fin cfg0.N) : pt t.val = t := Fin.ext (Nat.mod_eq_of_lt (lt_of_lt_of_eq t.isLt N_0))

variable (m : (ℓ : Loc nD τ sig) → Buf (Elt F) ℓ) (c : Dev nD)

def bx (t : Fin cfg0.N) : Vec F S248x2048 .bf16 := iblk m c 0 t
def bn (t : Fin cfg0.N) : Vec F S1x2048 .f32 := iblk m c 1 t
/-- The weight's rows and scales at a point, in buffers that held `d`: the last block overhangs the array, and past its
    end the buffers keep `d`. -/
def bw (t : Fin cfg0.N) (d : Vec F S512x2048 .fp8e4m3) : Vec F S512x2048 .fp8e4m3 := win0_2.fill (grid0.coords t) d (iblk m c 2 t)
def bws (t : Fin cfg0.N) (d : Vec F S1x512 .f32) : Vec F S1x512 .f32 := win0_3.fill (grid0.coords t) d (iblk m c 3 t)
def bb (t : Fin cfg0.N) : Vec F S1x128 .f32 := iblk m c 4 t
def bc (t : Fin cfg0.N) : Vec F S1x128 .f32 := iblk m c 5 t
def bd (t : Fin cfg0.N) : Vec F S48x1 .f32 := iblk m c 6 t
def ba (t : Fin cfg0.N) : Vec F S48x1 .f32 := iblk m c 7 t

/-- The codes of the normalised rows as the scratch holds them and as the result does, their scale, and the row of scales. -/
def aCodes : Vec F S248x2048 .fp8e4m3 := k0_pay12 (bx m c (pt 0)) (bn m c (pt 0))
def aOut : Vec F S248x2048 .fp8e4m3 := k0_pay11 (bx m c (pt 0)) (bn m c (pt 0))
def aScale : Vec F S248x128 .f32 := k0_pay22 (k0_pay13 (bx m c (pt 0)) (bn m c (pt 0)))
def aRow : Vec F S1x248 .f32 := k0_pay23 (k0_pay10 (bx m c (pt 0)) (bn m c (pt 0)))
/-- The projected columns at a point. -/
def pAt (t : Fin cfg0.N) (d : Vec F S512x2048 .fp8e4m3) (e : Vec F S1x512 .f32) : Vec F S248x1x512 .f32 :=
  k0_pay25 (aCodes m c) (bw m c t d) (col (aScale m c)) (bws m c t e)

/-- What the two quantised outputs' buffers hold after `n` points. -/
def Ok8 (n : ℕ) (X : Vec F S248x2048 .fp8e4m3) : Prop := 1 ≤ n → X = aOut m c
def Ok9 (n : ℕ) (X : Vec F S1x248 .f32) : Prop := 1 ≤ n → X = aRow m c
/-- What the projection's buffer holds after point `t`. -/
def Ok10 (t : Fin cfg0.N) (X : Vec F S248x1x512 .f32) : Prop := ∃ d e, X = pAt m c t d e

end Cert.InProjIdeal.Hand
-- ==== Proof.InProj.Steps.lean ====
module

public import proofs.«01_k».proof.Proof.InProj.Values
public import proofs.«01_k».proof.Proof.Gen.InProjIdeal.Launch
public import proofs.«01_k».proof.Proof.Gen.InProjIdeal.Points
public import proofs.«01_k».proof.Proof.Gen.InProjIdeal.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (t : Fin cfg0.N)
variable (arg1 : Memref sig .tc .vmem S248x2048 .bf16) (harg1 : arg1.IsWhole) (arg2 : Memref sig .tc .vmem S1x2048 .f32) (harg2 : arg2.IsWhole) (arg3 : Memref sig .tc .vmem S512x2048 .fp8e4m3) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S48x1 .f32) (harg7 : arg7.IsWhole) (arg8 : Memref sig .tc .vmem S48x1 .f32) (harg8 : arg8.IsWhole) (arg9 : Memref sig .tc .vmem S248x2048 .fp8e4m3) (harg9 : arg9.IsWhole) (arg10 : Memref sig .tc .vmem S1x248 .f32) (harg10 : arg10.IsWhole) (arg11 : Memref sig .tc .vmem S248x1x512 .f32) (harg11 : arg11.IsWhole) (arg12 : Memref sig .tc .vmem S248x512 .f32) (harg12 : arg12.IsWhole) (arg13 : Memref sig .tc .vmem S512x248 .f32) (harg13 : arg13.IsWhole) (arg14 : Memref sig .tc .vmem S248x512 .f32) (harg14 : arg14.IsWhole) (arg15 : Memref sig .tc .vmem S248x512 .f32) (harg15 : arg15.IsWhole) (arg16 : Memref sig .tc .vmem S128x248 .f32) (harg16 : arg16.IsWhole) (arg17 : Memref sig .tc .vmem S48x248 .f32) (harg17 : arg17.IsWhole) (arg18 : Memref sig .tc .vmem S48x248 .f32) (harg18 : arg18.IsWhole) (arg19 : Memref sig .tc .vmem S48x248 .f32) (harg19 : arg19.IsWhole) (arg20 : Memref sig .tc .vmem S48x248 .f32) (harg20 : arg20.IsWhole) (arg21 : Memref sig .tc .vmem S248x2048 .fp8e4m3) (harg21 : arg21.IsWhole) (arg22 : Memref sig .tc .vmem S248x128 .f32) (harg22 : arg22.IsWhole)

/-- The two scratch buffers after `n` points. -/
def scratchAt (n : ℕ) : sProp 𝕄 :=
  iprop(∃ a s, ⌜1 ≤ n → a = aCodes m c ∧ s = aScale m c⌝ ∗ own c arg21 a ∗ own c arg22 s)

/-- What the body finds at point `t`. -/
def found (R : sProp 𝕄) : sProp 𝕄 :=
  iprop(R ∗ scratchAt m c arg21 arg22 t.val
    ∗ own c arg1 (bx m c t)
    ∗ own c arg2 (bn m c t)
    ∗ (∃ d, own c arg3 (bw m c t d))
    ∗ (∃ d, own c arg4 (bws m c t d))
    ∗ own c arg5 (bb m c t)
    ∗ own c arg6 (bc m c t)
    ∗ own c arg7 (bd m c t)
    ∗ own c arg8 (ba m c t)
    ∗ (∃ X, ⌜Ok8 m c t.val X⌝ ∗ own c arg9 X)
    ∗ (∃ X, ⌜Ok9 m c t.val X⌝ ∗ own c arg10 X)
    ∗ (∃ X, own c arg11 X)
    ∗ (∃ X, own c arg12 X)
    ∗ (∃ X, own c arg13 X)
    ∗ (∃ X, own c arg14 X)
    ∗ (∃ X, own c arg15 X)
    ∗ (∃ X, own c arg16 X)
    ∗ (∃ X, own c arg17 X)
    ∗ (∃ X, own c arg18 X)
    ∗ (∃ X, own c arg19 X)
    ∗ (∃ X, own c arg20 X))

/-- What the body leaves at point `t`. -/
def left (R : sProp 𝕄) : sProp 𝕄 :=
  iprop(R ∗ scratchAt m c arg21 arg22 (t.val + 1)
    ∗ own c arg1 (bx m c t)
    ∗ own c arg2 (bn m c t)
    ∗ (∃ d, own c arg3 (bw m c t d))
    ∗ (∃ d, own c arg4 (bws m c t d))
    ∗ own c arg5 (bb m c t)
    ∗ own c arg6 (bc m c t)
    ∗ own c arg7 (bd m c t)
    ∗ own c arg8 (ba m c t)
    ∗ (∃ X, ⌜Ok8 m c (t.val + 1) X⌝ ∗ own c arg9 X)
    ∗ (∃ X, ⌜Ok9 m c (t.val + 1) X⌝ ∗ own c arg10 X)
    ∗ (∃ X, ⌜Ok10 m c t X⌝ ∗ own c arg11 X)
    ∗ (∃ X, own c arg12 X)
    ∗ (∃ X, own c arg13 X)
    ∗ (∃ X, own c arg14 X)
    ∗ (∃ X, own c arg15 X)
    ∗ (∃ X, own c arg16 X)
    ∗ (∃ X, own c arg17 X)
    ∗ (∃ X, own c arg18 X)
    ∗ (∃ X, own c arg19 X)
    ∗ (∃ X, own c arg20 X))

/-- The first point. -/
theorem step_first (R : sProp 𝕄) (h0 : t.val = 0) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  obtain rfl : t = pt 0 := by rw [← pt_val t, h0]
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  iapply (run_first (F := F) c (grid0.coords (pt 0)) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; decide) (by rw [cond2_iff]; decide) (by rw [cond3_iff]; decide) (by rw [cond4_iff]; decide) (by rw [cond5_iff]; decide) (by rw [cond6_iff]; decide) (bx m c (pt 0)) (bn m c (pt 0)) (bw m c (pt 0) d2) (bws m c (pt 0) d3) X9 X10 X11 X12 a s _)
  isplitl [H1]
  · iexact H1
  isplitl [H2]
  · iexact H2
  isplitl [H3]
  · iexact H3
  isplitl [H4]
  · iexact H4
  isplitl [H9]
  · iexact H9
  isplitl [H10]
  · iexact H10
  isplitl [H11]
  · iexact H11
  isplitl [H12]
  · iexact H12
  isplitl [H21]
  · iexact H21
  isplitl [H22]
  · iexact H22
  iintro ⟨H1, H2, H3, H4, H9, H10, H11, ⟨%Z12, H12⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => rfl
    iexact H9
  isplitl [H10]
  · iexists _
    isplitr
    · ipureintro; exact fun _ => rfl
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Points 1 to 5. -/
theorem step_z (R : sProp 𝕄) (h0 : 1 ≤ t.val) (h1 : t.val < 6) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_z (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) X11 X12 (aCodes m c) (aScale m c) _)
  isplitl [H3]
  · iexact H3
  isplitl [H4]
  · iexact H4
  isplitl [H11]
  · iexact H11
  isplitl [H12]
  · iexact H12
  isplitl [H21]
  · iexact H21
  isplitl [H22]
  · iexact H22
  iintro ⟨H3, H4, H11, ⟨%Z12, H12⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Points 6 to 11. -/
theorem step_x (R : sProp 𝕄) (h0 : 6 ≤ t.val) (h1 : t.val < 12) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_x (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) X11 X12 X13 (aCodes m c) (aScale m c) _)
  isplitl [H3]
  · iexact H3
  isplitl [H4]
  · iexact H4
  isplitl [H11]
  · iexact H11
  isplitl [H12]
  · iexact H12
  isplitl [H13]
  · iexact H13
  isplitl [H21]
  · iexact H21
  isplitl [H22]
  · iexact H22
  iintro ⟨H3, H4, H11, ⟨%Z12, H12⟩, ⟨%Z13, H13⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Points 12 and 13. -/
theorem step_b (R : sProp 𝕄) (h0 : 12 ≤ t.val) (h1 : t.val < 14) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_b (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) (bb m c t) X11 X14 (aCodes m c) (aScale m c) _)
  isplitl [H3]
  · iexact H3
  isplitl [H4]
  · iexact H4
  isplitl [H5]
  · iexact H5
  isplitl [H11]
  · iexact H11
  isplitl [H14]
  · iexact H14
  isplitl [H21]
  · iexact H21
  isplitl [H22]
  · iexact H22
  iintro ⟨H3, H4, H5, H11, ⟨%Z14, H14⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Points 14 and 15. -/
theorem step_c (R : sProp 𝕄) (h0 : 14 ≤ t.val) (h1 : t.val < 16) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_c (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) (bc m c t) X11 X15 (aCodes m c) (aScale m c) _)
  isplitl [H3]
  · iexact H3
  isplitl [H4]
  · iexact H4
  isplitl [H6]
  · iexact H6
  isplitl [H11]
  · iexact H11
  isplitl [H15]
  · iexact H15
  isplitl [H21]
  · iexact H21
  isplitl [H22]
  · iexact H22
  iintro ⟨H3, H4, H6, H11, ⟨%Z15, H15⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- Point 16. -/
theorem step_rest (R : sProp 𝕄) (h0 : t.val = 16) :
    found m c t arg1 arg2 arg3 arg4 arg5 arg6 arg7 arg8 arg9 arg10 arg11 arg12 arg13 arg14 arg15 arg16 arg17 arg18 arg19 arg20 arg21 arg22 R ⊢ wp frame (wpE (defs₀ (F := F)) Variants.none c none) Set.univ
      (cc0_in_proj (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => left m c t arg1 arg2 arg3 arg4 arg5 arg6 arg7 arg8 arg9 arg10 arg11 arg12 arg13 arg14 arg15 arg16 arg17 arg18 arg19 arg20 arg21 arg22 R) := by
  unfold found left scratchAt
  iintro ⟨HR, ⟨%a, %s, %hs, H21, H22⟩, H1, H2, ⟨%d2, H3⟩, ⟨%d3, H4⟩, H5, H6, H7, H8, ⟨%X9, %h9, H9⟩, ⟨%X10, %h10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩⟩
  obtain ⟨ha, hb⟩ := hs (by omega)
  subst ha hb
  iapply (run_rest (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (by rw [cond1_iff]; omega) (by rw [cond2_iff]; omega) (by rw [cond3_iff]; omega) (by rw [cond4_iff]; omega) (by rw [cond5_iff]; omega) (by rw [cond6_iff]; omega) (bw m c t d2) (bws m c t d3) (bd m c t) (ba m c t) X11 X16 X17 X18 X19 X20 (aCodes m c) (aScale m c) _)
  isplitl [H3]
  · iexact H3
  isplitl [H4]
  · iexact H4
  isplitl [H7]
  · iexact H7
  isplitl [H8]
  · iexact H8
  isplitl [H11]
  · iexact H11
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  iintro ⟨H3, H4, H7, H8, H11, ⟨%Z16, H16⟩, ⟨%Z17, H17⟩, ⟨%Z18, H18⟩, ⟨%Z19, H19⟩, ⟨%Z20, H20⟩, H21, H22⟩
  isplitl [HR]
  · iexact HR
  isplitl [H21 H22]
  · iexists _, _
    isplitr
    · ipureintro; exact fun _ => ⟨rfl, rfl⟩
    isplitl [H21]
    · iexact H21
    iexact H22
  isplitl [H1]
  · iexact H1
  isplitl [H2]
  · iexact H2
  isplitl [H3]
  · iexists _; iexact H3
  isplitl [H4]
  · iexists _; iexact H4
  isplitl [H5]
  · iexact H5
  isplitl [H6]
  · iexact H6
  isplitl [H7]
  · iexact H7
  isplitl [H8]
  · iexact H8
  isplitl [H9]
  · iexists _
    isplitr
    · ipureintro; exact fun _ => h9 (by omega)
    iexact H9
  isplitl [H10]
  · iexists _
    isplitr
    · ipureintro; exact fun _ => h10 (by omega)
    iexact H10
  isplitl [H11]
  · iexists _
    isplitr
    · ipureintro; exact ⟨d2, d3, rfl⟩
    iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

end Cert.InProjIdeal.Hand
-- ==== Proof.InProj.Run.lean ====
module

public import proofs.«01_k».proof.Proof.InProj.Steps
public import proofs.«01_k».proof.Proof.Gen.InProjIdeal.Launch
public import Idealize.ShloMosaic.Lib.Pipeline.DatRel
public import Idealize.ShloMosaic.Lib.Pipeline.ArrRel
public import proofs.«01_k».proof.Proof.Gen.InProjIdeal.Points
public import proofs.«01_k».proof.Proof.Gen.InProjIdeal.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch after `n` points, and the core's random-number register. -/
def carried (c : Dev nD) (n : ℕ) : sProp 𝕄 :=
  iprop(scratchAt m c (Memref.whole cc0_scratch0) (Memref.whole cc0_scratch1) n ∗ ∃ r, prngReg c r)

/-- Inputs are left as their blocks; the outputs are held to `leaves` below, and what stands for them here is not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => bw m c t (fun _ => Scalar.ofBits .fp8e4m3 0#8)
    | ⟨3, _⟩ => bws m c t (fun _ => Scalar.ofBits .f32 0#32)
    | ⟨4, _⟩ => iblk m c 4 t
    | ⟨5, _⟩ => iblk m c 5 t
    | ⟨6, _⟩ => iblk m c 6 t
    | ⟨7, _⟩ => iblk m c 7 t
    | ⟨8, _⟩ => aOut m c
    | ⟨9, _⟩ => aRow m c
    | ⟨10, _⟩ => pAt m c t (fun _ => Scalar.ofBits .fp8e4m3 0#8) (fun _ => Scalar.ofBits .f32 0#32)
    | ⟨11, _⟩ => fun _ => Scalar.ofBits .f32 0#32
    | ⟨12, _⟩ => fun _ => Scalar.ofBits .f32 0#32
    | ⟨13, _⟩ => fun _ => Scalar.ofBits .f32 0#32
    | ⟨14, _⟩ => fun _ => Scalar.ofBits .f32 0#32
    | ⟨15, _⟩ => fun _ => Scalar.ofBits .f32 0#32
    | ⟨16, _⟩ => fun _ => Scalar.ofBits .f32 0#32
    | ⟨17, _⟩ => fun _ => Scalar.ofBits .f32 0#32
    | ⟨18, _⟩ => fun _ => Scalar.ofBits .f32 0#32
    | ⟨19, _⟩ => fun _ => Scalar.ofBits .f32 0#32
    | ⟨_ + 20, h⟩ => absurd h (Nat.not_lt.2 (Nat.le_add_left _ _))
  Φ n := carried m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_2 (c : Dev nD) (t : Fin cfg0.N) : (dats m 0 c).after 2 t = bw m c t (fun _ => Scalar.ofBits .fp8e4m3 0#8) := by dsimp only [dats]
theorem after0_3 (c : Dev nD) (t : Fin cfg0.N) : (dats m 0 c).after 3 t = bws m c t (fun _ => Scalar.ofBits .f32 0#32) := by dsimp only [dats]
theorem before0_0 (c : Dev nD) (t : Fin cfg0.N) (d) : (dats m 0 c).before 0 t d = bx m c t :=
  before0_0_of m (dats m 0 c) (A_eq m c 0) (after0_0 m c) t d
theorem before0_1 (c : Dev nD) (t : Fin cfg0.N) (d) : (dats m 0 c).before 1 t d = bn m c t :=
  before0_1_of m (dats m 0 c) (A_eq m c 1) (after0_1 m c) t d
theorem before0_4 (c : Dev nD) (t : Fin cfg0.N) (d) : (dats m 0 c).before 4 t d = bb m c t :=
  before0_4_of m (dats m 0 c) (A_eq m c 4) (after0_4 m c) t d
theorem before0_5 (c : Dev nD) (t : Fin cfg0.N) (d) : (dats m 0 c).before 5 t d = bc m c t :=
  before0_5_of m (dats m 0 c) (A_eq m c 5) (after0_5 m c) t d
theorem before0_6 (c : Dev nD) (t : Fin cfg0.N) (d) : (dats m 0 c).before 6 t d = bd m c t :=
  before0_6_of m (dats m 0 c) (A_eq m c 6) (after0_6 m c) t d
theorem before0_7 (c : Dev nD) (t : Fin cfg0.N) (d) : (dats m 0 c).before 7 t d = ba m c t :=
  before0_7_of m (dats m 0 c) (A_eq m c 7) (after0_7 m c) t d
/-- The weight's buffers are fetched at every point. -/
theorem before0_2 (c : Dev nD) (t : Fin cfg0.N) (d) : (dats m 0 c).before 2 t d = bw m c t d := by
  unfold Dat.before; rw [if_pos (fetch0_2 t)]; rfl
theorem before0_3 (c : Dev nD) (t : Fin cfg0.N) (d) : (dats m 0 c).before 3 t d = bws m c t d := by
  unfold Dat.before; rw [if_pos (fetch0_3 t)]; rfl
theorem refill0_2 (c : Dev nD) (t : Fin cfg0.N) (d) :
    (cfg0.win 2).fill (cfg0.grid.coords t) d ((cfg0.win 2).cut (cfg0.grid.coords t) ((dats m 0 c).after 2 t)) = bw m c t d := by
  rw [after0_2]
  exact congrArg (win0_2.fill (grid0.coords t) d) (win0_2.cut_fill _ _ _)
theorem refill0_3 (c : Dev nD) (t : Fin cfg0.N) (d) :
    (cfg0.win 3).fill (cfg0.grid.coords t) d ((cfg0.win 3).cut (cfg0.grid.coords t) ((dats m 0 c).after 3 t)) = bws m c t d := by
  rw [after0_3]
  exact congrArg (win0_3.fill (grid0.coords t) d) (win0_3.cut_fill _ _ _)

/-- The outputs, whose buffers the body need not leave at one value. -/
def isOut (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => true

/-- What the body leaves in an output's buffer at a point; of the outputs past the projection nothing is said. -/
def leaves (c : Dev nD) (w : Fin cfg0.W) (t : Fin cfg0.N) : ((cfg0.win w).block.Idx → Elt F (cfg0.win w).elt) → Prop := match w with
  | ⟨8, _⟩ => fun X => Ok8 m c (t.val + 1) X
  | ⟨9, _⟩ => fun X => Ok9 m c (t.val + 1) X
  | ⟨10, _⟩ => fun X => Ok10 m c t X
  | _ => fun _ => True

abbrev rdat (c : Dev nD) : Pipeline.RDat τ (Elt F) Unit ℕ (UR sig nD τ) ℕ cfg0 c := (dats m 0 c).toRRel isOut (leaves m c)

/-! ## What the body may find in an output's buffer -/

theorem prev_lt (t : Fin cfg0.N) : t.val - 1 < cfg0.N := Nat.lt_of_le_of_lt (Nat.sub_le _ _) t.isLt

/-- Found after the first point, in a buffer not just written back: what the point before left. -/
theorem leaves_of_finds (c : Dev nD) (w : Fin cfg0.W) (hw : isOut w = true) (t : Fin cfg0.N) (hf : (cfg0.win w).fetch t = false)
    (h0 : t.val ≠ 0) (hfl : ¬ (cfg0.win w).flush ⟨t.val - 1, prev_lt t⟩ = true)
    (X : (cfg0.win w).block.Idx → Elt F (cfg0.win w).elt) (h : (rdat m c).Finds w t X) :
    leaves m c w ⟨t.val - 1, prev_lt t⟩ X :=
  (dats m 0 c).toRRel_leaves hw ((((rdat m c).finds_of_pos hf h0 X).mp h).resolve_left hfl)

theorem find8 (c : Dev nD) (t : Fin cfg0.N) (X : Vec F S248x2048 .fp8e4m3) (h : (rdat m c).Finds 8 t X) : Ok8 m c t.val X := by
  by_cases h0 : t.val = 0
  · exact fun hc => absurd hc (by omega)
  have hlt := lt_of_lt_of_eq t.isLt N_0
  have h' : Ok8 m c (t.val - 1 + 1) X := leaves_of_finds m c 8 rfl t rfl h0 (fun hc => by
    have hd : (t.val - 1) % 17 = 16 := (flush0_8 ⟨t.val - 1, prev_lt t⟩).mp hc
    omega) X h
  rwa [Nat.sub_add_cancel (by omega)] at h'
theorem find9 (c : Dev nD) (t : Fin cfg0.N) (X : Vec F S1x248 .f32) (h : (rdat m c).Finds 9 t X) : Ok9 m c t.val X := by
  by_cases h0 : t.val = 0
  · exact fun hc => absurd hc (by omega)
  have hlt := lt_of_lt_of_eq t.isLt N_0
  have h' : Ok9 m c (t.val - 1 + 1) X := leaves_of_finds m c 9 rfl t rfl h0 (fun hc => by
    have hd : (t.val - 1) % 17 = 16 := (flush0_9 ⟨t.val - 1, prev_lt t⟩).mp hc
    omega) X h
  rwa [Nat.sub_add_cancel (by omega)] at h'

/-! ## The body at any point -/

/-- What the pipeline hands the body at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y)
    ∗ (∃ Y, ⌜(rdat m c).Finds 13 t Y⌝ ∗ owns (c : Thread nD τ) (st0_13 t) fullShare Y)
    ∗ (∃ Y, ⌜(rdat m c).Finds 14 t Y⌝ ∗ owns (c : Thread nD τ) (st0_14 t) fullShare Y)
    ∗ (∃ Y, ⌜(rdat m c).Finds 15 t Y⌝ ∗ owns (c : Thread nD τ) (st0_15 t) fullShare Y)
    ∗ (∃ Y, ⌜(rdat m c).Finds 16 t Y⌝ ∗ owns (c : Thread nD τ) (st0_16 t) fullShare Y)
    ∗ (∃ Y, ⌜(rdat m c).Finds 17 t Y⌝ ∗ owns (c : Thread nD τ) (st0_17 t) fullShare Y)
    ∗ (∃ Y, ⌜(rdat m c).Finds 18 t Y⌝ ∗ owns (c : Thread nD τ) (st0_18 t) fullShare Y)
    ∗ (∃ Y, ⌜(rdat m c).Finds 19 t Y⌝ ∗ owns (c : Thread nD τ) (st0_19 t) fullShare Y))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, ⌜leaves m c 8 t X⌝ ∗ owns (c : Thread nD τ) (st0_8 t) fullShare X)
    ∗ (∃ X, ⌜leaves m c 9 t X⌝ ∗ owns (c : Thread nD τ) (st0_9 t) fullShare X)
    ∗ (∃ X, ⌜leaves m c 10 t X⌝ ∗ owns (c : Thread nD τ) (st0_10 t) fullShare X)
    ∗ (∃ X, ⌜leaves m c 11 t X⌝ ∗ owns (c : Thread nD τ) (st0_11 t) fullShare X)
    ∗ (∃ X, ⌜leaves m c 12 t X⌝ ∗ owns (c : Thread nD τ) (st0_12 t) fullShare X)
    ∗ (∃ X, ⌜leaves m c 13 t X⌝ ∗ owns (c : Thread nD τ) (st0_13 t) fullShare X)
    ∗ (∃ X, ⌜leaves m c 14 t X⌝ ∗ owns (c : Thread nD τ) (st0_14 t) fullShare X)
    ∗ (∃ X, ⌜leaves m c 15 t X⌝ ∗ owns (c : Thread nD τ) (st0_15 t) fullShare X)
    ∗ (∃ X, ⌜leaves m c 16 t X⌝ ∗ owns (c : Thread nD τ) (st0_16 t) fullShare X)
    ∗ (∃ X, ⌜leaves m c 17 t X⌝ ∗ owns (c : Thread nD τ) (st0_17 t) fullShare X)
    ∗ (∃ X, ⌜leaves m c 18 t X⌝ ∗ owns (c : Thread nD τ) (st0_18 t) fullShare X)
    ∗ (∃ X, ⌜leaves m c 19 t X⌝ ∗ owns (c : Thread nD τ) (st0_19 t) fullShare X))

/-- The register and the core's debts, which the body does not touch. -/
def aside (c : Dev nD) (t : Fin cfg0.N) : sProp 𝕄 := iprop((∃ r, prngReg c r) ∗ (dats m 0 c).owesAt () t.castSucc)

theorem found_of_pre (c : Dev nD) (t : Fin cfg0.N) : bodyPre m c t ⊢ found m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (Memref.whole cc0_scratch0) (Memref.whole cc0_scratch1) (aside m c t) := by
  unfold bodyPre found aside
  rw [show (dats m 0 c).Φ t.castSucc = carried m c t.val from rfl]
  unfold carried
  simp only [before0_0, before0_1, before0_2, before0_3, before0_4, before0_5, before0_6, before0_7]
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %E8, H8⟩, ⟨%Y9, %E9, H9⟩, ⟨%Y10, %E10, H10⟩, ⟨%Y11, %E11, H11⟩, ⟨%Y12, %E12, H12⟩, ⟨%Y13, %E13, H13⟩, ⟨%Y14, %E14, H14⟩, ⟨%Y15, %E15, H15⟩, ⟨%Y16, %E16, H16⟩, ⟨%Y17, %E17, H17⟩, ⟨%Y18, %E18, H18⟩, ⟨%Y19, %E19, H19⟩⟩
  isplitl [HP Ho]
  · isplitl [HP]
    · iexact HP
    iexact Ho
  isplitl [HS]
  · iexact HS
  isplitl [H0]
  · iexact H0
  isplitl [H1]
  · iexact H1
  isplitl [H2]
  · iexists d2; iexact H2
  isplitl [H3]
  · iexists d3; iexact H3
  isplitl [H4]
  · iexact H4
  isplitl [H5]
  · iexact H5
  isplitl [H6]
  · iexact H6
  isplitl [H7]
  · iexact H7
  isplitl [H8]
  · iexists Y8
    isplitr
    · ipureintro; exact find8 m c t Y8 E8
    iexact H8
  isplitl [H9]
  · iexists Y9
    isplitr
    · ipureintro; exact find9 m c t Y9 E9
    iexact H9
  isplitl [H10]
  · iexists Y10; iexact H10
  isplitl [H11]
  · iexists Y11; iexact H11
  isplitl [H12]
  · iexists Y12; iexact H12
  isplitl [H13]
  · iexists Y13; iexact H13
  isplitl [H14]
  · iexists Y14; iexact H14
  isplitl [H15]
  · iexists Y15; iexact H15
  isplitl [H16]
  · iexists Y16; iexact H16
  isplitl [H17]
  · iexists Y17; iexact H17
  isplitl [H18]
  · iexists Y18; iexact H18
  iexists Y19; iexact H19

theorem post_of_left (c : Dev nD) (t : Fin cfg0.N) : left m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (Memref.whole cc0_scratch0) (Memref.whole cc0_scratch1) (aside m c t) ⊢ bodyPost m c t := by
  unfold bodyPost left aside
  rw [show (dats m 0 c).Φ t.succ = carried m c (t.val + 1) from rfl,
    show (dats m 0 c).owesAt () t.succ = (dats m 0 c).owesAt () t.castSucc from rfl,
    after0_0, after0_1, after0_4, after0_5, after0_6, after0_7]
  unfold carried
  iintro ⟨⟨HP, Ho⟩, HS, H0, H1, ⟨%d2, H2⟩, ⟨%d3, H3⟩, H4, H5, H6, H7, ⟨%Y8, %E8, H8⟩, ⟨%Y9, %E9, H9⟩, ⟨%Y10, %E10, H10⟩, ⟨%Y11, H11⟩, ⟨%Y12, H12⟩, ⟨%Y13, H13⟩, ⟨%Y14, H14⟩, ⟨%Y15, H15⟩, ⟨%Y16, H16⟩, ⟨%Y17, H17⟩, ⟨%Y18, H18⟩, ⟨%Y19, H19⟩⟩
  isplitl [HP HS]
  · isplitl [HS]
    · iexact HS
    iexact HP
  isplitl [Ho]
  · iexact Ho
  isplitl [H0]
  · iexact H0
  isplitl [H1]
  · iexact H1
  isplitl [H2]
  · iexists d2
    rw [refill0_2]
    iexact H2
  isplitl [H3]
  · iexists d3
    rw [refill0_3]
    iexact H3
  isplitl [H4]
  · iexact H4
  isplitl [H5]
  · iexact H5
  isplitl [H6]
  · iexact H6
  isplitl [H7]
  · iexact H7
  isplitl [H8]
  · iexists Y8
    isplitr
    · ipureintro; exact E8
    iexact H8
  isplitl [H9]
  · iexists Y9
    isplitr
    · ipureintro; exact E9
    iexact H9
  isplitl [H10]
  · iexists Y10
    isplitr
    · ipureintro; exact E10
    iexact H10
  isplitl [H11]
  · iexists Y11
    isplitr
    · ipureintro; exact trivial
    iexact H11
  isplitl [H12]
  · iexists Y12
    isplitr
    · ipureintro; exact trivial
    iexact H12
  isplitl [H13]
  · iexists Y13
    isplitr
    · ipureintro; exact trivial
    iexact H13
  isplitl [H14]
  · iexists Y14
    isplitr
    · ipureintro; exact trivial
    iexact H14
  isplitl [H15]
  · iexists Y15
    isplitr
    · ipureintro; exact trivial
    iexact H15
  isplitl [H16]
  · iexists Y16
    isplitr
    · ipureintro; exact trivial
    iexact H16
  isplitl [H17]
  · iexists Y17
    isplitr
    · ipureintro; exact trivial
    iexact H17
  isplitl [H18]
  · iexists Y18
    isplitr
    · ipureintro; exact trivial
    iexact H18
  iexists Y19
  isplitr
  · ipureintro; exact trivial
  iexact H19

theorem sound_body (c : Dev nD) (t : Fin cfg0.N) :
    bodyPre m c t ⊢ wp frame (wpE (defs₀ (F := F)) Variants.none c none) Set.univ (bodyAt0 t) (fun _ => bodyPost m c t) := by
  have hlt := lt_of_lt_of_eq t.isLt N_0
  refine triple_restated (Q := fun _ => left m c t (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (Memref.whole cc0_scratch0) (Memref.whole cc0_scratch1) (aside m c t)) ?_ rfl (found_of_pre m c t) fun _ => post_of_left m c t
  unfold bodyAt0
  by_cases h0 : t.val = 0
  · exact step_first m c t _ _ _ _ _ _ _ _ _ _ _ _ _ _ _ _ _ _ _ _ _ _ _ _ _ _ _ _ _ _ _ _ _ _ _ _ _ _ _ _ _ _ _ _ (aside m c t) h0
  by_cases h1 : t.val < 6
  · exact step_z m c t _ _ _ _ _ _ _ _ _ _ _ _ _ _ _ _ _ _ _ _ _ _ _ _ _ _ _ _ _ _ _ _ _ _ _ _ _ _ _ _ _ _ _ _ (aside m c t) (by omega) h1
  by_cases h2 : t.val < 12
  · exact step_x m c t _ _ _ _ _ _ _ _ _ _ _ _ _ _ _ _ _ _ _ _ _ _ _ _ _ _ _ _ _ _ _ _ _ _ _ _ _ _ _ _ _ _ _ _ (aside m c t) (by omega) h2
  by_cases h3 : t.val < 14
  · exact step_b m c t _ _ _ _ _ _ _ _ _ _ _ _ _ _ _ _ _ _ _ _ _ _ _ _ _ _ _ _ _ _ _ _ _ _ _ _ _ _ _ _ _ _ _ _ (aside m c t) (by omega) h3
  by_cases h4 : t.val < 16
  · exact step_c m c t _ _ _ _ _ _ _ _ _ _ _ _ _ _ _ _ _ _ _ _ _ _ _ _ _ _ _ _ _ _ _ _ _ _ _ _ _ _ _ _ _ _ _ _ (aside m c t) (by omega) h4
  · exact step_rest m c t _ _ _ _ _ _ _ _ _ _ _ _ _ _ _ _ _ _ _ _ _ _ _ _ _ _ _ _ _ _ _ _ _ _ _ _ _ _ _ _ _ _ _ _ (aside m c t) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ isOut (leaves m c) := fun t => by
  rw [bigSep_W0, bigSep_W0, defs₀_row]
  exact triple_restated (sound_body m c t) rfl .rfl fun _ => .rfl

/-! ## The run -/

/-- Before the first point the scratch holds anything; -/
theorem carried_of_any (c : Dev nD) : Pipeline.ΦA spec0 c ⊢ carried m c 0 := by
  unfold carried scratchAt Pipeline.ΦA
  rw [scopedRest0_eq]
  simp only [own, owns_whole]
  iintro ⟨⟨⟨%a, Ha⟩, ⟨%s, Hs⟩⟩, HP⟩
  isplitr [HP]
  · iexists a, s
    isplitr
    · ipureintro
      exact fun hc => absurd hc (by omega)
    isplitl [Ha]
    · iexact Ha
    iexact Hs
  iexact HP

/-- after the last its contents are forgotten. -/
theorem any_of_carried (c : Dev nD) (n : ℕ) : carried m c n ⊢ Pipeline.ΦA spec0 c := by
  unfold carried scratchAt Pipeline.ΦA
  rw [scopedRest0_eq]
  simp only [own, owns_whole]
  iintro ⟨⟨%a, %s, %has, Ha, Hs⟩, HP⟩
  isplitr [HP]
  · isplitl [Ha]
    · iexists a; iexact Ha
    iexists s; iexact Hs
  iexact HP

set_option backward.isDefEq.respectTransparency.types false in
set_option maxHeartbeats 800000 in
/-- Every run of the program ends with every array at contents the relational data allow, the other buffers as the region found
    them, and every counter at zero. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => carried_of_any m c) (hout := fun c => any_of_carried m c _) (hQ' := fun _ h => h)

end Cert.InProjIdeal.Hand
-- ==== Proof.InProj.Final.lean ====
module

public import proofs.«01_k».proof.Proof.InProj.Run
public import proofs.«01_k».proof.Proof.Gen.InProjIdeal.Launch
public import proofs.«01_k».proof.Proof.Gen.InProjIdeal.Points
public import proofs.«01_k».proof.Proof.Gen.InProjIdeal.Skeleton
public import Idealize.ShloMosaic.Lib.Pipeline.FrameBody
public import Idealize.ShloMosaic.Lib.VecWindow
public import Idealize.ShloMosaic.Lib.Pipeline.TableIdle
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final state says of the argument arrays. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

/-- None of them is a window's array. -/
theorem kept_of_post (r : PUnit × MemSt nD τ sig (Elt F)) (h : Pipeline.RDat.FramePost cfg0 (rdat m) (V m) r) (c : Dev nD) : Kept m r c := by
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- Every run ends, its arguments as they were and every counter at zero. -/
theorem frame : θ_run defs (onTc (τ := τ) (main (F := F))) ⟨m, fun _ => 0, ρ⟩ (fun r => (∀ c : Dev nD, Kept m r c) ∧ r.2.sem = fun _ => 0) :=
  (θ_run defs _ _).mono (fun r h => ⟨fun c => kept_of_post m r h.1 c, h.2⟩) (run_main_quiescent m ρ)

end Cert.InProjIdeal.Hand
-- ==== Proof.InProj.Forms.lean ====
module

public import proofs.«01_k».proof.Proof.InProj.Body
public import proofs.«01_k».proof.Proof.Gen.InProjRefIdeal.Skeleton
public import Idealize.ShloMosaic.Lib.ValueIdx
public import Idealize.ShloMosaic.Lib.Pointwise

@[expose] public section

set_option maxRecDepth 16384

noncomputable section

namespace Cert.InProjIdeal.Hand

open Cert.InProjIdeal Cert.InProjIdeal.Gen
open Idealize.ShloMosaic

/-! # The blocks that the kernel computes are the blocks of what the reference computes -/

section Generic
variable {F : FTy → Type} [FloatOps F] (x : Vec F S248x2048 .bf16) (n : Vec F S1x2048 .f32)

theorem scale1_eq : k0_pay10 x n = shapeCast S248x1 (Cert.InProjRefIdeal.Gen.k0_pay4 x n) shapeCasts_S248_S248x1 := rfl
theorem codes_eq : k0_pay11 x n = Cert.InProjRefIdeal.Gen.k0_pay5 x n := by
  unfold k0_pay11
  rw [scale1_eq]
  rfl
theorem codesKept_eq : k0_pay12 x n = Cert.InProjRefIdeal.Gen.k0_pay5 x n := by
  rw [← codes_eq]
  exact shapeCast_self _ _

theorem col_emb (y : S248x1.Idx) : (ix2 (n0 := 248) (n1 := 1) ((Rect.unit (s := S248x128) ![0, 0] ![248, 1] inb_S248x128_S248x1_0_0).emb y 0) 0 : S248x1.Idx) = y := by
  funext a
  match a with
  | ⟨0, _⟩ => exact Fin.ext (by show 0 + 1 * (y 0).val = (y 0).val; omega)
  | ⟨1, _⟩ => exact Fin.ext (by have h : (y 1).val < 1 := (y 1).isLt; show 0 = (y 1).val; omega)
theorem col_scale : col (k0_pay22 (k0_pay13 x n)) = k0_pay10 x n := by
  funext y
  unfold col
  pointwise [k0_pay22, k0_pay13, VecWindow.window]
  exact congrArg _ (col_emb y)
theorem scale_row : k0_pay23 (k0_pay10 x n) = Cert.InProjRefIdeal.Gen.k0_pay1 (Cert.InProjRefIdeal.Gen.k0_pay4 x n) := by
  rw [scale1_eq]
  funext y
  pointwise [k0_pay23, Cert.InProjRefIdeal.Gen.k0_pay1]
end Generic

/-- One entry of a block of the projection, when row `k` of the block of weights is column `J` of the weight, and its
    scale that column's. -/
theorem proj_at (x : Vec Ideal S248x2048 .bf16) (n : Vec Ideal S1x2048 .f32) (w : Vec Ideal S512x2048 .fp8e4m3) (W : Vec Ideal S2048x8416 .fp8e4m3)
    (s : Vec Ideal S1x512 .f32) (S : Vec Ideal S1x8416 .f32) (k : Fin 512) (J : Fin 8416)
    (hw : ∀ q : Fin 2048, w (ix2 k q) = W (ix2 q J)) (hs : s (ix2 0 k) = S (ix2 0 J)) (i : Fin 248) :
    k0_pay25 (Cert.InProjRefIdeal.Gen.k0_pay5 x n) w (shapeCast S248x1 (Cert.InProjRefIdeal.Gen.k0_pay4 x n) shapeCasts_S248_S248x1) s (ix3 i 0 k)
      = Cert.InProjRefIdeal.Gen.k0_pay2 (Cert.InProjRefIdeal.Gen.k0_pay6 x n W S) (ix3 i 0 J) := by
  pointwise [k0_pay25, k0_pay24, Cert.InProjRefIdeal.Gen.k0_pay2, Cert.InProjRefIdeal.Gen.k0_pay6]
  rw [hs]
  simp only [hw]

end Cert.InProjIdeal.Hand
-- ==== Proof.InProj.Reads.lean ====
module

public import proofs.«01_k».proof.Proof.InProj.Forms
public import proofs.«01_k».proof.Proof.InProj.Values
public import Idealize.ShloMosaic.Lib.Pipeline.ValueKit

@[expose] public section

set_option maxRecDepth 16384

noncomputable section

namespace Cert.InProjIdeal.Hand

open Cert.InProjIdeal Cert.InProjIdeal.Gen
open Idealize.ShloMosaic

open Idealize.ShloMosaic.TcCoe
variable (m : (ℓ : Loc nD τ sig) → Buf (Elt Ideal) ℓ) (c : Dev nD)

/-! # The input blocks, read off the arrays the pipeline finds -/

theorem index0_0 : ∀ t : Fin cfg0.N, win0_0.index t = ![0, 0] := by decide +kernel
theorem index0_1 : ∀ t : Fin cfg0.N, win0_1.index t = ![0, 0] := by decide +kernel
theorem index0_2 : ∀ t : Fin cfg0.N, win0_2.index t = ![t.val, 0] := by decide +kernel
theorem index0_3 : ∀ t : Fin cfg0.N, win0_3.index t = ![0, t.val] := by decide +kernel
/-- The last block overhangs its array. -/
theorem size0_2 : ∀ t : Fin cfg0.N, win0_2.xsize (grid0.coords t) = ![min 512 (8416 - 512 * t.val), 2048] := by decide +kernel
theorem size0_3 : ∀ t : Fin cfg0.N, win0_3.xsize (grid0.coords t) = ![1, min 512 (8416 - 512 * t.val)] := by decide +kernel

theorem x_block (t : Fin cfg0.N) : bx m c t = V m c main_v0 := by
  funext y
  have hi := index0_0 t
  unfold bx
  blk_ext [iblk, hi]
theorem n_block (t : Fin cfg0.N) : bn m c t = V m c main_v1 := by
  funext y
  have hi := index0_1 t
  unfold bn
  blk_ext [iblk, hi]

/-- The host transposes the weight for the kernel. -/
theorem w_turned (q : Fin 2048) (J : Fin 8416) :
    (V m c main_v2 : Vec Ideal S8416x2048 .fp8e4m3) (ix2 J q) = (V m c main_arg2 : Vec Ideal S2048x8416 .fp8e4m3) (ix2 q J) := by
  rw [V_main_arg2]
  entry_read
  pointwise

/-- Row `k` of block `t` inside the array, whatever the buffer held before. -/
theorem w_rows (t : Fin cfg0.N) (d : Vec Ideal S512x2048 .fp8e4m3) (k : Fin 512) (J : Fin 8416) (hJ : J.val = 512 * t.val + k.val) (q : Fin 2048) :
    bw m c t d (ix2 k q) = (V m c main_arg2 : Vec Ideal S2048x8416 .fp8e4m3) (ix2 q J) := by
  have hs := size0_2 t
  have hi := index0_2 t
  have hk : k.val < 8416 - 512 * t.val := by have := J.isLt; omega
  have hb : ∀ a : Fin 2, ((ix2 k q : S512x2048.Idx) a).val < win0_2.xsize (grid0.coords t) a := fun a => by
    rw [hs]
    match a with
    | ⟨0, _⟩ => exact lt_min k.isLt hk
    | ⟨1, _⟩ => exact q.isLt
  refine (win0_2.fill_xinj (grid0.coords t) d (iblk m c 2 t) (fun a => ⟨((ix2 k q : S512x2048.Idx) a).val, hb a⟩)).trans ?_
  refine Eq.trans ?_ (w_turned m c q J)
  blk_ext [iblk, hi]
theorem ws_cols (t : Fin cfg0.N) (d : Vec Ideal S1x512 .f32) (k : Fin 512) (J : Fin 8416) (hJ : J.val = 512 * t.val + k.val) :
    bws m c t d (ix2 0 k) = (V m c main_v3 : Vec Ideal S1x8416 .f32) (ix2 0 J) := by
  have hs := size0_3 t
  have hi := index0_3 t
  have hk : k.val < 8416 - 512 * t.val := by have := J.isLt; omega
  have hb : ∀ a : Fin 2, ((ix2 0 k : S1x512.Idx) a).val < win0_3.xsize (grid0.coords t) a := fun a => by
    rw [hs]
    match a with
    | ⟨0, _⟩ => exact Nat.one_pos
    | ⟨1, _⟩ => exact lt_min k.isLt hk
  refine (win0_3.fill_xinj (grid0.coords t) d (iblk m c 3 t) (fun a => ⟨((ix2 0 k : S1x512.Idx) a).val, hb a⟩)).trans ?_
  blk_ext [iblk, hi]

end Cert.InProjIdeal.Hand
-- ==== Proof.InProj.Arrays.lean ====
module

public import proofs.«01_k».proof.Proof.InProj.Reads
public import proofs.«01_k».proof.Proof.InProj.Run
public import proofs.«01_k».proof.Proof.InProj.Values
public import Idealize.ShloMosaic.Lib.Pipeline.ValueKit

@[expose] public section

set_option maxRecDepth 16384

noncomputable section

namespace Cert.InProjIdeal.Hand

open Cert.InProjIdeal Cert.InProjIdeal.Gen
open Idealize.ShloMosaic

open Idealize.ShloMosaic.TcCoe
variable (m : (ℓ : Loc nD τ sig) → Buf (Elt Ideal) ℓ) (c : Dev nD)

/-! # The arrays that the kernel leaves are the reference's -/

/-- The arrays the pipeline finds: the reshaped arguments, and the weight as it was given. -/
def inX : Vec Ideal S248x2048 .bf16 := V m c main_v0
def inN : Vec Ideal S1x2048 .f32 := V m c main_v1
def inW : Vec Ideal S2048x8416 .fp8e4m3 := V m c main_arg2
def inWs : Vec Ideal S1x8416 .f32 := V m c main_v3

theorem aCodes_val : aCodes m c = Cert.InProjRefIdeal.Gen.k0_pay5 (inX m c) (inN m c) := by
  unfold aCodes
  rw [x_block, n_block]
  exact codesKept_eq _ _
theorem aOut_val : aOut m c = Cert.InProjRefIdeal.Gen.k0_pay5 (inX m c) (inN m c) := by
  unfold aOut
  rw [x_block, n_block]
  exact codes_eq _ _
theorem aScale_val : col (aScale m c) = shapeCast S248x1 (Cert.InProjRefIdeal.Gen.k0_pay4 (inX m c) (inN m c)) shapeCasts_S248_S248x1 := by
  unfold aScale
  rw [col_scale, x_block, n_block]
  exact scale1_eq _ _
theorem aRow_val : aRow m c = Cert.InProjRefIdeal.Gen.k0_pay1 (Cert.InProjRefIdeal.Gen.k0_pay4 (inX m c) (inN m c)) := by
  unfold aRow
  rw [x_block, n_block]
  exact scale_row _ _
/-- The projected columns inside the array do not depend on what filled the overhanging blocks. -/
theorem pAt_val (t : Fin cfg0.N) (d : Vec Ideal S512x2048 .fp8e4m3) (e : Vec Ideal S1x512 .f32) (i : Fin 248) (k : Fin 512) (J : Fin 8416)
    (hJ : J.val = 512 * t.val + k.val) :
    pAt m c t d e (ix3 i 0 k) = Cert.InProjRefIdeal.Gen.k0_pay2 (Cert.InProjRefIdeal.Gen.k0_pay6 (inX m c) (inN m c) (inW m c) (inWs m c)) (ix3 i 0 J) := by
  unfold pAt
  rw [aCodes_val, aScale_val]
  exact proj_at (inX m c) (inN m c) _ (inW m c) _ (inWs m c) k J (w_rows m c t d k J hJ) (ws_cols m c t e k J hJ) i

theorem oindex0_10 : ∀ t : Fin cfg0.N, win0_10.index t = ![0, 0, t.val] := by decide +kernel
theorem size0_10 : ∀ t : Fin cfg0.N, win0_10.xsize (grid0.coords t) = ![248, 1, min 512 (8416 - 512 * t.val)] := by decide +kernel

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))

include hL

theorem arr8 : ((rdat m c).withAfter after).arrAt 8 cfg0.N = Cert.InProjRefIdeal.Gen.k0_pay5 (inX m c) (inN m c) := by
  refine Pipeline.Dat.arrAt_eq_of_after_last _ 8 (pt 16) (by decide +kernel) _ fun j => ?_
  rw [Pipeline.RDat.withAfter_after]
  have hX : Ok8 m c ((pt 16).val + 1) (after 8 (pt 16)) := (dats m 0 c).toRRel_leaves rfl (hL 8 (pt 16) (by decide +kernel))
  rw [hX (by decide), aOut_val]
  generalize Cert.InProjRefIdeal.Gen.k0_pay5 (inX m c) (inN m c) = G
  refine (cast_eq _ _).trans (congrArg G (funext fun a => ?_))
  match a with
  | ⟨0, _⟩ => rfl
  | ⟨1, _⟩ => rfl
theorem arr9 : ((rdat m c).withAfter after).arrAt 9 cfg0.N = Cert.InProjRefIdeal.Gen.k0_pay1 (Cert.InProjRefIdeal.Gen.k0_pay4 (inX m c) (inN m c)) := by
  refine Pipeline.Dat.arrAt_eq_of_after_last _ 9 (pt 16) (by decide +kernel) _ fun j => ?_
  rw [Pipeline.RDat.withAfter_after]
  have hX : Ok9 m c ((pt 16).val + 1) (after 9 (pt 16)) := (dats m 0 c).toRRel_leaves rfl (hL 9 (pt 16) (by decide +kernel))
  rw [hX (by decide), aRow_val]
  generalize Cert.InProjRefIdeal.Gen.k0_pay1 (Cert.InProjRefIdeal.Gen.k0_pay4 (inX m c) (inN m c)) = G
  refine (cast_eq _ _).trans (congrArg G (funext fun a => ?_))
  match a with
  | ⟨0, _⟩ => rfl
  | ⟨1, _⟩ => rfl
theorem arr10 : ((rdat m c).withAfter after).arrAt 10 cfg0.N = Cert.InProjRefIdeal.Gen.k0_pay2 (Cert.InProjRefIdeal.Gen.k0_pay6 (inX m c) (inN m c) (inW m c) (inWs m c)) := by
  refine Pipeline.Dat.arrAt_eq_of_covers _ 10 _ (by decide +kernel) fun t hf y => ?_
  obtain ⟨d, f, e⟩ : Ok10 m c t (after 10 t) := (dats m 0 c).toRRel_leaves rfl (hL 10 t hf)
  have hs := size0_10 t
  have hi := oindex0_10 t
  have h0 : (y 0).val < 248 := lt_of_lt_of_eq (y 0).isLt (congrFun hs 0)
  have h2 : (y 2).val < min 512 (8416 - 512 * t.val) := lt_of_lt_of_eq (y 2).isLt (congrFun hs 2)
  have hlt : 512 * t.val + (y 2).val < 8416 := by omega
  have key := pAt_val m c t d f ⟨(y 0).val, h0⟩ ⟨(y 2).val, by omega⟩ ⟨512 * t.val + (y 2).val, hlt⟩ rfl
  rw [Pipeline.RDat.withAfter_after]
  refine (congrFun e _).trans ?_
  revert key
  generalize pAt m c t d f = A
  generalize Cert.InProjRefIdeal.Gen.k0_pay2 (Cert.InProjRefIdeal.Gen.k0_pay6 (inX m c) (inN m c) (inW m c) (inWs m c)) = G
  intro key
  refine Eq.trans ?_ (key.trans ?_)
  · blk_ext [hi]
  · blk_ext [hi]

end Cert.InProjIdeal.Hand
-- ==== Proof.InProjRef.Arrays.lean ====
module

public import proofs.«01_k».proof.Proof.Gen.InProjRefIdeal.Frame
public import Idealize.ShloMosaic.Lib.Pipeline.ValueKit

@[expose] public section

set_option maxRecDepth 16384

noncomputable section

namespace Cert.InProjRefIdeal.Hand

open Cert.InProjRefIdeal Cert.InProjRefIdeal.Gen
open Idealize.ShloMosaic
open Idealize.ShloMosaic.TcCoe

/-! # The arrays that the reference leaves -/

variable {F : FTy → Type} [FloatOps F]

/-- The four arrays that the computation reads, in the shapes in which it reads them. -/
structure Ins (F : FTy → Type) where
  x : Vec F S248x2048 .bf16
  nw : Vec F S1x2048 .f32
  w : Vec F S2048x8416 .fp8e4m3
  ws : Vec F S1x8416 .f32

/-- The three results: the codes of the normalised rows, their scales, and the projection. -/
def res4 (I : Ins F) : Vec F S248x2048 .fp8e4m3 := k0_pay5 I.x I.nw
def res5 (I : Ins F) : Vec F S1x248 .f32 := k0_pay1 (k0_pay4 I.x I.nw)
def res6 (I : Ins F) : Vec F S248x1x8416 .f32 := k0_pay2 (k0_pay6 I.x I.nw I.w I.ws)

theorem zero2 : (![0, 0] : Fin 2 → ℕ) = fun _ => 0 := by decide
theorem zero3 : (![0, 0, 0] : Fin 3 → ℕ) = fun _ => 0 := by decide

theorem out4_eq (I : Ins F) : out0_4 I.x I.nw I.w I.ws = res4 I := by
  unfold out0_4 res4
  rw [View.canon_unit_zero (S := S248x2048) zero2]
  simp only [View.ld_unit_zero (S := S248x2048) zero2, View.ld_unit_zero (S := S1x2048) zero2]
theorem out5_eq (I : Ins F) : out0_5 I.x I.nw I.w I.ws = res5 I := by
  unfold out0_5 res5
  rw [View.canon_unit_zero (S := S1x248) zero2]
  simp only [View.ld_unit_zero (S := S248x2048) zero2, View.ld_unit_zero (S := S1x2048) zero2]
theorem out6_eq (I : Ins F) : out0_6 I.x I.nw I.w I.ws = res6 I := by
  unfold out0_6 res6
  rw [View.canon_unit_zero (S := S248x1x8416) zero3]
  simp only [View.ld_unit_zero (S := S248x2048) zero2, View.ld_unit_zero (S := S1x2048) zero2,
    View.ld_unit_zero (S := S2048x8416) zero2, View.ld_unit_zero (S := S1x8416) zero2]

variable (m : (ℓ : Loc nD τ sig) → Buf (Elt F) ℓ) (c : Dev nD)

/-- The arrays as the computation finds them: the reshaped arguments, and the weight itself. -/
def ins : Ins F where
  x := V m c main_v0
  nw := V m c main_v1
  w := V m c main_arg2
  ws := V m c main_v2

theorem index0_0 : ∀ t : Fin cfg0.N, win0_0.index t = ![0, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![0, 0] := by decide +kernel
/-- The one block of window 0. -/
def bx : Vec F S248x2048 .bf16 := iblk m c 0 t0_0
theorem bx_eq : bx m c = (ins m c).x := by
  funext y
  have hi := index0_0 t0_0
  unfold bx ins
  blk_ext [iblk, hi]
/-- The one block of window 1. -/
def bnw : Vec F S1x2048 .f32 := iblk m c 1 t0_0
theorem bnw_eq : bnw m c = (ins m c).nw := by
  funext y
  have hi := index0_1 t0_0
  unfold bnw ins
  blk_ext [iblk, hi]
/-- The one block of window 2. -/
def bw : Vec F S2048x8416 .fp8e4m3 := iblk m c 2 t0_0
theorem bw_eq : bw m c = (ins m c).w := by
  funext y
  have hi := index0_2 t0_0
  unfold bw ins
  blk_ext [iblk, hi]
/-- The one block of window 3. -/
def bws : Vec F S1x8416 .f32 := iblk m c 3 t0_0
theorem bws_eq : bws m c = (ins m c).ws := by
  funext y
  have hi := index0_3 t0_0
  unfold bws ins
  blk_ext [iblk, hi]
/-- The blocks, gathered. -/
def blks : Ins F := ⟨bx m c, bnw m c, bw m c, bws m c⟩
theorem blocks : blks m c = ins m c := by
  unfold blks
  rw [bx_eq, bnw_eq, bw_eq, bws_eq]
theorem left4 : (dats m 0 c).after 4 t0_0 = res4 (ins m c) :=
  (after0_4 m c t0_0).trans ((out4_eq (blks m c)).trans (congrArg res4 (blocks m c)))
theorem arr4 : (dats m 0 c).arrAt 4 cfg0.N = res4 (ins m c) := by
  refine Pipeline.Dat.arrAt_eq_of_after_last _ 4 t0_0 (by decide +kernel) _ fun j => ?_
  rw [left4]
  generalize res4 (ins m c) = G
  refine (cast_eq _ _).trans (congrArg G (funext fun a => ?_))
  match a with
  | ⟨0, _⟩ => rfl
  | ⟨1, _⟩ => rfl
theorem left5 : (dats m 0 c).after 5 t0_0 = res5 (ins m c) :=
  (after0_5 m c t0_0).trans ((out5_eq (blks m c)).trans (congrArg res5 (blocks m c)))
theorem arr5 : (dats m 0 c).arrAt 5 cfg0.N = res5 (ins m c) := by
  refine Pipeline.Dat.arrAt_eq_of_after_last _ 5 t0_0 (by decide +kernel) _ fun j => ?_
  rw [left5]
  generalize res5 (ins m c) = G
  refine (cast_eq _ _).trans (congrArg G (funext fun a => ?_))
  match a with
  | ⟨0, _⟩ => rfl
  | ⟨1, _⟩ => rfl
theorem left6 : (dats m 0 c).after 6 t0_0 = res6 (ins m c) :=
  (after0_6 m c t0_0).trans ((out6_eq (blks m c)).trans (congrArg res6 (blocks m c)))
theorem arr6 : (dats m 0 c).arrAt 6 cfg0.N = res6 (ins m c) := by
  refine Pipeline.Dat.arrAt_eq_of_after_last _ 6 t0_0 (by decide +kernel) _ fun j => ?_
  rw [left6]
  generalize res6 (ins m c) = G
  refine (cast_eq _ _).trans (congrArg G (funext fun a => ?_))
  match a with
  | ⟨0, _⟩ => rfl
  | ⟨1, _⟩ => rfl
  | ⟨2, _⟩ => rfl

end Cert.InProjRefIdeal.Hand
-- ==== Proof.InProj.Agree.lean ====
module

public import proofs.«01_k».proof.Proof.InProj.Arrays
public import proofs.«01_k».proof.Proof.InProjRef.Arrays
public import Idealize.ShloMosaic.Lib.Claim
public import Idealize.ShloMosaic.Lib.Pipeline.ValueKit

@[expose] public section

set_option maxRecDepth 16384

noncomputable section

namespace Cert.InProjIdeal.Hand

open Cert.InProjIdeal Cert.InProjIdeal.Gen
open Idealize.ShloMosaic Idealize.ShloMosaic.TcCoe

/-! # Equal arguments give the two programs the same arrays to read -/

variable (m : (ℓ : Loc nD τ sig) → Buf (Elt Ideal) ℓ) (m' : (ℓ : Loc Cert.InProjRefIdeal.nD Cert.InProjRefIdeal.τ Cert.InProjRefIdeal.sig) → Buf (Elt Ideal) ℓ) (c : Dev nD)

theorem same_x (h : m' ((c.tc : Thread Cert.InProjRefIdeal.nD Cert.InProjRefIdeal.τ).loc Cert.InProjRefIdeal.main_arg0) = m ((c.tc : Thread nD τ).loc main_arg0)) :
    Cert.InProjRefIdeal.Gen.V m' c Cert.InProjRefIdeal.main_v0 = inX m c := by
  unfold inX
  entry_read
  rw [h]
  rfl
theorem same_n (h : m' ((c.tc : Thread Cert.InProjRefIdeal.nD Cert.InProjRefIdeal.τ).loc Cert.InProjRefIdeal.main_arg1) = m ((c.tc : Thread nD τ).loc main_arg1)) :
    Cert.InProjRefIdeal.Gen.V m' c Cert.InProjRefIdeal.main_v1 = inN m c := by
  unfold inN
  entry_read
  rw [h]
  rfl
theorem same_w (h : m' ((c.tc : Thread Cert.InProjRefIdeal.nD Cert.InProjRefIdeal.τ).loc Cert.InProjRefIdeal.main_arg2) = m ((c.tc : Thread nD τ).loc main_arg2)) :
    Cert.InProjRefIdeal.Gen.V m' c Cert.InProjRefIdeal.main_arg2 = inW m c := by
  unfold inW
  exact (Cert.InProjRefIdeal.Gen.V_main_arg2 m' c).trans (h.trans (V_main_arg2 m c).symm)
theorem same_ws (h : m' ((c.tc : Thread Cert.InProjRefIdeal.nD Cert.InProjRefIdeal.τ).loc Cert.InProjRefIdeal.main_arg3) = m ((c.tc : Thread nD τ).loc main_arg3)) :
    Cert.InProjRefIdeal.Gen.V m' c Cert.InProjRefIdeal.main_v2 = inWs m c := by
  unfold inWs
  entry_read
  rw [h]
  rfl

end Cert.InProjIdeal.Hand
-- ==== Proof.InProj.Results.lean ====
module

public import proofs.«01_k».proof.Proof.InProj.Arrays
public import proofs.«01_k».proof.Proof.InProj.Final
public import proofs.«01_k».proof.Proof.InProjRef.Arrays

@[expose] public section

set_option maxRecDepth 16384

noncomputable section

namespace Cert.InProjIdeal.Hand

open Cert.InProjIdeal Cert.InProjIdeal.Gen
open Idealize.ShloMosaic Idealize.ShloMosaic.TcCoe
open Idealize.SL.Sem

/-! # What a run of the kernel leaves, as the reference's function of the arguments -/

variable (m : (ℓ : Loc nD τ sig) → Buf (Elt Ideal) ℓ) (c : Dev nD) (ρ : Dev nD → PrngReg)

/-- The arrays that the kernel finds, gathered, the weight as it was given. -/
def ins : Cert.InProjRefIdeal.Hand.Ins Ideal := ⟨inX m c, inN m c, inW m c, inWs m c⟩

theorem spec8 : Cert.InProjRefIdeal.Gen.k0_pay5 (inX m c) (inN m c) = Cert.InProjRefIdeal.Hand.res4 (ins m c) := rfl
theorem spec9 : Cert.InProjRefIdeal.Gen.k0_pay1 (Cert.InProjRefIdeal.Gen.k0_pay4 (inX m c) (inN m c)) = Cert.InProjRefIdeal.Hand.res5 (ins m c) := rfl
theorem spec10 : Cert.InProjRefIdeal.Gen.k0_pay2 (Cert.InProjRefIdeal.Gen.k0_pay6 (inX m c) (inN m c) (inW m c) (inWs m c)) = Cert.InProjRefIdeal.Hand.res6 (ins m c) := rfl

/-- What a final state says of the result arrays, when the arrays read are `I`. -/
def Results (I : Cert.InProjRefIdeal.Hand.Ins Ideal) (r : PUnit × MemSt nD τ sig (Elt Ideal)) (c : Dev nD) : Prop :=
  r.2.mem ((c.tc : Thread nD τ).loc main_v8_0) = Cert.InProjRefIdeal.Hand.res4 I
  ∧ r.2.mem ((c.tc : Thread nD τ).loc main_v8_1) = Cert.InProjRefIdeal.Hand.res5 I
  ∧ r.2.mem ((c.tc : Thread nD τ).loc main_v8_2) = Cert.InProjRefIdeal.Hand.res6 I

theorem result8 (r : PUnit × MemSt nD τ sig (Elt Ideal)) (h : Pipeline.RDat.FramePost cfg0 (rdat m) (V m) r) (c : Dev nD) :
    r.2.mem ((c.tc : Thread nD τ).loc main_v8_0) = Cert.InProjRefIdeal.Hand.res4 (ins m c) := by
  obtain ⟨after, hL, hA⟩ := h.exists_exact c
  exact (hA 8).trans ((arr8 m c after hL).trans (spec8 m c))
theorem result9 (r : PUnit × MemSt nD τ sig (Elt Ideal)) (h : Pipeline.RDat.FramePost cfg0 (rdat m) (V m) r) (c : Dev nD) :
    r.2.mem ((c.tc : Thread nD τ).loc main_v8_1) = Cert.InProjRefIdeal.Hand.res5 (ins m c) := by
  obtain ⟨after, hL, hA⟩ := h.exists_exact c
  exact (hA 9).trans ((arr9 m c after hL).trans (spec9 m c))
theorem result10 (r : PUnit × MemSt nD τ sig (Elt Ideal)) (h : Pipeline.RDat.FramePost cfg0 (rdat m) (V m) r) (c : Dev nD) :
    r.2.mem ((c.tc : Thread nD τ).loc main_v8_2) = Cert.InProjRefIdeal.Hand.res6 (ins m c) := by
  obtain ⟨after, hL, hA⟩ := h.exists_exact c
  exact (hA 10).trans ((arr10 m c after hL).trans (spec10 m c))

theorem results_of_post (r : PUnit × MemSt nD τ sig (Elt Ideal)) (h : Pipeline.RDat.FramePost cfg0 (rdat m) (V m) r) (c : Dev nD) :
    Results (ins m c) r c :=
  ⟨result8 m r h c, result9 m r h c, result10 m r h c⟩

/-- Every run ends with the reference's values in the result arrays, its arguments as they were. -/
theorem values : θ_run defs (onTc (τ := τ) (main (F := Ideal))) ⟨m, fun _ => 0, ρ⟩ (fun r => ∀ c : Dev nD, Results (ins m c) r c ∧ Kept m r c) :=
  (θ_run defs _ _).mono (fun r h c => ⟨results_of_post m r h.1 c, kept_of_post m r h.1 c⟩) (run_main_quiescent m ρ)

end Cert.InProjIdeal.Hand
-- ==== Proof.InProjRef.Results.lean ====
module

public import proofs.«01_k».proof.Proof.InProjRef.Arrays

@[expose] public section

set_option maxRecDepth 16384

noncomputable section

namespace Cert.InProjRefIdeal.Hand

open Cert.InProjRefIdeal Cert.InProjRefIdeal.Gen
open Idealize.ShloMosaic Idealize.ShloMosaic.TcCoe
open Idealize.SL.Sem

/-! # What a run of the reference leaves -/

variable (m : (ℓ : Loc nD τ sig) → Buf (Elt Ideal) ℓ) (c : Dev nD) (ρ : Dev nD → PrngReg)

/-- What a final state says of the result arrays, when the arrays read are `I`. -/
def Results (I : Ins Ideal) (r : PUnit × MemSt nD τ sig (Elt Ideal)) (c : Dev nD) : Prop :=
  r.2.mem ((c.tc : Thread nD τ).loc main_v3_0) = res4 I
  ∧ r.2.mem ((c.tc : Thread nD τ).loc main_v3_1) = res5 I
  ∧ r.2.mem ((c.tc : Thread nD τ).loc main_v3_2) = res6 I

/-- What a final state says of the argument arrays. -/
def Kept (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem results_of_post (r : PUnit × MemSt nD τ sig (Elt Ideal)) (h : Pipeline.FramePost cfgs (dats m) 0 (V m) r) (c : Dev nD) :
    Results (ins m c) r c :=
  ⟨(h.out_eq c 4).trans (arr4 m c), (h.out_eq c 5).trans (arr5 m c), (h.out_eq c 6).trans (arr6 m c)⟩

/-- Every run ends with its values in the result arrays, its arguments as they were. -/
theorem values : θ_run defs (onTc (τ := τ) (main (F := Ideal))) ⟨m, fun _ => 0, ρ⟩ (fun r => ∀ c : Dev nD, Results (ins m c) r c ∧ Kept m r c) :=
  (θ_run defs _ _).mono (fun r h c => ⟨results_of_post m r h.1 c, h.2 c⟩) (θ_run_and (run_main m ρ) (unchanged m ρ))

end Cert.InProjRefIdeal.Hand
-- ==== Proof.InProj.Algebraic.lean ====
module

public import proofs.«01_k».proof.Defs
public import proofs.«01_k».proof.Proof.InProj.Agree
public import proofs.«01_k».proof.Proof.InProj.Results
public import proofs.«01_k».proof.Proof.InProjRef.Results

@[expose] public section

set_option maxRecDepth 16384

noncomputable section

namespace Cert.InProjIdeal.Hand

open Cert.InProjIdeal Cert.InProjIdeal.Gen
open Idealize.ShloMosaic Idealize.ShloMosaic.TcCoe
open Idealize.SL.Sem

/-! # The kernel and the reference compute the same over the reals -/

/-- One function of the arguments gives both programs' three results. -/
theorem algebraic : Cert.algebraic_InProjIdeal_InProjRefIdeal (hInProjIdeal := Cert.InProjIdeal.Gen.facts) (hInProjRefIdeal := Cert.InProjRefIdeal.Gen.facts) := by
  intro m g m' g' _ hag
  have hins : ∀ c : Dev nD, Cert.InProjRefIdeal.Hand.ins m' c = ins m c := fun c => by
    obtain ⟨h0, h1, h2, h3, -⟩ := hag c
    unfold Cert.InProjRefIdeal.Hand.ins ins
    rw [same_x m m' c h0, same_n m m' c h1, same_w m m' c h2, same_ws m m' c h3]
  refine ⟨fun c => Cert.InProjRefIdeal.Hand.res4 (ins m c), fun c => Cert.InProjRefIdeal.Hand.res5 (ins m c), fun c => Cert.InProjRefIdeal.Hand.res6 (ins m c),
    (θ_run _ _ _).mono (fun r h c => ?_) (values m g), (θ_run _ _ _).mono (fun r h c => ?_) (Cert.InProjRefIdeal.Hand.values m' g')⟩
  · obtain ⟨⟨a0, a1, a2⟩, k0, k1, k2, k3, k4, k5, k6, k7⟩ := h c
    exact ⟨a0, a1, a2, k0, k1, k2, k3, k4, k5, k6, k7⟩
  · obtain ⟨⟨a0, a1, a2⟩, k0, k1, k2, k3, k4, k5, k6, k7⟩ := h c
    exact ⟨a0.trans (congrArg Cert.InProjRefIdeal.Hand.res4 (hins c)), a1.trans (congrArg Cert.InProjRefIdeal.Hand.res5 (hins c)), a2.trans (congrArg Cert.InProjRefIdeal.Hand.res6 (hins c)), k0, k1, k2, k3, k4, k5, k6, k7⟩

end Cert.InProjIdeal.Hand
-- ==== Proof.lean ====
module

public import proofs.«01_k».proof.Defs
public import proofs.«01_k».proof.Proof.TailFloat.Final
public import proofs.«01_k».proof.Proof.Tail.Final
public import proofs.«01_k».proof.Proof.Tail.Algebraic
public import proofs.«01_k».proof.Proof.Gen.TailRefIdeal.Frame
public import proofs.«01_k».proof.Proof.InProjFloat.Final
public import proofs.«01_k».proof.Proof.InProj.Final
public import proofs.«01_k».proof.Proof.InProj.Algebraic
public import proofs.«01_k».proof.Proof.Gen.InProjRefIdeal.Frame

@[expose] public section

noncomputable section

namespace Cert.Proof

open Idealize.ShloMosaic Idealize.SL.Sem

/-- The tail at the machine's floats ends with its arguments as they were. -/
theorem frame_float : Cert.quiescent_Tail (hTail := Cert.Tail.Gen.facts) := fun m g _ => Cert.Tail.Hand.frame m g
/-- So does the tail over the reals. -/
theorem frame_ideal : Cert.quiescent_TailIdeal (hTailIdeal := Cert.TailIdeal.Gen.facts) := fun m g _ => Cert.TailIdeal.Hand.frame m g
/-- So does its reference over the reals. -/
theorem frame_ref : Cert.quiescent_TailRefIdeal (hTailRefIdeal := Cert.TailRefIdeal.Gen.facts) := fun m g _ => Cert.TailRefIdeal.Gen.frame m g

/-- The input projection at the machine's floats ends with its arguments as they were. -/
theorem proj_float : Cert.quiescent_InProj (hInProj := Cert.InProj.Gen.facts) := fun m g _ => Cert.InProj.Hand.frame m g
/-- So does the input projection over the reals. -/
theorem proj_ideal : Cert.quiescent_InProjIdeal (hInProjIdeal := Cert.InProjIdeal.Gen.facts) := fun m g _ => Cert.InProjIdeal.Hand.frame m g
/-- So does its reference over the reals. -/
theorem proj_ref : Cert.quiescent_InProjRefIdeal (hInProjRefIdeal := Cert.InProjRefIdeal.Gen.facts) := fun m g _ => Cert.InProjRefIdeal.Gen.frame m g

theorem claim : Cert.Claim :=
  ⟨Cert.Tail.Gen.facts, Cert.TailIdeal.Gen.facts, Cert.TailRefIdeal.Gen.facts,
    Cert.InProj.Gen.facts, Cert.InProjIdeal.Gen.facts, Cert.InProjRefIdeal.Gen.facts,
    frame_float, frame_ideal, frame_ref, proj_float, proj_ideal, proj_ref,
    trivial, Cert.TailIdeal.Hand.algebraic, trivial, Cert.InProjIdeal.Hand.algebraic⟩

end Cert.Proof

end
